-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_packed [hPre_packed : Cert.Pre_packed.Facts] (m : (ℓ : Loc Cert.KernelIdeal.nD Cert.KernelIdeal.τ Cert.KernelIdeal.sig) → Buf (Elt Ideal) ℓ) : Prop :=
  ∀ c : Dev Cert.KernelIdeal.nD,
    (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_packed [hPre_packed : Cert.Pre_packed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_packed [hKernelIdeal : Cert.KernelIdeal.Facts] [hPre_packed : Cert.Pre_packed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_packed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_packed [hReferenceIdeal : Cert.ReferenceIdeal.Facts] [hPre_packed : Cert.Pre_packed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_packed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2e_inv_sqrt_d" .f32 0x3E0293EE#32 (((Real.sqrt 128)⁻¹ * (Real.log 2)⁻¹ : ℝ) : EReal)

def algebraic_KernelIdeal_ReferenceIdeal_pre_packed [hKernelIdeal : Cert.KernelIdeal.Facts] [hReferenceIdeal : Cert.ReferenceIdeal.Facts] [hPre_packed : Cert.Pre_packed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_packed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_packed : Cert.Pre_packed.Facts),
    quiescent_Kernel (hKernel := hKernel)
    ∧ quiescent_KernelIdeal (hKernelIdeal := hKernelIdeal)
    ∧ quiescent_KernelIdeal_pre_packed (hKernelIdeal := hKernelIdeal) (hPre_packed := hPre_packed)
    ∧ quiescent_ReferenceIdeal (hReferenceIdeal := hReferenceIdeal)
    ∧ quiescent_ReferenceIdeal_pre_packed (hReferenceIdeal := hReferenceIdeal) (hPre_packed := hPre_packed)
    ∧ preserves_Kernel_KernelIdeal
    ∧ algebraic_KernelIdeal_ReferenceIdeal_pre_packed (hKernelIdeal := hKernelIdeal) (hReferenceIdeal := hReferenceIdeal) (hPre_packed := hPre_packed)
-- ==== Pre_packed.lean ====
abbrev S4x32x8192x128 : Shape := ⟨4, ![4, 32, 8192, 128]⟩
abbrev S4x32x128x8192 : Shape := ⟨4, ![4, 32, 128, 8192]⟩
abbrev S4x32x8192 : Shape := ⟨3, ![4, 32, 8192]⟩
abbrev S4x32x128 : Shape := ⟨3, ![4, 32, 128]⟩
abbrev S4x8192 : Shape := ⟨2, ![4, 8192]⟩
abbrev S_ : Shape := ⟨0, ![]⟩
abbrev S4x8191 : Shape := ⟨2, ![4, 8191]⟩

class Facts : Prop where
  bcast_S_S4x32x8192 : S_.BroadcastsInDim S4x32x8192 (![] : Fin 0 → Fin S4x32x8192.rank)
  slices_S4x8192_S4x8191_0_1 : S4x8192.Slices ![0, 1] S4x8191
  slices_S4x8192_S4x8191_0_0 : S4x8192.Slices ![0, 0] S4x8191

variable [Facts]

def fn {F : FTy → Type} [FloatOps F] (main_arg0 : FVec F S4x32x8192x128 .fp8e4m3) (main_arg1 : FVec F S4x32x8192x128 .fp8e4m3) (main_arg2 : FVec F S4x32x128x8192 .fp8e4m3) (main_arg3 : FVec F S4x32x8192 .f32) (main_arg4 : FVec F S4x32x8192 .f32) (main_arg5 : FVec F S4x32x128 .f32) (main_arg6 : IVec S4x8192 32) : IVec S4x32x8192 1 × IVec S4x8191 1 :=
  let main_cst : FVec F S_ .f32 := constant S_ .f32 0x00000000#32
  let main_v0 : FVec F S4x32x8192 .f32 := broadcastInDim S4x32x8192 ![] bcast_S_S4x32x8192 main_cst
  let main_v1 : IVec S4x32x8192 1 := cmpf .ogt main_arg3 main_v0
  let main_v2 : IVec S4x8191 32 := (extractStridedSlice S4x8191 ![0, 1] · slices_S4x8192_S4x8191_0_1) main_arg6
  let main_v3 : IVec S4x8191 32 := (extractStridedSlice S4x8191 ![0, 0] · slices_S4x8192_S4x8191_0_0) main_arg6
  let main_v4 : IVec S4x8191 1 := cmpi .sge main_v2 main_v3
  (main_v1, main_v4)
-- ==== Kernel.lean ====
abbrev S4x32x8192x128 : Shape := ⟨4, ![4, 32, 8192, 128]⟩
abbrev S4x32x128x8192 : Shape := ⟨4, ![4, 32, 128, 8192]⟩
abbrev S4x32x8192 : Shape := ⟨3, ![4, 32, 8192]⟩
abbrev S4x32x128 : Shape := ⟨3, ![4, 32, 128]⟩
abbrev S4x8192 : Shape := ⟨2, ![4, 8192]⟩
abbrev S4x8191 : Shape := ⟨2, ![4, 8191]⟩
abbrev S_ : Shape := ⟨0, ![]⟩
abbrev S4x1 : Shape := ⟨2, ![4, 1]⟩
abbrev S8192 : Shape := ⟨1, ![8192]⟩
abbrev S4x32 : Shape := ⟨2, ![4, 32]⟩
abbrev S32 : Shape := ⟨1, ![32]⟩
abbrev S1x32 : Shape := ⟨2, ![1, 32]⟩
abbrev S4x1x8192 : Shape := ⟨3, ![4, 1, 8192]⟩
abbrev S4x8192x4096 : Shape := ⟨3, ![4, 8192, 4096]⟩
abbrev S1x1x8192x128 : Shape := ⟨4, ![1, 1, 8192, 128]⟩
abbrev S1x1x128x8192 : Shape := ⟨4, ![1, 1, 128, 8192]⟩
abbrev S1x8x8192 : Shape := ⟨3, ![1, 8, 8192]⟩
abbrev S1x8x128 : Shape := ⟨3, ![1, 8, 128]⟩
abbrev S1x1x8192 : Shape := ⟨3, ![1, 1, 8192]⟩
abbrev S1x8192x128 : Shape := ⟨3, ![1, 8192, 128]⟩
abbrev S8192x256 : Shape := ⟨2, ![8192, 256]⟩
abbrev S8192x128 : Shape := ⟨2, ![8192, 128]⟩
abbrev S128x256 : Shape := ⟨2, ![128, 256]⟩
abbrev S8x128 : Shape := ⟨2, ![8, 128]⟩
abbrev S128 : Shape := ⟨1, ![128]⟩
abbrev S1x128 : Shape := ⟨2, ![1, 128]⟩
abbrev S128x128 : Shape := ⟨2, ![128, 128]⟩
abbrev S1x1x256x128 : Shape := ⟨4, ![1, 1, 256, 128]⟩
abbrev S256x128 : Shape := ⟨2, ![256, 128]⟩
abbrev S1x8x256 : Shape := ⟨3, ![1, 8, 256]⟩
abbrev S8x256 : Shape := ⟨2, ![8, 256]⟩
abbrev S256 : Shape := ⟨1, ![256]⟩
abbrev S1x256 : Shape := ⟨2, ![1, 256]⟩
abbrev S1x1x256 : Shape := ⟨3, ![1, 1, 256]⟩
abbrev S1x1 : Shape := ⟨2, ![1, 1]⟩
abbrev S256x256 : Shape := ⟨2, ![256, 256]⟩
abbrev S32x8x256 : Shape := ⟨3, ![32, 8, 256]⟩
abbrev S1x1x128x256 : Shape := ⟨4, ![1, 1, 128, 256]⟩
abbrev S1x256x128 : Shape := ⟨3, ![1, 256, 128]⟩

abbrev nBuf : Space → Nat
  | .hbm => 71
  | .vmem => 19
  | .smem => 2
  | _ => 0

abbrev bufTy : (tb : Table) → Fin (tcTables nBuf tb) → BufTy
  | .hbm, ⟨0, _⟩ => ⟨S4x32x8192x128, .fp8e4m3⟩
  | .hbm, ⟨1, _⟩ => ⟨S4x32x8192x128, .fp8e4m3⟩
  | .hbm, ⟨2, _⟩ => ⟨S4x32x128x8192, .fp8e4m3⟩
  | .hbm, ⟨3, _⟩ => ⟨S4x32x8192, .f32⟩
  | .hbm, ⟨4, _⟩ => ⟨S4x32x8192, .f32⟩
  | .hbm, ⟨5, _⟩ => ⟨S4x32x128, .f32⟩
  | .hbm, ⟨6, _⟩ => ⟨S4x8192, .i32⟩
  | .hbm, ⟨7, _⟩ => ⟨S4x8191, .i32⟩
  | .hbm, ⟨8, _⟩ => ⟨S4x8191, .i32⟩
  | .hbm, ⟨9, _⟩ => ⟨S4x8191, .i1⟩
  | .hbm, ⟨10, _⟩ => ⟨S_, .i1⟩
  | .hbm, ⟨11, _⟩ => ⟨S4x1, .i1⟩
  | .hbm, ⟨12, _⟩ => ⟨S4x8192, .i1⟩
  | .hbm, ⟨13, _⟩ => ⟨S8192, .i32⟩
  | .hbm, ⟨14, _⟩ => ⟨S_, .i32⟩
  | .hbm, ⟨15, _⟩ => ⟨S_, .i32⟩
  | .hbm, ⟨16, _⟩ => ⟨S4x8192, .i32⟩
  | .hbm, ⟨17, _⟩ => ⟨S4x8192, .i32⟩
  | .hbm, ⟨18, _⟩ => ⟨S4x8192, .i32⟩
  | .hbm, ⟨19, _⟩ => ⟨S_, .i32⟩
  | .hbm, ⟨20, _⟩ => ⟨S_, .i32⟩
  | .hbm, ⟨21, _⟩ => ⟨S4x8192, .i32⟩
  | .hbm, ⟨22, _⟩ => ⟨S4x32, .i32⟩
  | .hbm, ⟨23, _⟩ => ⟨S_, .i32⟩
  | .hbm, ⟨24, _⟩ => ⟨S_, .i32⟩
  | .hbm, ⟨25, _⟩ => ⟨S4x32, .i32⟩
  | .hbm, ⟨26, _⟩ => ⟨S4x32, .i32⟩
  | .hbm, ⟨27, _⟩ => ⟨S4x32, .i32⟩
  | .hbm, ⟨28, _⟩ => ⟨S_, .i32⟩
  | .hbm, ⟨29, _⟩ => ⟨S4x32, .i32⟩
  | .hbm, ⟨30, _⟩ => ⟨S4x32, .i1⟩
  | .hbm, ⟨31, _⟩ => ⟨S4x32, .i32⟩
  | .hbm, ⟨32, _⟩ => ⟨S4x32, .i32⟩
  | .hbm, ⟨33, _⟩ => ⟨S_, .i32⟩
  | .hbm, ⟨34, _⟩ => ⟨S4x32, .i32⟩
  | .hbm, ⟨35, _⟩ => ⟨S4x32, .i1⟩
  | .hbm, ⟨36, _⟩ => ⟨S4x32, .i1⟩
  | .hbm, ⟨37, _⟩ => ⟨S_, .i32⟩
  | .hbm, ⟨38, _⟩ => ⟨S4x32, .i32⟩
  | .hbm, ⟨39, _⟩ => ⟨S4x32, .i32⟩
  | .hbm, ⟨40, _⟩ => ⟨S4x32, .i32⟩
  | .hbm, ⟨41, _⟩ => ⟨S_, .i32⟩
  | .hbm, ⟨42, _⟩ => ⟨S4x32, .i32⟩
  | .hbm, ⟨43, _⟩ => ⟨S4x32, .i32⟩
  | .hbm, ⟨44, _⟩ => ⟨S_, .i32⟩
  | .hbm, ⟨45, _⟩ => ⟨S4x32, .i32⟩
  | .hbm, ⟨46, _⟩ => ⟨S4x32, .i32⟩
  | .hbm, ⟨47, _⟩ => ⟨S_, .i32⟩
  | .hbm, ⟨48, _⟩ => ⟨S_, .i32⟩
  | .hbm, ⟨49, _⟩ => ⟨S4x32, .i32⟩
  | .hbm, ⟨50, _⟩ => ⟨S4x32, .i32⟩
  | .hbm, ⟨51, _⟩ => ⟨S4x32, .i32⟩
  | .hbm, ⟨52, _⟩ => ⟨S_, .i32⟩
  | .hbm, ⟨53, _⟩ => ⟨S4x32, .i32⟩
  | .hbm, ⟨54, _⟩ => ⟨S4x32, .i1⟩
  | .hbm, ⟨55, _⟩ => ⟨S4x32, .i32⟩
  | .hbm, ⟨56, _⟩ => ⟨S4x32, .i32⟩
  | .hbm, ⟨57, _⟩ => ⟨S_, .i32⟩
  | .hbm, ⟨58, _⟩ => ⟨S4x32, .i32⟩
  | .hbm, ⟨59, _⟩ => ⟨S4x32, .i1⟩
  | .hbm, ⟨60, _⟩ => ⟨S4x32, .i1⟩
  | .hbm, ⟨61, _⟩ => ⟨S_, .i32⟩
  | .hbm, ⟨62, _⟩ => ⟨S4x32, .i32⟩
  | .hbm, ⟨63, _⟩ => ⟨S4x32, .i32⟩
  | .hbm, ⟨64, _⟩ => ⟨S4x32, .i32⟩
  | .hbm, ⟨65, _⟩ => ⟨S32, .i32⟩
  | .hbm, ⟨66, _⟩ => ⟨S1x32, .i32⟩
  | .hbm, ⟨67, _⟩ => ⟨S4x32, .i32⟩
  | .hbm, ⟨68, _⟩ => ⟨S4x32, .i32⟩
  | .hbm, ⟨69, _⟩ => ⟨S4x1x8192, .i32⟩
  | .hbm, ⟨70, _⟩ => ⟨S4x8192x4096, .bf16⟩
  | .local _ .vmem, ⟨0, _⟩ => ⟨S1x1x8192x128, .fp8e4m3⟩
  | .local _ .vmem, ⟨1, _⟩ => ⟨S1x1x8192x128, .fp8e4m3⟩
  | .local _ .vmem, ⟨2, _⟩ => ⟨S1x1x8192x128, .fp8e4m3⟩
  | .local _ .vmem, ⟨3, _⟩ => ⟨S1x1x8192x128, .fp8e4m3⟩
  | .local _ .vmem, ⟨4, _⟩ => ⟨S1x1x128x8192, .fp8e4m3⟩
  | .local _ .vmem, ⟨5, _⟩ => ⟨S1x1x128x8192, .fp8e4m3⟩
  | .local _ .vmem, ⟨6, _⟩ => ⟨S1x8x8192, .f32⟩
  | .local _ .vmem, ⟨7, _⟩ => ⟨S1x8x8192, .f32⟩
  | .local _ .vmem, ⟨8, _⟩ => ⟨S1x8x8192, .f32⟩
  | .local _ .vmem, ⟨9, _⟩ => ⟨S1x8x8192, .f32⟩
  | .local _ .vmem, ⟨10, _⟩ => ⟨S1x8x128, .f32⟩
  | .local _ .vmem, ⟨11, _⟩ => ⟨S1x8x128, .f32⟩
  | .local _ .vmem, ⟨12, _⟩ => ⟨S1x1x8192, .i32⟩
  | .local _ .vmem, ⟨13, _⟩ => ⟨S1x1x8192, .i32⟩
  | .local _ .vmem, ⟨14, _⟩ => ⟨S1x8192x128, .bf16⟩
  | .local _ .vmem, ⟨15, _⟩ => ⟨S1x8192x128, .bf16⟩
  | .local _ .vmem, ⟨16, _⟩ => ⟨S8192x256, .f32⟩
  | .local _ .vmem, ⟨17, _⟩ => ⟨S8192x128, .f32⟩
  | .local _ .vmem, ⟨18, _⟩ => ⟨S128x256, .f32⟩
  | .local _ .smem, ⟨0, _⟩ => ⟨S4x32, .i32⟩
  | .local _ .smem, ⟨1, _⟩ => ⟨S4x32, .i32⟩
  | _, _ => ⟨S4x32x8192x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v6 : Ref sig .tc := ⟨.hbm, 18, rfl⟩
abbrev main_call1_c : Ref sig .tc := ⟨.hbm, 19, rfl⟩
abbrev main_call1_v0 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_call2_v5 : Ref sig .tc := ⟨.hbm, 29, rfl⟩
abbrev main_call2_v6 : Ref sig .tc := ⟨.hbm, 30, rfl⟩
abbrev main_call2_v7 : Ref sig .tc := ⟨.hbm, 31, rfl⟩
abbrev main_call2_v8 : Ref sig .tc := ⟨.hbm, 32, rfl⟩
abbrev main_call2_c : Ref sig .tc := ⟨.hbm, 33, rfl⟩
abbrev main_call2_v9 : Ref sig .tc := ⟨.hbm, 34, rfl⟩
abbrev main_call2_v10 : Ref sig .tc := ⟨.hbm, 35, rfl⟩
abbrev main_call2_v11 : Ref sig .tc := ⟨.hbm, 36, rfl⟩
abbrev main_call2_c_0 : Ref sig .tc := ⟨.hbm, 37, rfl⟩
abbrev main_call2_v12 : Ref sig .tc := ⟨.hbm, 38, rfl⟩
abbrev main_call2_v13 : Ref sig .tc := ⟨.hbm, 39, rfl⟩
abbrev main_v10 : Ref sig .tc := ⟨.hbm, 40, rfl⟩
abbrev main_c_2 : Ref sig .tc := ⟨.hbm, 41, rfl⟩
abbrev main_v11 : Ref sig .tc := ⟨.hbm, 42, rfl⟩
abbrev main_v12 : Ref sig .tc := ⟨.hbm, 43, rfl⟩
abbrev main_c_3 : Ref sig .tc := ⟨.hbm, 44, rfl⟩
abbrev main_v13 : Ref sig .tc := ⟨.hbm, 45, rfl⟩
abbrev main_v14 : Ref sig .tc := ⟨.hbm, 46, rfl⟩
abbrev main_c_4 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_call3_v6 : Ref sig .tc := ⟨.hbm, 54, rfl⟩
abbrev main_call3_v7 : Ref sig .tc := ⟨.hbm, 55, rfl⟩
abbrev main_call3_v8 : Ref sig .tc := ⟨.hbm, 56, rfl⟩
abbrev main_call3_c : Ref sig .tc := ⟨.hbm, 57, rfl⟩
abbrev main_call3_v9 : Ref sig .tc := ⟨.hbm, 58, rfl⟩
abbrev main_call3_v10 : Ref sig .tc := ⟨.hbm, 59, rfl⟩
abbrev main_call3_v11 : Ref sig .tc := ⟨.hbm, 60, rfl⟩
abbrev main_call3_c_0 : Ref sig .tc := ⟨.hbm, 61, rfl⟩
abbrev main_call3_v12 : Ref sig .tc := ⟨.hbm, 62, rfl⟩
abbrev main_call3_v13 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v21 : Ref sig .tc := ⟨.hbm, 69, rfl⟩
abbrev main_v22 : Ref sig .tc := ⟨.hbm, 70, rfl⟩
abbrev main_v9 : Ref sig .tc := ⟨.smem, 0, rfl⟩
abbrev main_v20 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 32], ![false, false]⟩

abbrev pre0 : Pipeline.Prefetch sig := ⟨2, ![main_v9.idx, main_v20.idx], fun | 0 => main_v9.names | 1 => main_v20.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32_3 : BitVec 32 := 0#32
  let c64_i32 : BitVec 32 := 64#32
  let v10 : BitVec 32 := Scalar.addi c0_i32_3 c64_i32
  let c1_i32_4 : BitVec 32 := 1#32
  ⟨c0_i32_3, v10, c1_i32_4⟩
def k0_mult1 (k0_t1 : Fin k0_t1_loop.trips) : BitVec 32 :=
  let c0_i32_3 : BitVec 32 := 0#32
  let c1_i32_4 : BitVec 32 := 1#32
  let arg15 : BitVec 32 := Scf.iv c0_i32_3 c1_i32_4 k0_t1
  let c128_i32 : BitVec 32 := 128#32
  let v25 : BitVec 32 := Scalar.muli arg15 c128_i32
  v25
def k0_off1 (k0_t1 : Fin k0_t1_loop.trips) : Fin 3 → Nat :=
  let c0_12 : Index := 0#32
  let c0_13 : Index := 0#32
  let c0_i32_3 : BitVec 32 := 0#32
  let c1_i32_4 : BitVec 32 := 1#32
  let arg15 : BitVec 32 := Scf.iv c0_i32_3 c1_i32_4 k0_t1
  let c128_i32 : BitVec 32 := 128#32
  let v25 : BitVec 32 := Scalar.muli arg15 c128_i32
  let v26 : BitVec 32 := v25
  let v27 : Index := Scalar.indexCast v26
  ![0, 0, v27.toNat]
def k0_off2 (k0_t1 : Fin k0_t1_loop.trips) : Fin 2 → Nat :=
  let c0_i32_3 : BitVec 32 := 0#32
  let c1_i32_4 : BitVec 32 := 1#32
  let arg15 : BitVec 32 := Scf.iv c0_i32_3 c1_i32_4 k0_t1
  let c128_i32 : BitVec 32 := 128#32
  let v25 : BitVec 32 := Scalar.muli arg15 c128_i32
  let v26 : BitVec 32 := v25
  let v40 : Index := Scalar.indexCast v26
  let c0_16 : Index := 0#32
  ![v40.toNat, 0]
@[reducible] def k0_t2_loop : Scf.Loop 32 :=
  let c0_i32_9 : BitVec 32 := 0#32
  let c32_i32 : BitVec 32 := 32#32
  let v24 : BitVec 32 := Scalar.addi c0_i32_9 c32_i32
  let c1_i32_10 : BitVec 32 := 1#32
  ⟨c0_i32_9, v24, c1_i32_10⟩
def k0_mult2 (k0_t2 : Fin k0_t2_loop.trips) : BitVec 32 :=
  let c0_i32_9 : BitVec 32 := 0#32
  let c1_i32_10 : BitVec 32 := 1#32
  let arg15 : BitVec 32 := Scf.iv c0_i32_9 c1_i32_10 k0_t2
  let c256_i32 : BitVec 32 := 256#32
  let v25 : BitVec 32 := Scalar.muli arg15 c256_i32
  v25
def k0_off3 (k0_t2 : Fin k0_t2_loop.trips) : Fin 4 → Nat :=
  let c0_12 : Index := 0#32
  let c0_13 : Index := 0#32
  let c0_i32_9 : BitVec 32 := 0#32
  let c1_i32_10 : BitVec 32 := 1#32
  let arg15 : BitVec 32 := Scf.iv c0_i32_9 c1_i32_10 k0_t2
  let c256_i32 : BitVec 32 := 256#32
  let v25 : BitVec 32 := Scalar.muli arg15 c256_i32
  let v26 : BitVec 32 := v25
  let v27 : Index := Scalar.indexCast v26
  let c0_14 : Index := 0#32
  ![0, 0, v27.toNat, 0]
def k0_off4 (k0_t2 : Fin k0_t2_loop.trips) : Fin 3 → Nat :=
  let c0_15 : Index := 0#32
  let c0_16 : Index := 0#32
  let c0_i32_9 : BitVec 32 := 0#32
  let c1_i32_10 : BitVec 32 := 1#32
  let arg15 : BitVec 32 := Scf.iv c0_i32_9 c1_i32_10 k0_t2
  let c256_i32 : BitVec 32 := 256#32
  let v25 : BitVec 32 := Scalar.muli arg15 c256_i32
  let v26 : BitVec 32 := v25
  let v30 : Index := Scalar.indexCast v26
  ![0, 0, v30.toNat]
def k0_off5 (k0_t2 : Fin k0_t2_loop.trips) : Fin 3 → Nat :=
  let c0_20 : Index := 0#32
  let c0_21 : Index := 0#32
  let c0_i32_9 : BitVec 32 := 0#32
  let c1_i32_10 : BitVec 32 := 1#32
  let arg15 : BitVec 32 := Scf.iv c0_i32_9 c1_i32_10 k0_t2
  let c256_i32 : BitVec 32 := 256#32
  let v25 : BitVec 32 := Scalar.muli arg15 c256_i32
  let v26 : BitVec 32 := v25
  let v42 : Index := Scalar.indexCast v26
  ![0, 0, v42.toNat]
def k0_off6 (i : grid0.Coords) (k0_t2 : Fin k0_t2_loop.trips) : Fin 2 → Nat :=
  let arg0 : BitVec 32 := BitVec.ofNat 32 (i 0).val
  let v45 : Index := Scalar.indexCast arg0
  let c0_i32_9 : BitVec 32 := 0#32
  let c1_i32_10 : BitVec 32 := 1#32
  let arg15 : BitVec 32 := Scf.iv c0_i32_9 c1_i32_10 k0_t2
  let v46 : Index := Scalar.indexCast arg15
  ![v45.toNat, v46.toNat]
@[reducible] def k0_t3_loop (v47 : BitVec 32) (v50 : BitVec 32) : Scf.Loop 32 :=
  let v52 : BitVec 32 := Scalar.subi v50 v47
  let c1_i32_23 : BitVec 32 := 1#32
  let v54 : BitVec 32 := Scalar.divsi v52 c1_i32_23
  let v55 : BitVec 32 := Scalar.muli v54 c1_i32_23
  let v56 : BitVec 32 := Scalar.addi v47 v55
  let c1_i32_24 : BitVec 32 := 1#32
  ⟨v47, v56, c1_i32_24⟩

def k0_mult3 (v47 : BitVec 32) (v50 : BitVec 32) (k0_t3 : Fin (k0_t3_loop v47 v50).trips) : BitVec 32 :=
  let c1_i32_24 : BitVec 32 := 1#32
  let arg16 : BitVec 32 := Scf.iv v47 c1_i32_24 k0_t3
  let c256_i32_56 : BitVec 32 := 256#32
  let v129 : BitVec 32 := Scalar.muli arg16 c256_i32_56
  v129
def k0_off7 (v47 : BitVec 32) (v50 : BitVec 32) (k0_t3 : Fin (k0_t3_loop v47 v50).trips) : Fin 4 → Nat :=
  let c0_57 : Index := 0#32
  let c0_58 : Index := 0#32
  let c1_i32_24 : BitVec 32 := 1#32
  let arg16 : BitVec 32 := Scf.iv v47 c1_i32_24 k0_t3
  let c256_i32_56 : BitVec 32 := 256#32
  let v129 : BitVec 32 := Scalar.muli arg16 c256_i32_56
  let v130 : BitVec 32 := v129
  let v131 : Index := Scalar.indexCast v130
  let c0_59 : Index := 0#32
  ![0, 0, v131.toNat, 0]
def k0_off8 (v47 : BitVec 32) (v50 : BitVec 32) (k0_t3 : Fin (k0_t3_loop v47 v50).trips) : Fin 2 → Nat :=
  let c1_i32_24 : BitVec 32 := 1#32
  let arg16 : BitVec 32 := Scf.iv v47 c1_i32_24 k0_t3
  let c256_i32_56 : BitVec 32 := 256#32
  let v129 : BitVec 32 := Scalar.muli arg16 c256_i32_56
  let v130 : BitVec 32 := v129
  let v135 : Index := Scalar.indexCast v130
  let c0_61 : Index := 0#32
  ![v135.toNat, 0]
def k0_off9 (v47 : BitVec 32) (v50 : BitVec 32) (k0_t3 : Fin (k0_t3_loop v47 v50).trips) : Fin 2 → Nat :=
  let c1_i32_24 : BitVec 32 := 1#32
  let arg16 : BitVec 32 := Scf.iv v47 c1_i32_24 k0_t3
  let c256_i32_56 : BitVec 32 := 256#32
  let v129 : BitVec 32 := Scalar.muli arg16 c256_i32_56
  let v130 : BitVec 32 := v129
  let v153 : Index := Scalar.indexCast v130
  let c0_65 : Index := 0#32
  ![v153.toNat, 0]
@[reducible] def k0_t4_loop (v47 : BitVec 32) (v50 : BitVec 32) : Scf.Loop 32 :=
  let v52 : BitVec 32 := Scalar.subi v50 v47
  let c1_i32_23 : BitVec 32 := 1#32
  let v54 : BitVec 32 := Scalar.divsi v52 c1_i32_23
  let v55 : BitVec 32 := Scalar.muli v54 c1_i32_23
  let v56 : BitVec 32 := Scalar.addi v47 v55
  let v53 : BitVec 32 := Scalar.addi v47 v52
  let c1_i32_25 : BitVec 32 := 1#32
  ⟨v56, v53, c1_i32_25⟩
def k0_mult4 (v47 : BitVec 32) (v50 : BitVec 32) (k0_t4 : Fin (k0_t4_loop v47 v50).trips) : BitVec 32 :=
  let v52 : BitVec 32 := Scalar.subi v50 v47
  let c1_i32_23 : BitVec 32 := 1#32
  let v54 : BitVec 32 := Scalar.divsi v52 c1_i32_23
  let v55 : BitVec 32 := Scalar.muli v54 c1_i32_23
  let v56 : BitVec 32 := Scalar.addi v47 v55
  let c1_i32_25 : BitVec 32 := 1#32
  let arg16 : BitVec 32 := Scf.iv v56 c1_i32_25 k0_t4
  let c256_i32_56 : BitVec 32 := 256#32
  let v129 : BitVec 32 := Scalar.muli arg16 c256_i32_56
  v129
def k0_off10 (v47 : BitVec 32) (v50 : BitVec 32) (k0_t4 : Fin (k0_t4_loop v47 v50).trips) : Fin 4 → Nat :=
  let c0_57 : Index := 0#32
  let c0_58 : Index := 0#32
  let v52 : BitVec 32 := Scalar.subi v50 v47
  let c1_i32_23 : BitVec 32 := 1#32
  let v54 : BitVec 32 := Scalar.divsi v52 c1_i32_23
  let v55 : BitVec 32 := Scalar.muli v54 c1_i32_23
  let v56 : BitVec 32 := Scalar.addi v47 v55
  let c1_i32_25 : BitVec 32 := 1#32
  let arg16 : BitVec 32 := Scf.iv v56 c1_i32_25 k0_t4
  let c256_i32_56 : BitVec 32 := 256#32
  let v129 : BitVec 32 := Scalar.muli arg16 c256_i32_56
  let v130 : BitVec 32 := v129
  let v131 : Index := Scalar.indexCast v130
  let c0_59 : Index := 0#32
  ![0, 0, v131.toNat, 0]
def k0_off11 (v47 : BitVec 32) (v50 : BitVec 32) (k0_t4 : Fin (k0_t4_loop v47 v50).trips) : Fin 2 → Nat :=
  let v52 : BitVec 32 := Scalar.subi v50 v47
  let c1_i32_23 : BitVec 32 := 1#32
  let v54 : BitVec 32 := Scalar.divsi v52 c1_i32_23
  let v55 : BitVec 32 := Scalar.muli v54 c1_i32_23
  let v56 : BitVec 32 := Scalar.addi v47 v55
  let c1_i32_25 : BitVec 32 := 1#32
  let arg16 : BitVec 32 := Scf.iv v56 c1_i32_25 k0_t4
  let c256_i32_56 : BitVec 32 := 256#32
  let v129 : BitVec 32 := Scalar.muli arg16 c256_i32_56
  let v130 : BitVec 32 := v129
  let v135 : Index := Scalar.indexCast v130
  let c0_61 : Index := 0#32
  ![v135.toNat, 0]
def k0_off12 (v47 : BitVec 32) (v50 : BitVec 32) (k0_t4 : Fin (k0_t4_loop v47 v50).trips) : Fin 2 → Nat :=
  let v52 : BitVec 32 := Scalar.subi v50 v47
  let c1_i32_23 : BitVec 32 := 1#32
  let v54 : BitVec 32 := Scalar.divsi v52 c1_i32_23
  let v55 : BitVec 32 := Scalar.muli v54 c1_i32_23
  let v56 : BitVec 32 := Scalar.addi v47 v55
  let c1_i32_25 : BitVec 32 := 1#32
  let arg16 : BitVec 32 := Scf.iv v56 c1_i32_25 k0_t4
  let c256_i32_56 : BitVec 32 := 256#32
  let v129 : BitVec 32 := Scalar.muli arg16 c256_i32_56
  let v130 : BitVec 32 := v129
  let v153 : Index := Scalar.indexCast v130
  let c0_65 : Index := 0#32
  ![v153.toNat, 0]
@[reducible] def k0_t5_loop (k0_t2 : Fin k0_t2_loop.trips) (v50 : BitVec 32) : Scf.Loop 32 :=
  let c0_i32_9 : BitVec 32 := 0#32
  let c1_i32_10 : BitVec 32 := 1#32
  let arg15 : BitVec 32 := Scf.iv c0_i32_9 c1_i32_10 k0_t2
  let v59 : BitVec 32 := Scalar.subi arg15 v50
  let c1_i32_26 : BitVec 32 := 1#32
  let v61 : BitVec 32 := Scalar.divsi v59 c1_i32_26
  let v62 : BitVec 32 := Scalar.muli v61 c1_i32_26
  let v63 : BitVec 32 := Scalar.addi v50 v62
  let c1_i32_27 : BitVec 32 := 1#32
  ⟨v50, v63, c1_i32_27⟩
def k0_mult5 (k0_t2 : Fin k0_t2_loop.trips) (v50 : BitVec 32) (k0_t5 : Fin (k0_t5_loop k0_t2 v50).trips) : BitVec 32 :=
  let c1_i32_27 : BitVec 32 := 1#32
  let arg16 : BitVec 32 := Scf.iv v50 c1_i32_27 k0_t5
  let c256_i32_56 : BitVec 32 := 256#32
  let v129 : BitVec 32 := Scalar.muli arg16 c256_i32_56
  v129
def k0_off13 (k0_t2 : Fin k0_t2_loop.trips) (v50 : BitVec 32) (k0_t5 : Fin (k0_t5_loop k0_t2 v50).trips) : Fin 4 → Nat :=
  let c0_57 : Index := 0#32
  let c0_58 : Index := 0#32
  let c1_i32_27 : BitVec 32 := 1#32
  let arg16 : BitVec 32 := Scf.iv v50 c1_i32_27 k0_t5
  let c256_i32_56 : BitVec 32 := 256#32
  let v129 : BitVec 32 := Scalar.muli arg16 c256_i32_56
  let v130 : BitVec 32 := v129
  let v131 : Index := Scalar.indexCast v130
  let c0_59 : Index := 0#32
  ![0, 0, v131.toNat, 0]
def k0_off14 (k0_t2 : Fin k0_t2_loop.trips) (v50 : BitVec 32) (k0_t5 : Fin (k0_t5_loop k0_t2 v50).trips) : Fin 2 → Nat :=
  let c1_i32_27 : BitVec 32 := 1#32
  let arg16 : BitVec 32 := Scf.iv v50 c1_i32_27 k0_t5
  let c256_i32_56 : BitVec 32 := 256#32
  let v129 : BitVec 32 := Scalar.muli arg16 c256_i32_56
  let v130 : BitVec 32 := v129
  let v135 : Index := Scalar.indexCast v130
  let c0_61 : Index := 0#32
  ![v135.toNat, 0]
def k0_off15 (k0_t2 : Fin k0_t2_loop.trips) (v50 : BitVec 32) (k0_t5 : Fin (k0_t5_loop k0_t2 v50).trips) : Fin 2 → Nat :=
  let c1_i32_27 : BitVec 32 := 1#32
  let arg16 : BitVec 32 := Scf.iv v50 c1_i32_27 k0_t5
  let c256_i32_56 : BitVec 32 := 256#32
  let v129 : BitVec 32 := Scalar.muli arg16 c256_i32_56
  let v130 : BitVec 32 := v129
  let v139 : Index := Scalar.indexCast v130
  let c0_62 : Index := 0#32
  ![v139.toNat, 0]
@[reducible] def k0_t6_loop (k0_t2 : Fin k0_t2_loop.trips) (v50 : BitVec 32) : Scf.Loop 32 :=
  let c0_i32_9 : BitVec 32 := 0#32
  let c1_i32_10 : BitVec 32 := 1#32
  let arg15 : BitVec 32 := Scf.iv c0_i32_9 c1_i32_10 k0_t2
  let v59 : BitVec 32 := Scalar.subi arg15 v50
  let c1_i32_26 : BitVec 32 := 1#32
  let v61 : BitVec 32 := Scalar.divsi v59 c1_i32_26
  let v62 : BitVec 32 := Scalar.muli v61 c1_i32_26
  let v63 : BitVec 32 := Scalar.addi v50 v62
  let v60 : BitVec 32 := Scalar.addi v50 v59
  let c1_i32_28 : BitVec 32 := 1#32
  ⟨v63, v60, c1_i32_28⟩
def k0_mult6 (k0_t2 : Fin k0_t2_loop.trips) (v50 : BitVec 32) (k0_t6 : Fin (k0_t6_loop k0_t2 v50).trips) : BitVec 32 :=
  let c0_i32_9 : BitVec 32 := 0#32
  let c1_i32_10 : BitVec 32 := 1#32
  let arg15 : BitVec 32 := Scf.iv c0_i32_9 c1_i32_10 k0_t2
  let v59 : BitVec 32 := Scalar.subi arg15 v50
  let c1_i32_26 : BitVec 32 := 1#32
  let v61 : BitVec 32 := Scalar.divsi v59 c1_i32_26
  let v62 : BitVec 32 := Scalar.muli v61 c1_i32_26
  let v63 : BitVec 32 := Scalar.addi v50 v62
  let c1_i32_28 : BitVec 32 := 1#32
  let arg16 : BitVec 32 := Scf.iv v63 c1_i32_28 k0_t6
  let c256_i32_56 : BitVec 32 := 256#32
  let v129 : BitVec 32 := Scalar.muli arg16 c256_i32_56
  v129
def k0_off16 (k0_t2 : Fin k0_t2_loop.trips) (v50 : BitVec 32) (k0_t6 : Fin (k0_t6_loop k0_t2 v50).trips) : Fin 4 → Nat :=
  let c0_57 : Index := 0#32
  let c0_58 : Index := 0#32
  let c0_i32_9 : BitVec 32 := 0#32
  let c1_i32_10 : BitVec 32 := 1#32
  let arg15 : BitVec 32 := Scf.iv c0_i32_9 c1_i32_10 k0_t2
  let v59 : BitVec 32 := Scalar.subi arg15 v50
  let c1_i32_26 : BitVec 32 := 1#32
  let v61 : BitVec 32 := Scalar.divsi v59 c1_i32_26
  let v62 : BitVec 32 := Scalar.muli v61 c1_i32_26
  let v63 : BitVec 32 := Scalar.addi v50 v62
  let c1_i32_28 : BitVec 32 := 1#32
  let arg16 : BitVec 32 := Scf.iv v63 c1_i32_28 k0_t6
  let c256_i32_56 : BitVec 32 := 256#32
  let v129 : BitVec 32 := Scalar.muli arg16 c256_i32_56
  let v130 : BitVec 32 := v129
  let v131 : Index := Scalar.indexCast v130
  let c0_59 : Index := 0#32
  ![0, 0, v131.toNat, 0]
def k0_off17 (k0_t2 : Fin k0_t2_loop.trips) (v50 : BitVec 32) (k0_t6 : Fin (k0_t6_loop k0_t2 v50).trips) : Fin 2 → Nat :=
  let c0_i32_9 : BitVec 32 := 0#32
  let c1_i32_10 : BitVec 32 := 1#32
  let arg15 : BitVec 32 := Scf.iv c0_i32_9 c1_i32_10 k0_t2
  let v59 : BitVec 32 := Scalar.subi arg15 v50
  let c1_i32_26 : BitVec 32 := 1#32
  let v61 : BitVec 32 := Scalar.divsi v59 c1_i32_26
  let v62 : BitVec 32 := Scalar.muli v61 c1_i32_26
  let v63 : BitVec 32 := Scalar.addi v50 v62
  let c1_i32_28 : BitVec 32 := 1#32
  let arg16 : BitVec 32 := Scf.iv v63 c1_i32_28 k0_t6
  let c256_i32_56 : BitVec 32 := 256#32
  let v129 : BitVec 32 := Scalar.muli arg16 c256_i32_56
  let v130 : BitVec 32 := v129
  let v135 : Index := Scalar.indexCast v130
  let c0_61 : Index := 0#32
  ![v135.toNat, 0]
def k0_off18 (k0_t2 : Fin k0_t2_loop.trips) (v50 : BitVec 32) (k0_t6 : Fin (k0_t6_loop k0_t2 v50).trips) : Fin 2 → Nat :=
  let c0_i32_9 : BitVec 32 := 0#32
  let c1_i32_10 : BitVec 32 := 1#32
  let arg15 : BitVec 32 := Scf.iv c0_i32_9 c1_i32_10 k0_t2
  let v59 : BitVec 32 := Scalar.subi arg15 v50
  let c1_i32_26 : BitVec 32 := 1#32
  let v61 : BitVec 32 := Scalar.divsi v59 c1_i32_26
  let v62 : BitVec 32 := Scalar.muli v61 c1_i32_26
  let v63 : BitVec 32 := Scalar.addi v50 v62
  let c1_i32_28 : BitVec 32 := 1#32
  let arg16 : BitVec 32 := Scf.iv v63 c1_i32_28 k0_t6
  let c256_i32_56 : BitVec 32 := 256#32
  let v129 : BitVec 32 := Scalar.muli arg16 c256_i32_56
  let v130 : BitVec 32 := v129
  let v139 : Index := Scalar.indexCast v130
  let c0_62 : Index := 0#32
  ![v139.toNat, 0]

def k0_chk1 (k0_t2 : Fin k0_t2_loop.trips) (v47 : BitVec 32) (v50 : BitVec 32) : Prop :=
  ((k0_t3_loop v47 v50).OK) ∧
  (∀ k0_t3 : Fin (k0_t3_loop v47 v50).trips, 256 ∣ (k0_mult3 v47 v50 k0_t3).toNat) ∧
  (∀ k0_t3 : Fin (k0_t3_loop v47 v50).trips, ∀ a, (k0_off7 v47 v50 k0_t3) a + S1x1x256x128.size a ≤ S1x1x8192x128.size a) ∧
  (∀ k0_t3 : Fin (k0_t3_loop v47 v50).trips, ∀ a, (k0_off8 v47 v50 k0_t3) a + S256x128.size a ≤ S8192x128.size a) ∧
  (∀ k0_t3 : Fin (k0_t3_loop v47 v50).trips, ∀ a, (k0_off9 v47 v50 k0_t3) a + S256x256.size a ≤ S8192x256.size a) ∧
  ((k0_t4_loop v47 v50).OK) ∧
  (∀ k0_t4 : Fin (k0_t4_loop v47 v50).trips, 256 ∣ (k0_mult4 v47 v50 k0_t4).toNat) ∧
  (∀ k0_t4 : Fin (k0_t4_loop v47 v50).trips, ∀ a, (k0_off10 v47 v50 k0_t4) a + S1x1x256x128.size a ≤ S1x1x8192x128.size a) ∧
  (∀ k0_t4 : Fin (k0_t4_loop v47 v50).trips, ∀ a, (k0_off11 v47 v50 k0_t4) a + S256x128.size a ≤ S8192x128.size a) ∧
  (∀ k0_t4 : Fin (k0_t4_loop v47 v50).trips, ∀ a, (k0_off12 v47 v50 k0_t4) a + S256x256.size a ≤ S8192x256.size a) ∧
  ((k0_t5_loop k0_t2 v50).OK) ∧
  (∀ k0_t5 : Fin (k0_t5_loop k0_t2 v50).trips, 256 ∣ (k0_mult5 k0_t2 v50 k0_t5).toNat) ∧
  (∀ k0_t5 : Fin (k0_t5_loop k0_t2 v50).trips, ∀ a, (k0_off13 k0_t2 v50 k0_t5) a + S1x1x256x128.size a ≤ S1x1x8192x128.size a) ∧
  (∀ k0_t5 : Fin (k0_t5_loop k0_t2 v50).trips, ∀ a, (k0_off14 k0_t2 v50 k0_t5) a + S256x128.size a ≤ S8192x128.size a) ∧
  (∀ k0_t5 : Fin (k0_t5_loop k0_t2 v50).trips, ∀ a, (k0_off15 k0_t2 v50 k0_t5) a + S256x256.size a ≤ S8192x256.size a) ∧
  ((k0_t6_loop k0_t2 v50).OK) ∧
  (∀ k0_t6 : Fin (k0_t6_loop k0_t2 v50).trips, 256 ∣ (k0_mult6 k0_t2 v50 k0_t6).toNat) ∧
  (∀ k0_t6 : Fin (k0_t6_loop k0_t2 v50).trips, ∀ a, (k0_off16 k0_t2 v50 k0_t6) a + S1x1x256x128.size a ≤ S1x1x8192x128.size a) ∧
  (∀ k0_t6 : Fin (k0_t6_loop k0_t2 v50).trips, ∀ a, (k0_off17 k0_t2 v50 k0_t6) a + S256x128.size a ≤ S8192x128.size a) ∧
  (∀ k0_t6 : Fin (k0_t6_loop k0_t2 v50).trips, ∀ a, (k0_off18 k0_t2 v50 k0_t6) a + S256x256.size a ≤ S8192x256.size a)
theorem k0_t3_ok : ∀ (k0_t2 : Fin k0_t2_loop.trips) (v47 : BitVec 32) (v50 : BitVec 32) (k0_hw1 : k0_chk1 k0_t2 v47 v50), (k0_t3_loop v47 v50).OK := fun k0_t2 v47 v50 k0_hw1 => k0_hw1.1
theorem k0_mult3_dvd : ∀ (k0_t2 : Fin k0_t2_loop.trips) (v47 : BitVec 32) (v50 : BitVec 32) (k0_hw1 : k0_chk1 k0_t2 v47 v50) (k0_t3 : Fin (k0_t3_loop v47 v50).trips), 256 ∣ (k0_mult3 v47 v50 k0_t3).toNat := fun k0_t2 v47 v50 k0_hw1 k0_t3 => k0_hw1.2.1 k0_t3
theorem k0_off7_inb : ∀ (k0_t2 : Fin k0_t2_loop.trips) (v47 : BitVec 32) (v50 : BitVec 32) (k0_hw1 : k0_chk1 k0_t2 v47 v50) (k0_t3 : Fin (k0_t3_loop v47 v50).trips), ∀ a, (k0_off7 v47 v50 k0_t3) a + S1x1x256x128.size a ≤ S1x1x8192x128.size a := fun k0_t2 v47 v50 k0_hw1 k0_t3 => k0_hw1.2.2.1 k0_t3
theorem k0_off8_inb : ∀ (k0_t2 : Fin k0_t2_loop.trips) (v47 : BitVec 32) (v50 : BitVec 32) (k0_hw1 : k0_chk1 k0_t2 v47 v50) (k0_t3 : Fin (k0_t3_loop v47 v50).trips), ∀ a, (k0_off8 v47 v50 k0_t3) a + S256x128.size a ≤ S8192x128.size a := fun k0_t2 v47 v50 k0_hw1 k0_t3 => k0_hw1.2.2.2.1 k0_t3
theorem k0_off9_inb : ∀ (k0_t2 : Fin k0_t2_loop.trips) (v47 : BitVec 32) (v50 : BitVec 32) (k0_hw1 : k0_chk1 k0_t2 v47 v50) (k0_t3 : Fin (k0_t3_loop v47 v50).trips), ∀ a, (k0_off9 v47 v50 k0_t3) a + S256x256.size a ≤ S8192x256.size a := fun k0_t2 v47 v50 k0_hw1 k0_t3 => k0_hw1.2.2.2.2.1 k0_t3
theorem k0_t4_ok : ∀ (k0_t2 : Fin k0_t2_loop.trips) (v47 : BitVec 32) (v50 : BitVec 32) (k0_hw1 : k0_chk1 k0_t2 v47 v50), (k0_t4_loop v47 v50).OK := fun k0_t2 v47 v50 k0_hw1 => k0_hw1.2.2.2.2.2.1
theorem k0_mult4_dvd : ∀ (k0_t2 : Fin k0_t2_loop.trips) (v47 : BitVec 32) (v50 : BitVec 32) (k0_hw1 : k0_chk1 k0_t2 v47 v50) (k0_t4 : Fin (k0_t4_loop v47 v50).trips), 256 ∣ (k0_mult4 v47 v50 k0_t4).toNat := fun k0_t2 v47 v50 k0_hw1 k0_t4 => k0_hw1.2.2.2.2.2.2.1 k0_t4
theorem k0_off10_inb : ∀ (k0_t2 : Fin k0_t2_loop.trips) (v47 : BitVec 32) (v50 : BitVec 32) (k0_hw1 : k0_chk1 k0_t2 v47 v50) (k0_t4 : Fin (k0_t4_loop v47 v50).trips), ∀ a, (k0_off10 v47 v50 k0_t4) a + S1x1x256x128.size a ≤ S1x1x8192x128.size a := fun k0_t2 v47 v50 k0_hw1 k0_t4 => k0_hw1.2.2.2.2.2.2.2.1 k0_t4
theorem k0_off11_inb : ∀ (k0_t2 : Fin k0_t2_loop.trips) (v47 : BitVec 32) (v50 : BitVec 32) (k0_hw1 : k0_chk1 k0_t2 v47 v50) (k0_t4 : Fin (k0_t4_loop v47 v50).trips), ∀ a, (k0_off11 v47 v50 k0_t4) a + S256x128.size a ≤ S8192x128.size a := fun k0_t2 v47 v50 k0_hw1 k0_t4 => k0_hw1.2.2.2.2.2.2.2.2.1 k0_t4
theorem k0_off12_inb : ∀ (k0_t2 : Fin k0_t2_loop.trips) (v47 : BitVec 32) (v50 : BitVec 32) (k0_hw1 : k0_chk1 k0_t2 v47 v50) (k0_t4 : Fin (k0_t4_loop v47 v50).trips), ∀ a, (k0_off12 v47 v50 k0_t4) a + S256x256.size a ≤ S8192x256.size a := fun k0_t2 v47 v50 k0_hw1 k0_t4 => k0_hw1.2.2.2.2.2.2.2.2.2.1 k0_t4
theorem k0_t5_ok : ∀ (k0_t2 : Fin k0_t2_loop.trips) (v47 : BitVec 32) (v50 : BitVec 32) (k0_hw1 : k0_chk1 k0_t2 v47 v50), (k0_t5_loop k0_t2 v50).OK := fun k0_t2 v47 v50 k0_hw1 => k0_hw1.2.2.2.2.2.2.2.2.2.2.1
theorem k0_mult5_dvd : ∀ (k0_t2 : Fin k0_t2_loop.trips) (v47 : BitVec 32) (v50 : BitVec 32) (k0_hw1 : k0_chk1 k0_t2 v47 v50) (k0_t5 : Fin (k0_t5_loop k0_t2 v50).trips), 256 ∣ (k0_mult5 k0_t2 v50 k0_t5).toNat := fun k0_t2 v47 v50 k0_hw1 k0_t5 => k0_hw1.2.2.2.2.2.2.2.2.2.2.2.1 k0_t5
theorem k0_off13_inb : ∀ (k0_t2 : Fin k0_t2_loop.trips) (v47 : BitVec 32) (v50 : BitVec 32) (k0_hw1 : k0_chk1 k0_t2 v47 v50) (k0_t5 : Fin (k0_t5_loop k0_t2 v50).trips), ∀ a, (k0_off13 k0_t2 v50 k0_t5) a + S1x1x256x128.size a ≤ S1x1x8192x128.size a := fun k0_t2 v47 v50 k0_hw1 k0_t5 => k0_hw1.2.2.2.2.2.2.2.2.2.2.2.2.1 k0_t5
theorem k0_off14_inb : ∀ (k0_t2 : Fin k0_t2_loop.trips) (v47 : BitVec 32) (v50 : BitVec 32) (k0_hw1 : k0_chk1 k0_t2 v47 v50) (k0_t5 : Fin (k0_t5_loop k0_t2 v50).trips), ∀ a, (k0_off14 k0_t2 v50 k0_t5) a + S256x128.size a ≤ S8192x128.size a := fun k0_t2 v47 v50 k0_hw1 k0_t5 => k0_hw1.2.2.2.2.2.2.2.2.2.2.2.2.2.1 k0_t5
theorem k0_off15_inb : ∀ (k0_t2 : Fin k0_t2_loop.trips) (v47 : BitVec 32) (v50 : BitVec 32) (k0_hw1 : k0_chk1 k0_t2 v47 v50) (k0_t5 : Fin (k0_t5_loop k0_t2 v50).trips), ∀ a, (k0_off15 k0_t2 v50 k0_t5) a + S256x256.size a ≤ S8192x256.size a := fun k0_t2 v47 v50 k0_hw1 k0_t5 => k0_hw1.2.2.2.2.2.2.2.2.2.2.2.2.2.2.1 k0_t5
theorem k0_t6_ok : ∀ (k0_t2 : Fin k0_t2_loop.trips) (v47 : BitVec 32) (v50 : BitVec 32) (k0_hw1 : k0_chk1 k0_t2 v47 v50), (k0_t6_loop k0_t2 v50).OK := fun k0_t2 v47 v50 k0_hw1 => k0_hw1.2.2.2.2.2.2.2.2.2.2.2.2.2.2.2.1
theorem k0_mult6_dvd : ∀ (k0_t2 : Fin k0_t2_loop.trips) (v47 : BitVec 32) (v50 : BitVec 32) (k0_hw1 : k0_chk1 k0_t2 v47 v50) (k0_t6 : Fin (k0_t6_loop k0_t2 v50).trips), 256 ∣ (k0_mult6 k0_t2 v50 k0_t6).toNat := fun k0_t2 v47 v50 k0_hw1 k0_t6 => k0_hw1.2.2.2.2.2.2.2.2.2.2.2.2.2.2.2.2.1 k0_t6
theorem k0_off16_inb : ∀ (k0_t2 : Fin k0_t2_loop.trips) (v47 : BitVec 32) (v50 : BitVec 32) (k0_hw1 : k0_chk1 k0_t2 v47 v50) (k0_t6 : Fin (k0_t6_loop k0_t2 v50).trips), ∀ a, (k0_off16 k0_t2 v50 k0_t6) a + S1x1x256x128.size a ≤ S1x1x8192x128.size a := fun k0_t2 v47 v50 k0_hw1 k0_t6 => k0_hw1.2.2.2.2.2.2.2.2.2.2.2.2.2.2.2.2.2.1 k0_t6
theorem k0_off17_inb : ∀ (k0_t2 : Fin k0_t2_loop.trips) (v47 : BitVec 32) (v50 : BitVec 32) (k0_hw1 : k0_chk1 k0_t2 v47 v50) (k0_t6 : Fin (k0_t6_loop k0_t2 v50).trips), ∀ a, (k0_off17 k0_t2 v50 k0_t6) a + S256x128.size a ≤ S8192x128.size a := fun k0_t2 v47 v50 k0_hw1 k0_t6 => k0_hw1.2.2.2.2.2.2.2.2.2.2.2.2.2.2.2.2.2.2.1 k0_t6
theorem k0_off18_inb : ∀ (k0_t2 : Fin k0_t2_loop.trips) (v47 : BitVec 32) (v50 : BitVec 32) (k0_hw1 : k0_chk1 k0_t2 v47 v50) (k0_t6 : Fin (k0_t6_loop k0_t2 v50).trips), ∀ a, (k0_off18 k0_t2 v50 k0_t6) a + S256x256.size a ≤ S8192x256.size a := fun k0_t2 v47 v50 k0_hw1 k0_t6 => k0_hw1.2.2.2.2.2.2.2.2.2.2.2.2.2.2.2.2.2.2.2 k0_t6

def k0_mult7 (k0_t2 : Fin k0_t2_loop.trips) : BitVec 32 :=
  let c0_i32_9 : BitVec 32 := 0#32
  let c1_i32_10 : BitVec 32 := 1#32
  let arg15 : BitVec 32 := Scf.iv c0_i32_9 c1_i32_10 k0_t2
  let c256_i32_29 : BitVec 32 := 256#32
  let v66 : BitVec 32 := Scalar.muli arg15 c256_i32_29
  v66
def k0_off19 (k0_t2 : Fin k0_t2_loop.trips) : Fin 4 → Nat :=
  let c0_30 : Index := 0#32
  let c0_31 : Index := 0#32
  let c0_i32_9 : BitVec 32 := 0#32
  let c1_i32_10 : BitVec 32 := 1#32
  let arg15 : BitVec 32 := Scf.iv c0_i32_9 c1_i32_10 k0_t2
  let c256_i32_29 : BitVec 32 := 256#32
  let v66 : BitVec 32 := Scalar.muli arg15 c256_i32_29
  let v67 : BitVec 32 := v66
  let v68 : Index := Scalar.indexCast v67
  let c0_32 : Index := 0#32
  ![0, 0, v68.toNat, 0]
def k0_off20 (k0_t2 : Fin k0_t2_loop.trips) : Fin 2 → Nat :=
  let c0_i32_9 : BitVec 32 := 0#32
  let c1_i32_10 : BitVec 32 := 1#32
  let arg15 : BitVec 32 := Scf.iv c0_i32_9 c1_i32_10 k0_t2
  let c256_i32_29 : BitVec 32 := 256#32
  let v66 : BitVec 32 := Scalar.muli arg15 c256_i32_29
  let v67 : BitVec 32 := v66
  let v72 : Index := Scalar.indexCast v67
  let c0_34 : Index := 0#32
  ![v72.toNat, 0]
def k0_off21 (k0_t2 : Fin k0_t2_loop.trips) : Fin 2 → Nat :=
  let c0_i32_9 : BitVec 32 := 0#32
  let c1_i32_10 : BitVec 32 := 1#32
  let arg15 : BitVec 32 := Scf.iv c0_i32_9 c1_i32_10 k0_t2
  let c256_i32_29 : BitVec 32 := 256#32
  let v66 : BitVec 32 := Scalar.muli arg15 c256_i32_29
  let v67 : BitVec 32 := v66
  let v90 : Index := Scalar.indexCast v67
  let c0_38 : Index := 0#32
  ![v90.toNat, 0]
@[reducible] def k0_t7_loop (k0_t2 : Fin k0_t2_loop.trips) (v47 : BitVec 32) : Scf.Loop 32 :=
  let c0_i32_9 : BitVec 32 := 0#32
  let c1_i32_10 : BitVec 32 := 1#32
  let arg15 : BitVec 32 := Scf.iv c0_i32_9 c1_i32_10 k0_t2
  let c1_i32_45 : BitVec 32 := 1#32
  let v106 : BitVec 32 := Scalar.addi arg15 c1_i32_45
  let v108 : BitVec 32 := Scalar.subi v106 v47
  let c1_i32_47 : BitVec 32 := 1#32
  let v110 : BitVec 32 := Scalar.divsi v108 c1_i32_47
  let v111 : BitVec 32 := Scalar.muli v110 c1_i32_47
  let v112 : BitVec 32 := Scalar.addi v47 v111
  let c1_i32_48 : BitVec 32 := 1#32
  ⟨v47, v112, c1_i32_48⟩

def k0_mult8 (k0_t2 : Fin k0_t2_loop.trips) (v47 : BitVec 32) (k0_t7 : Fin (k0_t7_loop k0_t2 v47).trips) : BitVec 32 :=
  let c1_i32_48 : BitVec 32 := 1#32
  let arg16 : BitVec 32 := Scf.iv v47 c1_i32_48 k0_t7
  let c256_i32_56 : BitVec 32 := 256#32
  let v129 : BitVec 32 := Scalar.muli arg16 c256_i32_56
  v129
def k0_off22 (k0_t2 : Fin k0_t2_loop.trips) (v47 : BitVec 32) (k0_t7 : Fin (k0_t7_loop k0_t2 v47).trips) : Fin 2 → Nat :=
  let c1_i32_48 : BitVec 32 := 1#32
  let arg16 : BitVec 32 := Scf.iv v47 c1_i32_48 k0_t7
  let c256_i32_56 : BitVec 32 := 256#32
  let v129 : BitVec 32 := Scalar.muli arg16 c256_i32_56
  let v130 : BitVec 32 := v129
  let v131 : Index := Scalar.indexCast v130
  let c0_57 : Index := 0#32
  ![v131.toNat, 0]
def k0_off23 (k0_t2 : Fin k0_t2_loop.trips) (v47 : BitVec 32) (k0_t7 : Fin (k0_t7_loop k0_t2 v47).trips) : Fin 4 → Nat :=
  let c0_60 : Index := 0#32
  let c0_61 : Index := 0#32
  let c0_62 : Index := 0#32
  let c1_i32_48 : BitVec 32 := 1#32
  let arg16 : BitVec 32 := Scf.iv v47 c1_i32_48 k0_t7
  let c256_i32_56 : BitVec 32 := 256#32
  let v129 : BitVec 32 := Scalar.muli arg16 c256_i32_56
  let v130 : BitVec 32 := v129
  let v139 : Index := Scalar.indexCast v130
  ![0, 0, 0, v139.toNat]
@[reducible] def k0_t8_loop (k0_t2 : Fin k0_t2_loop.trips) (v47 : BitVec 32) : Scf.Loop 32 :=
  let c0_i32_9 : BitVec 32 := 0#32
  let c1_i32_10 : BitVec 32 := 1#32
  let arg15 : BitVec 32 := Scf.iv c0_i32_9 c1_i32_10 k0_t2
  let c1_i32_45 : BitVec 32 := 1#32
  let v106 : BitVec 32 := Scalar.addi arg15 c1_i32_45
  let v108 : BitVec 32 := Scalar.subi v106 v47
  let c1_i32_47 : BitVec 32 := 1#32
  let v110 : BitVec 32 := Scalar.divsi v108 c1_i32_47
  let v111 : BitVec 32 := Scalar.muli v110 c1_i32_47
  let v112 : BitVec 32 := Scalar.addi v47 v111
  let v109 : BitVec 32 := Scalar.addi v47 v108
  let c1_i32_49 : BitVec 32 := 1#32
  ⟨v112, v109, c1_i32_49⟩
def k0_mult9 (k0_t2 : Fin k0_t2_loop.trips) (v47 : BitVec 32) (k0_t8 : Fin (k0_t8_loop k0_t2 v47).trips) : BitVec 32 :=
  let c0_i32_9 : BitVec 32 := 0#32
  let c1_i32_10 : BitVec 32 := 1#32
  let arg15 : BitVec 32 := Scf.iv c0_i32_9 c1_i32_10 k0_t2
  let c1_i32_45 : BitVec 32 := 1#32
  let v106 : BitVec 32 := Scalar.addi arg15 c1_i32_45
  let v108 : BitVec 32 := Scalar.subi v106 v47
  let c1_i32_47 : BitVec 32 := 1#32
  let v110 : BitVec 32 := Scalar.divsi v108 c1_i32_47
  let v111 : BitVec 32 := Scalar.muli v110 c1_i32_47
  let v112 : BitVec 32 := Scalar.addi v47 v111
  let c1_i32_49 : BitVec 32 := 1#32
  let arg16 : BitVec 32 := Scf.iv v112 c1_i32_49 k0_t8
  let c256_i32_56 : BitVec 32 := 256#32
  let v129 : BitVec 32 := Scalar.muli arg16 c256_i32_56
  v129
def k0_off24 (k0_t2 : Fin k0_t2_loop.trips) (v47 : BitVec 32) (k0_t8 : Fin (k0_t8_loop k0_t2 v47).trips) : Fin 2 → Nat :=
  let c0_i32_9 : BitVec 32 := 0#32
  let c1_i32_10 : BitVec 32 := 1#32
  let arg15 : BitVec 32 := Scf.iv c0_i32_9 c1_i32_10 k0_t2
  let c1_i32_45 : BitVec 32 := 1#32
  let v106 : BitVec 32 := Scalar.addi arg15 c1_i32_45
  let v108 : BitVec 32 := Scalar.subi v106 v47
  let c1_i32_47 : BitVec 32 := 1#32
  let v110 : BitVec 32 := Scalar.divsi v108 c1_i32_47
  let v111 : BitVec 32 := Scalar.muli v110 c1_i32_47
  let v112 : BitVec 32 := Scalar.addi v47 v111
  let c1_i32_49 : BitVec 32 := 1#32
  let arg16 : BitVec 32 := Scf.iv v112 c1_i32_49 k0_t8
  let c256_i32_56 : BitVec 32 := 256#32
  let v129 : BitVec 32 := Scalar.muli arg16 c256_i32_56
  let v130 : BitVec 32 := v129
  let v131 : Index := Scalar.indexCast v130
  let c0_57 : Index := 0#32
  ![v131.toNat, 0]
def k0_off25 (k0_t2 : Fin k0_t2_loop.trips) (v47 : BitVec 32) (k0_t8 : Fin (k0_t8_loop k0_t2 v47).trips) : Fin 4 → Nat :=
  let c0_60 : Index := 0#32
  let c0_61 : Index := 0#32
  let c0_62 : Index := 0#32
  let c0_i32_9 : BitVec 32 := 0#32
  let c1_i32_10 : BitVec 32 := 1#32
  let arg15 : BitVec 32 := Scf.iv c0_i32_9 c1_i32_10 k0_t2
  let c1_i32_45 : BitVec 32 := 1#32
  let v106 : BitVec 32 := Scalar.addi arg15 c1_i32_45
  let v108 : BitVec 32 := Scalar.subi v106 v47
  let c1_i32_47 : BitVec 32 := 1#32
  let v110 : BitVec 32 := Scalar.divsi v108 c1_i32_47
  let v111 : BitVec 32 := Scalar.muli v110 c1_i32_47
  let v112 : BitVec 32 := Scalar.addi v47 v111
  let c1_i32_49 : BitVec 32 := 1#32
  let arg16 : BitVec 32 := Scf.iv v112 c1_i32_49 k0_t8
  let c256_i32_56 : BitVec 32 := 256#32
  let v129 : BitVec 32 := Scalar.muli arg16 c256_i32_56
  let v130 : BitVec 32 := v129
  let v139 : Index := Scalar.indexCast v130
  ![0, 0, 0, v139.toNat]

def k0_chk2 (k0_t2 : Fin k0_t2_loop.trips) (v47 : BitVec 32) : Prop :=
  ((k0_t7_loop k0_t2 v47).OK) ∧
  (∀ k0_t7 : Fin (k0_t7_loop k0_t2 v47).trips, 256 ∣ (k0_mult8 k0_t2 v47 k0_t7).toNat) ∧
  (∀ k0_t7 : Fin (k0_t7_loop k0_t2 v47).trips, ∀ a, (k0_off22 k0_t2 v47 k0_t7) a + S256x256.size a ≤ S8192x256.size a) ∧
  (∀ k0_t7 : Fin (k0_t7_loop k0_t2 v47).trips, ∀ a, (k0_off23 k0_t2 v47 k0_t7) a + S1x1x128x256.size a ≤ S1x1x128x8192.size a) ∧
  ((k0_t8_loop k0_t2 v47).OK) ∧
  (∀ k0_t8 : Fin (k0_t8_loop k0_t2 v47).trips, 256 ∣ (k0_mult9 k0_t2 v47 k0_t8).toNat) ∧
  (∀ k0_t8 : Fin (k0_t8_loop k0_t2 v47).trips, ∀ a, (k0_off24 k0_t2 v47 k0_t8) a + S256x256.size a ≤ S8192x256.size a) ∧
  (∀ k0_t8 : Fin (k0_t8_loop k0_t2 v47).trips, ∀ a, (k0_off25 k0_t2 v47 k0_t8) a + S1x1x128x256.size a ≤ S1x1x128x8192.size a)
theorem k0_t7_ok : ∀ (k0_t2 : Fin k0_t2_loop.trips) (v47 : BitVec 32) (k0_hw2 : k0_chk2 k0_t2 v47), (k0_t7_loop k0_t2 v47).OK := fun k0_t2 v47 k0_hw2 => k0_hw2.1
theorem k0_mult8_dvd : ∀ (k0_t2 : Fin k0_t2_loop.trips) (v47 : BitVec 32) (k0_hw2 : k0_chk2 k0_t2 v47) (k0_t7 : Fin (k0_t7_loop k0_t2 v47).trips), 256 ∣ (k0_mult8 k0_t2 v47 k0_t7).toNat := fun k0_t2 v47 k0_hw2 k0_t7 => k0_hw2.2.1 k0_t7
theorem k0_off22_inb : ∀ (k0_t2 : Fin k0_t2_loop.trips) (v47 : BitVec 32) (k0_hw2 : k0_chk2 k0_t2 v47) (k0_t7 : Fin (k0_t7_loop k0_t2 v47).trips), ∀ a, (k0_off22 k0_t2 v47 k0_t7) a + S256x256.size a ≤ S8192x256.size a := fun k0_t2 v47 k0_hw2 k0_t7 => k0_hw2.2.2.1 k0_t7
theorem k0_off23_inb : ∀ (k0_t2 : Fin k0_t2_loop.trips) (v47 : BitVec 32) (k0_hw2 : k0_chk2 k0_t2 v47) (k0_t7 : Fin (k0_t7_loop k0_t2 v47).trips), ∀ a, (k0_off23 k0_t2 v47 k0_t7) a + S1x1x128x256.size a ≤ S1x1x128x8192.size a := fun k0_t2 v47 k0_hw2 k0_t7 => k0_hw2.2.2.2.1 k0_t7
theorem k0_t8_ok : ∀ (k0_t2 : Fin k0_t2_loop.trips) (v47 : BitVec 32) (k0_hw2 : k0_chk2 k0_t2 v47), (k0_t8_loop k0_t2 v47).OK := fun k0_t2 v47 k0_hw2 => k0_hw2.2.2.2.2.1
theorem k0_mult9_dvd : ∀ (k0_t2 : Fin k0_t2_loop.trips) (v47 : BitVec 32) (k0_hw2 : k0_chk2 k0_t2 v47) (k0_t8 : Fin (k0_t8_loop k0_t2 v47).trips), 256 ∣ (k0_mult9 k0_t2 v47 k0_t8).toNat := fun k0_t2 v47 k0_hw2 k0_t8 => k0_hw2.2.2.2.2.2.1 k0_t8
theorem k0_off24_inb : ∀ (k0_t2 : Fin k0_t2_loop.trips) (v47 : BitVec 32) (k0_hw2 : k0_chk2 k0_t2 v47) (k0_t8 : Fin (k0_t8_loop k0_t2 v47).trips), ∀ a, (k0_off24 k0_t2 v47 k0_t8) a + S256x256.size a ≤ S8192x256.size a := fun k0_t2 v47 k0_hw2 k0_t8 => k0_hw2.2.2.2.2.2.2.1 k0_t8
theorem k0_off25_inb : ∀ (k0_t2 : Fin k0_t2_loop.trips) (v47 : BitVec 32) (k0_hw2 : k0_chk2 k0_t2 v47) (k0_t8 : Fin (k0_t8_loop k0_t2 v47).trips), ∀ a, (k0_off25 k0_t2 v47 k0_t8) a + S1x1x128x256.size a ≤ S1x1x128x8192.size a := fun k0_t2 v47 k0_hw2 k0_t8 => k0_hw2.2.2.2.2.2.2.2 k0_t8

def k0_off26 (k0_t2 : Fin k0_t2_loop.trips) : Fin 3 → Nat :=
  let c0_54 : Index := 0#32
  let c0_i32_9 : BitVec 32 := 0#32
  let c1_i32_10 : BitVec 32 := 1#32
  let arg15 : BitVec 32 := Scf.iv c0_i32_9 c1_i32_10 k0_t2
  let c256_i32 : BitVec 32 := 256#32
  let v25 : BitVec 32 := Scalar.muli arg15 c256_i32
  let v26 : BitVec 32 := v25
  let v125 : Index := Scalar.indexCast v26
  let c0_55 : Index := 0#32
  ![0, v125.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x8192x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8192x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x8192 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e_inv_sqrt_d" => some (((Real.sqrt 128)⁻¹ * (Real.log 2)⁻¹ : ℝ) : EReal)
  | _ => none
-- ==== ReferenceIdeal.lean ====
abbrev S4x32x8192x128 : Shape := ⟨4, ![4, 32, 8192, 128]⟩
abbrev S4x32x128x8192 : Shape := ⟨4, ![4, 32, 128, 8192]⟩
abbrev S4x32x8192 : Shape := ⟨3, ![4, 32, 8192]⟩
abbrev S4x32x128 : Shape := ⟨3, ![4, 32, 128]⟩
abbrev S4x8192 : Shape := ⟨2, ![4, 8192]⟩
abbrev S4x32x8192x8192 : Shape := ⟨4, ![4, 32, 8192, 8192]⟩
abbrev S4x32x8192x1 : Shape := ⟨4, ![4, 32, 8192, 1]⟩
abbrev S_ : Shape := ⟨0, ![]⟩
abbrev S4x32x1x8192 : Shape := ⟨4, ![4, 32, 1, 8192]⟩
abbrev S8192 : Shape := ⟨1, ![8192]⟩
abbrev S4x8192x1 : Shape := ⟨3, ![4, 8192, 1]⟩
abbrev S4x1x8192 : Shape := ⟨3, ![4, 1, 8192]⟩
abbrev S4x8192x8192 : Shape := ⟨3, ![4, 8192, 8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S4x1x8192x8192 : Shape := ⟨4, ![4, 1, 8192, 8192]⟩
abbrev S4x8192x32x128 : Shape := ⟨4, ![4, 8192, 32, 128]⟩
abbrev S4x8192x32 : Shape := ⟨3, ![4, 8192, 32]⟩
abbrev S4x8192x32x1 : Shape := ⟨4, ![4, 8192, 32, 1]⟩
abbrev S4x1x32x128 : Shape := ⟨4, ![4, 1, 32, 128]⟩
abbrev S4x8192x4096 : Shape := ⟨3, ![4, 8192, 4096]⟩

abbrev nBuf : Space → Nat
  | .hbm => 102
  | .vmem => 6
  | .smem => 0
  | _ => 0

abbrev bufTy : (tb : Table) → Fin (tcTables nBuf tb) → BufTy
  | .hbm, ⟨0, _⟩ => ⟨S4x32x8192x128, .fp8e4m3⟩
  | .hbm, ⟨1, _⟩ => ⟨S4x32x8192x128, .fp8e4m3⟩
  | .hbm, ⟨2, _⟩ => ⟨S4x32x128x8192, .fp8e4m3⟩
  | .hbm, ⟨3, _⟩ => ⟨S4x32x8192, .f32⟩
  | .hbm, ⟨4, _⟩ => ⟨S4x32x8192, .f32⟩
  | .hbm, ⟨5, _⟩ => ⟨S4x32x128, .f32⟩
  | .hbm, ⟨6, _⟩ => ⟨S4x8192, .i32⟩
  | .hbm, ⟨7, _⟩ => ⟨S4x32x8192x128, .f32⟩
  | .hbm, ⟨8, _⟩ => ⟨S4x32x8192x128, .f32⟩
  | .hbm, ⟨9, _⟩ => ⟨S4x32x128x8192, .f32⟩
  | .hbm, ⟨10, _⟩ => ⟨S4x32x8192x8192, .f32⟩
  | .hbm, ⟨11, _⟩ => ⟨S4x32x8192x1, .f32⟩
  | .hbm, ⟨12, _⟩ => ⟨S_, .f32⟩
  | .hbm, ⟨13, _⟩ => ⟨S_, .f32⟩
  | .hbm, ⟨14, _⟩ => ⟨S4x32x8192x1, .f32⟩
  | .hbm, ⟨15, _⟩ => ⟨S4x32x8192x1, .f32⟩
  | .hbm, ⟨16, _⟩ => ⟨S4x32x8192x8192, .f32⟩
  | .hbm, ⟨17, _⟩ => ⟨S4x32x8192x8192, .f32⟩
  | .hbm, ⟨18, _⟩ => ⟨S4x32x1x8192, .f32⟩
  | .hbm, ⟨19, _⟩ => ⟨S4x32x8192x8192, .f32⟩
  | .hbm, ⟨20, _⟩ => ⟨S4x32x8192x8192, .f32⟩
  | .hbm, ⟨21, _⟩ => ⟨S8192, .i32⟩
  | .hbm, ⟨22, _⟩ => ⟨S4x8192x1, .i32⟩
  | .hbm, ⟨23, _⟩ => ⟨S4x1x8192, .i32⟩
  | .hbm, ⟨24, _⟩ => ⟨S4x8192x8192, .i32⟩
  | .hbm, ⟨25, _⟩ => ⟨S4x8192x8192, .i32⟩
  | .hbm, ⟨26, _⟩ => ⟨S4x8192x8192, .i1⟩
  | .hbm, ⟨27, _⟩ => ⟨S1x1x8192, .i32⟩
  | .hbm, ⟨28, _⟩ => ⟨S1x8192x1, .i32⟩
  | .hbm, ⟨29, _⟩ => ⟨S1x8192x8192, .i32⟩
  | .hbm, ⟨30, _⟩ => ⟨S1x8192x8192, .i32⟩
  | .hbm, ⟨31, _⟩ => ⟨S1x8192x8192, .i1⟩
  | .hbm, ⟨32, _⟩ => ⟨S4x8192x8192, .i1⟩
  | .hbm, ⟨33, _⟩ => ⟨S4x8192x8192, .i1⟩
  | .hbm, ⟨34, _⟩ => ⟨S4x1x8192x8192, .i1⟩
  | .hbm, ⟨35, _⟩ => ⟨S_, .f32⟩
  | .hbm, ⟨36, _⟩ => ⟨S_, .f32⟩
  | .hbm, ⟨37, _⟩ => ⟨S4x32x8192x8192, .i1⟩
  | .hbm, ⟨38, _⟩ => ⟨S4x32x8192x8192, .f32⟩
  | .hbm, ⟨39, _⟩ => ⟨S4x32x8192x8192, .f32⟩
  | .hbm, ⟨40, _⟩ => ⟨S_, .f32⟩
  | .hbm, ⟨41, _⟩ => ⟨S4x32x8192, .f32⟩
  | .hbm, ⟨42, _⟩ => ⟨S4x32x8192x1, .f32⟩
  | .hbm, ⟨43, _⟩ => ⟨S4x32x8192x8192, .f32⟩
  | .hbm, ⟨44, _⟩ => ⟨S4x32x8192x8192, .f32⟩
  | .hbm, ⟨45, _⟩ => ⟨S4x32x8192x8192, .f32⟩
  | .hbm, ⟨46, _⟩ => ⟨S_, .f32⟩
  | .hbm, ⟨47, _⟩ => ⟨S4x32x8192, .f32⟩
  | .hbm, ⟨48, _⟩ => ⟨S4x32x8192x8192, .f32⟩
  | .hbm, ⟨49, _⟩ => ⟨S_, .f32⟩
  | .hbm, ⟨50, _⟩ => ⟨S4x32x8192, .f32⟩
  | .hbm, ⟨51, _⟩ => ⟨S4x32x8192x1, .f32⟩
  | .hbm, ⟨52, _⟩ => ⟨S_, .f32⟩
  | .hbm, ⟨53, _⟩ => ⟨S4x32x8192x1, .f32⟩
  | .hbm, ⟨54, _⟩ => ⟨S4x32x8192x1, .f32⟩
  | .hbm, ⟨55, _⟩ => ⟨S4x32x8192x1, .f32⟩
  | .hbm, ⟨56, _⟩ => ⟨S_, .f32⟩
  | .hbm, ⟨57, _⟩ => ⟨S4x32x8192x1, .f32⟩
  | .hbm, ⟨58, _⟩ => ⟨S4x32x8192x1, .f32⟩
  | .hbm, ⟨59, _⟩ => ⟨S4x32x8192x1, .f32⟩
  | .hbm, ⟨60, _⟩ => ⟨S_, .f32⟩
  | .hbm, ⟨61, _⟩ => ⟨S4x32x8192x1, .f32⟩
  | .hbm, ⟨62, _⟩ => ⟨S4x32x8192x1, .f32⟩
  | .hbm, ⟨63, _⟩ => ⟨S_, .f32⟩
  | .hbm, ⟨64, _⟩ => ⟨S4x32x8192x1, .f32⟩
  | .hbm, ⟨65, _⟩ => ⟨S4x32x8192x1, .i1⟩
  | .hbm, ⟨66, _⟩ => ⟨S_, .f32⟩
  | .hbm, ⟨67, _⟩ => ⟨S_, .f32⟩
  | .hbm, ⟨68, _⟩ => ⟨S4x32x8192x1, .f32⟩
  | .hbm, ⟨69, _⟩ => ⟨S4x32x8192x1, .f32⟩
  | .hbm, ⟨70, _⟩ => ⟨S_, .f32⟩
  | .hbm, ⟨71, _⟩ => ⟨S4x32x8192x1, .f32⟩
  | .hbm, ⟨72, _⟩ => ⟨S4x32x8192x1, .f32⟩
  | .hbm, ⟨73, _⟩ => ⟨S4x32x8192x1, .f32⟩
  | .hbm, ⟨74, _⟩ => ⟨S4x32x8192x1, .f32⟩
  | .hbm, ⟨75, _⟩ => ⟨S_, .f32⟩
  | .hbm, ⟨76, _⟩ => ⟨S4x32x8192x1, .f32⟩
  | .hbm, ⟨77, _⟩ => ⟨S4x32x8192x1, .f32⟩
  | .hbm, ⟨78, _⟩ => ⟨S4x32x8192x1, .f32⟩
  | .hbm, ⟨79, _⟩ => ⟨S4x32x8192x8192, .f32⟩
  | .hbm, ⟨80, _⟩ => ⟨S4x32x8192x8192, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S4x32x8192x8192, .f32⟩
  | .hbm, ⟨85, _⟩ => ⟨S4x32x8192x8192, .f32⟩
  | .hbm, ⟨86, _⟩ => ⟨S_, .f32⟩
  | .hbm, ⟨87, _⟩ => ⟨S4x32x8192x8192, .f32⟩
  | .hbm, ⟨88, _⟩ => ⟨S4x32x8192x8192, .f32⟩
  | .hbm, ⟨89, _⟩ => ⟨S4x32x128x8192, .f32⟩
  | .hbm, ⟨90, _⟩ => ⟨S4x8192x32x128, .f32⟩
  | .hbm, ⟨91, _⟩ => ⟨S4x32x8192, .f32⟩
  | .hbm, ⟨92, _⟩ => ⟨S4x32x8192, .f32⟩
  | .hbm, ⟨93, _⟩ => ⟨S4x8192x32, .f32⟩
  | .hbm, ⟨94, _⟩ => ⟨S4x8192x32x1, .f32⟩
  | .hbm, ⟨95, _⟩ => ⟨S4x8192x32x128, .f32⟩
  | .hbm, ⟨96, _⟩ => ⟨S4x8192x32x128, .f32⟩
  | .hbm, ⟨97, _⟩ => ⟨S4x1x32x128, .f32⟩
  | .hbm, ⟨98, _⟩ => ⟨S4x8192x32x128, .f32⟩
  | .hbm, ⟨99, _⟩ => ⟨S4x8192x32x128, .f32⟩
  | .hbm, ⟨100, _⟩ => ⟨S4x8192x32x128, .bf16⟩
  | .hbm, ⟨101, _⟩ => ⟨S4x8192x4096, .bf16⟩
  | .local _ .vmem, ⟨0, _⟩ => ⟨S4x32x8192x128, .fp8e4m3⟩
  | .local _ .vmem, ⟨1, _⟩ => ⟨S4x32x8192x128, .fp8e4m3⟩
  | .local _ .vmem, ⟨2, _⟩ => ⟨S4x32x128x8192, .fp8e4m3⟩
  | .local _ .vmem, ⟨3, _⟩ => ⟨S4x32x8192x128, .f32⟩
  | .local _ .vmem, ⟨4, _⟩ => ⟨S4x32x8192x128, .f32⟩
  | .local _ .vmem, ⟨5, _⟩ => ⟨S4x32x128x8192, .f32⟩
  | _, _ => ⟨S4x32x8192x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_call1_v0 : Ref sig .tc := ⟨.hbm, 67, rfl⟩
abbrev main_call1_v1 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x32x8192x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x32x8192x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x32x128x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x32x8192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x32x8192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x32x128x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelTrip.lean ====
/- One trip of the loop over the blocks of 256 queries, run once at a symbolic trip number, and the invariant of that loop. The trip reads
   the two tables of block numbers and the blocks of the operands, and writes three arrays: the result's block, the scratch array of the
   scores and the accumulator. What it writes is the run's own find, kept as lists of pieces; the values are read off them elsewhere. -/
module

public import proofs.«01_k».proof.Proof.Gen.Kernel.Loops
public import Idealize.ShloMosaic.Lib.Tactic

@[expose] public section

set_option maxRecDepth 8192
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated invariants. -/
local notation "𝕄G" => MT nD τ sig Unit (Elt F) ℕ (UR sig nD τ) ℕ

/-- What one trip owns: the arrays it only reads, each at its contents (of the two tables the half that a launch lends), and the three
    arrays it writes, at any. -/
abbrev Trip_k0_t2 (c : Dev nD) (arg2 : Memref sig .tc .smem S4x32 .i32) (arg3 : Memref sig .tc .smem S4x32 .i32) (arg4 : Memref sig .tc .vmem S1x1x8192x128 .fp8e4m3) (arg5 : Memref sig .tc .vmem S1x1x8192x128 .fp8e4m3) (arg6 : Memref sig .tc .vmem S1x1x128x8192 .fp8e4m3) (arg7 : Memref sig .tc .vmem S1x8x8192 .f32) (arg10 : Memref sig .tc .vmem S1x1x8192 .i32) (arg13 : Memref sig .tc .vmem S8192x128 .f32) (arg11 : Memref sig .tc .vmem S1x8192x128 .bf16) (arg12 : Memref sig .tc .vmem S8192x256 .f32) (arg14 : Memref sig .tc .vmem S128x256 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg10 : BufTy.Contents (Elt F) arg10.view.ty) (X_arg13 : BufTy.Contents (Elt F) arg13.view.ty) (f11 : BufTy.Contents (Elt F) arg11.view.ty) (f12 : BufTy.Contents (Elt F) arg12.view.ty) (f14 : BufTy.Contents (Elt F) arg14.view.ty) : sProp 𝕄G :=
  iprop((arg2.view.loc (c : Thread nD τ) ↦[arg2.view.set]{fullShare.right} X_arg2) ∗ (arg3.view.loc (c : Thread nD τ) ↦[arg3.view.set]{fullShare.right} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg10.view.loc (c : Thread nD τ) ↦[arg10.view.set]{fullShare} X_arg10) ∗ (arg13.view.loc (c : Thread nD τ) ↦[arg13.view.set]{fullShare} X_arg13) ∗ (arg11.view.loc (c : Thread nD τ) ↦[arg11.view.set]{fullShare} f11) ∗ (arg12.view.loc (c : Thread nD τ) ↦[arg12.view.set]{fullShare} f12) ∗ (arg14.view.loc (c : Thread nD τ) ↦[arg14.view.set]{fullShare} f14))

/-- The word of a table that trip `k` at a grid point reads. -/
abbrev wordAt (i : grid0.Coords) (a : Memref sig .tc .smem S4x32 .i32) (X : BufTy.Contents (Elt F) a.view.ty) (k : Fin k0_t2_loop.trips) : BitVec 32 :=
  View.readAt (Elt F) a.view (Rect.unit (s := S4x32) (k0_off6 i k) S1x1.size (k0_off6_inb i k)).toLoadRect X (Shape.Idx.first (s := S1x1) (numel1_S1x1.symm ▸ Nat.one_pos))

/-- ONE TRIP at a symbolic `k`: what it writes into its three arrays, as pieces, given the side conditions of the two words it reads. -/
@[irreducible] def trip_k0_t2 (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec F S1x8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg10 : BufTy.Contents (Elt F) arg10.view.ty) (X_arg13 : BufTy.Contents (Elt F) arg13.view.ty) (k : Fin k0_t2_loop.trips)
    (h2 : k0_chk2 k (wordAt i arg2 X_arg2 k)) (h1 : k0_chk1 k (wordAt i arg2 X_arg2 k) (wordAt i arg3 X_arg3 k)) :
    Σ' (L11 : BufTy.Contents (Elt F) arg12.view.ty → BufTy.Contents (Elt F) arg14.view.ty → List (View.Piece (Elt F) S1x8192x128 .bf16))
       (L12 : BufTy.Contents (Elt F) arg12.view.ty → BufTy.Contents (Elt F) arg14.view.ty → List (View.Piece (Elt F) S8192x256 .f32)),
       { C14 : BufTy.Contents (Elt F) arg12.view.ty → BufTy.Contents (Elt F) arg14.view.ty → BufTy.Contents (Elt F) arg14.view.ty //
      ∀ (E : Set ℕ) (f11 : BufTy.Contents (Elt F) arg11.view.ty) (f12 : BufTy.Contents (Elt F) arg12.view.ty) (f14 : BufTy.Contents (Elt F) arg14.view.ty),
      Trip_k0_t2 (F := F) c arg2 arg3 arg4 arg5 arg6 arg7 arg10 arg13 arg11 arg12 arg14 X_arg2 X_arg3 X_arg4 X_arg5 X_arg6 X_arg7 X_arg10 X_arg13 f11 f12 f14
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg0 v9 v11 k ())
          (fun _ => Trip_k0_t2 (F := F) c arg2 arg3 arg4 arg5 arg6 arg7 arg10 arg13 arg11 arg12 arg14 X_arg2 X_arg3 X_arg4 X_arg5 X_arg6 X_arg7 X_arg10 X_arg13 (arg11.view.writes (Elt F) f11 (L11 f12 f14)) (arg12.view.writes (Elt F) f12 (L12 f12 f14)) (C14 f12 f14)) } := by
  refine ⟨?_, ?_, ?_, fun E f11 f12 f14 => ?run⟩
  case run =>
    unfold k0_t2_body
    simp only [k0_part1_eq_skeleton, k0_part2_eq_skeleton]
    iintro ⟨HR_arg2, HR_arg3, HR_arg4, HR_arg5, HR_arg6, HR_arg7, HR_arg10, HR_arg13, HW_arg11, HW_arg12, HW_arg14⟩
    have h2' : ∀ w, w = wordAt i arg2 X_arg2 k → k0_chk2 k w := fun w h => h ▸ h2
    have h1' : ∀ w u, w = wordAt i arg2 X_arg2 k → u = wordAt i arg3 X_arg3 k → k0_chk1 k w u := fun w u h h' => h ▸ h' ▸ h1
    sl_exec (disch := first | (with_reducible refine h2' _ ?_; rfl) | (with_reducible refine h1' _ _ ?_ ?_ <;> rfl))
    sl_step
    sl_close

/-- Trip `k`'s contribution to the state before it: its pieces of the result in front, the scores' array and the accumulator as it leaves
    them. Past the last trip, and where a side condition of the words read fails, the state itself. -/
@[irreducible] def st_k0_t2Step (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec F S1x8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg10 : BufTy.Contents (Elt F) arg10.view.ty) (X_arg13 : BufTy.Contents (Elt F) arg13.view.ty) (k : ℕ)
    (prev : List (View.Piece (Elt F) S1x8192x128 .bf16) × BufTy.Contents (Elt F) arg12.view.ty × BufTy.Contents (Elt F) arg14.view.ty) :
    List (View.Piece (Elt F) S1x8192x128 .bf16) × BufTy.Contents (Elt F) arg12.view.ty × BufTy.Contents (Elt F) arg14.view.ty :=
  if h : ∃ h : k < k0_t2_loop.trips, k0_chk2 ⟨k, h⟩ (wordAt i arg2 X_arg2 ⟨k, h⟩) ∧ k0_chk1 ⟨k, h⟩ (wordAt i arg2 X_arg2 ⟨k, h⟩) (wordAt i arg3 X_arg3 ⟨k, h⟩) then
    ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 ⟨k, h.1⟩ h.2.1 h.2.2).1 prev.2.1 prev.2.2 ++ prev.1,
     arg12.view.writes (Elt F) prev.2.1 ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 ⟨k, h.1⟩ h.2.1 h.2.2).2.1 prev.2.1 prev.2.2),
     (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 ⟨k, h.1⟩ h.2.1 h.2.2).2.2.1 prev.2.1 prev.2.2)
  else prev

/-- The state before trip `k`: the pieces of the result written so far, last first, and the contents of the two scratch arrays. -/
def st_k0_t2 (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec F S1x8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg10 : BufTy.Contents (Elt F) arg10.view.ty) (X_arg13 : BufTy.Contents (Elt F) arg13.view.ty)
    (G12 : BufTy.Contents (Elt F) arg12.view.ty) (G14 : BufTy.Contents (Elt F) arg14.view.ty) : ℕ →
    List (View.Piece (Elt F) S1x8192x128 .bf16) × BufTy.Contents (Elt F) arg12.view.ty × BufTy.Contents (Elt F) arg14.view.ty
  | 0 => ([], G12, G14)
  | k + 1 => st_k0_t2Step 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 k (st_k0_t2 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 G12 G14 k)

theorem st_k0_t2_succ (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec F S1x8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg10 : BufTy.Contents (Elt F) arg10.view.ty) (X_arg13 : BufTy.Contents (Elt F) arg13.view.ty)
    (G12 : BufTy.Contents (Elt F) arg12.view.ty) (G14 : BufTy.Contents (Elt F) arg14.view.ty) (k : Fin k0_t2_loop.trips)
    (h2 : k0_chk2 k (wordAt i arg2 X_arg2 k)) (h1 : k0_chk1 k (wordAt i arg2 X_arg2 k) (wordAt i arg3 X_arg3 k)) (prev)
    (hp : st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 G12 G14 k.val = prev) :
    st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 G12 G14 (k.val + 1)
      = ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 k h2 h1).1 prev.2.1 prev.2.2 ++ prev.1,
         arg12.view.writes (Elt F) prev.2.1 ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 k h2 h1).2.1 prev.2.1 prev.2.2),
         (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 k h2 h1).2.2.1 prev.2.1 prev.2.2) := by
  subst hp
  rw [st_k0_t2.eq_2]; unfold st_k0_t2Step
  exact dif_pos ⟨k.isLt, h2, h1⟩

/-- The side conditions of every trip at a grid point: what the two tables must satisfy for the loop to have a meaning. -/
abbrev TablesOK (i : grid0.Coords) (arg2 : Memref sig .tc .smem S4x32 .i32) (arg3 : Memref sig .tc .smem S4x32 .i32) (X_arg2 : BufTy.Contents (Elt F) arg2.view.ty) (X_arg3 : BufTy.Contents (Elt F) arg3.view.ty) : Prop :=
  ∀ k : Fin k0_t2_loop.trips, k0_chk2 k (wordAt i arg2 X_arg2 k) ∧ k0_chk1 k (wordAt i arg2 X_arg2 k) (wordAt i arg3 X_arg3 k)

/-- THE INVARIANT before trip `k`: what is only read, at its contents; the three arrays written, as the state says. -/
abbrev inv_k0_t2 (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec F S1x8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg10 : BufTy.Contents (Elt F) arg10.view.ty) (X_arg13 : BufTy.Contents (Elt F) arg13.view.ty)
    (G11 : BufTy.Contents (Elt F) arg11.view.ty) (G12 : BufTy.Contents (Elt F) arg12.view.ty) (G14 : BufTy.Contents (Elt F) arg14.view.ty) (k : ℕ) (_ : Unit) : sProp 𝕄G :=
  iprop((arg2.view.loc (c : Thread nD τ) ↦[arg2.view.set]{fullShare.right} X_arg2) ∗ (arg3.view.loc (c : Thread nD τ) ↦[arg3.view.set]{fullShare.right} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg10.view.loc (c : Thread nD τ) ↦[arg10.view.set]{fullShare} X_arg10) ∗ (arg13.view.loc (c : Thread nD τ) ↦[arg13.view.set]{fullShare} X_arg13) ∗ (∃ f, (arg11.view.loc (c : Thread nD τ) ↦[arg11.view.set]{fullShare} f) ∗ ⌜f = arg11.view.writes (Elt F) G11 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 G12 G14 k).1⌝)
    ∗ (∃ f, (arg12.view.loc (c : Thread nD τ) ↦[arg12.view.set]{fullShare} f) ∗ ⌜f = (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 G12 G14 k).2.1⌝)
    ∗ (∃ f, (arg14.view.loc (c : Thread nD τ) ↦[arg14.view.set]{fullShare} f) ∗ ⌜f = (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 G12 G14 k).2.2⌝)
    ∗ ⌜TablesOK (F := F) i arg2 arg3 X_arg2 X_arg3⌝)

set_option warn.classDefReducibility false in
/-- THE LOOP BY ITS INVARIANT: each trip steps the state. -/
@[sl_loop] def loopInv_k0_t2 (𝒱 : Variants) (c : Dev nD) (bd : Option 𝒱.V) (E : Set ℕ) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec F S1x8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg10 : BufTy.Contents (Elt F) arg10.view.ty) (X_arg13 : BufTy.Contents (Elt F) arg13.view.ty)
    (G11 : BufTy.Contents (Elt F) arg11.view.ty) (G12 : BufTy.Contents (Elt F) arg12.view.ty) (G14 : BufTy.Contents (Elt F) arg14.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg0 v9 v11 where
  inv := inv_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 G11 G12 G14
  step k acc := by
    iintro ⟨HR_arg2, HR_arg3, HR_arg4, HR_arg5, HR_arg6, HR_arg7, HR_arg10, HR_arg13, ⟨%f_11, HW_arg11, %h_11⟩, ⟨%f_12, HW_arg12, %h_12⟩, ⟨%f_14, HW_arg14, %h_14⟩, %hok⟩
    iapply (wp_wand_r Idealize.ShloMosaic.frame (wpE (defs₀ (F := F)) 𝒱 (c : Thread nD τ) bd) E)
    isplitl [HR_arg2 HR_arg3 HR_arg4 HR_arg5 HR_arg6 HR_arg7 HR_arg10 HR_arg13 HW_arg11 HW_arg12 HW_arg14]
    · iapply ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 k (hok k).1 (hok k).2).2.2.2 E f_11 f_12 f_14)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg10]; · iexact HR_arg10
      isplitl [HR_arg13]; · iexact HR_arg13
      isplitl [HW_arg11]; · iexact HW_arg11
      isplitl [HW_arg12]; · iexact HW_arg12
      iexact HW_arg14
    · iintro %yld ⟨HR_arg2, HR_arg3, HR_arg4, HR_arg5, HR_arg6, HR_arg7, HR_arg10, HR_arg13, HW_arg11, HW_arg12, HW_arg14⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg10]; · iexact HR_arg10
      isplitl [HR_arg13]; · iexact HR_arg13
      simp only [st_k0_t2_succ (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 G12 G14 k (hok k).1 (hok k).2 _ rfl]
      isplitl [HW_arg11]
      · iexists _; isplitl [HW_arg11]; · iexact HW_arg11
        ipureintro; rw [h_11, h_12, h_14, ← View.writes_append]
      isplitl [HW_arg12]
      · iexists _; isplitl [HW_arg12]; · iexact HW_arg12
        ipureintro; rw [h_12, h_14]
      isplitl [HW_arg14]
      · iexists _; isplitl [HW_arg14]; · iexact HW_arg14
        ipureintro; rw [h_12, h_14]
      ipureintro; exact hok

end Cert.Proof.Kernel
-- ==== Proof.KernelKit.lean ====
/- The program up to its one pipelined region: the arrays' contents there, each window's block, the tables as the body is handed them, and
   the frame's post read off any run of the region. -/
module

public import proofs.«01_k».proof.Proof.Gen.Kernel.Launch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the run. -/
local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7] (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨hostOps0_fresh, hostOps0_1_fresh, hostOps0_2_fresh, hostOps0_3_fresh, hostOps0_4_fresh, hostOps0_5_fresh, hostOps0_6_fresh, hostOps0_7_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S4x32 .i32 := Memref.whole main_v9
abbrev htbM0_0 : tbM0_0.IsWhole := Memref.isWhole_whole _
abbrev tbM0_1 : Memref sig .tc .smem S4x32 .i32 := Memref.whole main_v20
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).2 main_arg6 (by decide : main_arg6 ∈ Pipeline.restRefs sig spec0)).trans (V_main_arg6 m c)⟩) h

/-- Each window's current staging memref at point `t`, spelled as the pipeline passes it (`bodyAt0`), and its wholeness. -/
abbrev ms0_0 (hO : Ok m) (t : Fin (cfgM m hO).N) : Memref sig .tc .vmem S1x1x8192x128 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x8192x128 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x128x8192 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x8x8192 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x8x8192 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x8x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x8192 .i32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x8192x128 .bf16 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S8192x256 .f32 := Memref.whole cc0_scratch0
abbrev scM0_1 : Memref sig .tc .vmem S8192x128 .f32 := Memref.whole cc0_scratch1
abbrev scM0_2 : Memref sig .tc .vmem S128x256 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Proof.Kernel

end
-- ==== Proof.KernelBody.lean ====
/- The body of the kernel run once on whole buffers: the scales of the keys are spread over the lanes, the scales of the values are
   loaded, and the loop over the blocks of queries goes by its invariant. The result's buffer ends with the loop's pieces written over what
   it held; the pieces are functions of what the three scratch arrays held, which the values do not depend on (shown elsewhere). -/
module

public import proofs.«01_k».proof.Proof.KernelTrip
public import proofs.«01_k».proof.Proof.KernelKit

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the run. -/
local notation "𝕄" => MT nD τ sig Unit (Elt F) ℕ (UR sig nD τ) ℕ

set_option maxHeartbeats 4000000 in
/-- The body's run on whole buffers, the inputs' at their contents and the others' at anything, for tables whose words pass the body's own
    checks (`TablesOK`): the pieces are the ones the run finds. -/
noncomputable def kernelRun (c : Dev nD) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole)
    (x0 : Vec F S1x1x8192x128 .fp8e4m3) (x1 : Vec F S1x1x8192x128 .fp8e4m3) (x2 : Vec F S1x1x128x8192 .fp8e4m3) (x3 : Vec F S1x8x8192 .f32) (x4 : Vec F S1x8x8192 .f32) (x5 : Vec F S1x8x128 .f32) (x6 : Vec F S1x1x8192 .i32) (xt0 : BufTy.Contents (Elt F) arg2.view.ty) (xt1 : BufTy.Contents (Elt F) arg3.view.ty) (hT : TablesOK (F := F) i arg2 arg3 xt0 xt1) :
    { L7 : BufTy.Contents (Elt F) arg12.view.ty → BufTy.Contents (Elt F) arg13.view.ty → BufTy.Contents (Elt F) arg14.view.ty → List (View.Piece (Elt F) S1x8192x128 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (arg2.view.loc (c : Thread nD τ) ↦[arg2.view.set]{fullShare.right} xt0) ∗ (arg3.view.loc (c : Thread nD τ) ↦[arg3.view.set]{fullShare.right} xt1)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ f12, ∃ f13, ∃ f14, ∃ f, arg11.view.loc (c : Thread nD τ) ↦[arg11.view.set]{fullShare} arg11.view.writes (Elt F) f (L7 f12 f13 f14)) ∗ (∃ d, owns (c : Thread nD τ) arg12 fullShare d) ∗ (∃ d, owns (c : Thread nD τ) arg13 fullShare d) ∗ (∃ d, owns (c : Thread nD τ) arg14 fullShare d) ∗ (arg2.view.loc (c : Thread nD τ) ↦[arg2.view.set]{fullShare.right} xt0) ∗ (arg3.view.loc (c : Thread nD τ) ↦[arg3.view.set]{fullShare.right} xt1)) -∗ K ⟨⟩))
          ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_attn_eq_skeleton]; unfold cc0_attn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, HT0, HT1, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists fs0, fs1, fs2, _; iexact H7
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    iexact HT1

end Cert.Proof.Kernel

end
-- ==== Proof.KernelRun.lean ====
/- The region's run with nothing stated of the result: the proof data of the pipeline, the body obligation at every grid point with the
   result's window forgotten, and from it that every argument array ends as it began and every semaphore at zero. -/
module

public import proofs.«01_k».proof.Proof.KernelBody

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the run. -/
local notation "𝕄" => MT nD τ sig Unit (Elt F) ℕ (UR sig nD τ) ℕ

variable (m : (ℓ : Loc nD τ sig) → Buf (Elt F) ℓ) (ρ : Dev nD → PrngReg)

/-- The pipeline's proof data, the result's window stated by `outB`: the arrays as the region finds them; after the body each input's buffer
    at its block and the result's at `outB`; the invariant the scratch buffers, the generator register and the tables' halves. -/
def dats (hO : Ok m) (outB : (c : Dev nD) → Fin (cfgM m hO).N → Vec F S1x8192x128 .bf16) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outB c t
  Φ _ := iprop(Pipeline.ΦA spec0 c ∗ Pipeline.ΦT pre0 (tbl m) c)
  q _ := fullShare
  owed _ := 0

/-- The proof data's arrays are the region-entry contents. -/
theorem A_eq (hO : Ok m) (outB) (c : Dev nD) (w : Fin (cfgM m hO).W) : (dats m hO outB 0 c).A w = V m c (Pipeline.arrRef spec0 w) := by
  dsimp only [dats]

/-! What the body leaves, window by window. -/

theorem after0_0 (hO : Ok m) (outB) (c : Dev nD) (t : Fin (cfgM m hO).N) : (dats m hO outB 0 c).after 0 t = iblk m hO c 0 t := by dsimp only [dats]; try rfl
theorem after0_1 (hO : Ok m) (outB) (c : Dev nD) (t : Fin (cfgM m hO).N) : (dats m hO outB 0 c).after 1 t = iblk m hO c 1 t := by dsimp only [dats]; try rfl
theorem after0_2 (hO : Ok m) (outB) (c : Dev nD) (t : Fin (cfgM m hO).N) : (dats m hO outB 0 c).after 2 t = iblk m hO c 2 t := by dsimp only [dats]; try rfl
theorem after0_3 (hO : Ok m) (outB) (c : Dev nD) (t : Fin (cfgM m hO).N) : (dats m hO outB 0 c).after 3 t = iblk m hO c 3 t := by dsimp only [dats]; try rfl
theorem after0_4 (hO : Ok m) (outB) (c : Dev nD) (t : Fin (cfgM m hO).N) : (dats m hO outB 0 c).after 4 t = iblk m hO c 4 t := by dsimp only [dats]; try rfl
theorem after0_5 (hO : Ok m) (outB) (c : Dev nD) (t : Fin (cfgM m hO).N) : (dats m hO outB 0 c).after 5 t = iblk m hO c 5 t := by dsimp only [dats]; try rfl
theorem after0_6 (hO : Ok m) (outB) (c : Dev nD) (t : Fin (cfgM m hO).N) : (dats m hO outB 0 c).after 6 t = iblk m hO c 6 t := by dsimp only [dats]; try rfl
theorem after0_7 (hO : Ok m) (outB) (c : Dev nD) (t : Fin (cfgM m hO).N) : (dats m hO outB 0 c).after 7 t = outB c t := by dsimp only [dats]; try rfl

/-! Each input's current staging buffer holds its block at every point. -/

theorem before0_0 (hO : Ok m) (outB : (c : Dev nD) → Fin (cfgM m hO).N → Vec F S1x8192x128 .bf16) (c : Dev nD) (t : Fin (cfgM m hO).N) (d) : (dats m hO outB 0 c).before 0 t d = iblk m hO c 0 t :=
  before0_0_of m hO (dats m hO outB 0 c) (A_eq m hO outB c 0) (after0_0 m hO outB c) t d
theorem before0_1 (hO : Ok m) (outB : (c : Dev nD) → Fin (cfgM m hO).N → Vec F S1x8192x128 .bf16) (c : Dev nD) (t : Fin (cfgM m hO).N) (d) : (dats m hO outB 0 c).before 1 t d = iblk m hO c 1 t :=
  before0_1_of m hO (dats m hO outB 0 c) (A_eq m hO outB c 1) (after0_1 m hO outB c) t d
theorem before0_2 (hO : Ok m) (outB : (c : Dev nD) → Fin (cfgM m hO).N → Vec F S1x8192x128 .bf16) (c : Dev nD) (t : Fin (cfgM m hO).N) (d) : (dats m hO outB 0 c).before 2 t d = iblk m hO c 2 t :=
  before0_2_of m hO (dats m hO outB 0 c) (A_eq m hO outB c 2) (after0_2 m hO outB c) t d
theorem before0_3 (hO : Ok m) (outB : (c : Dev nD) → Fin (cfgM m hO).N → Vec F S1x8192x128 .bf16) (c : Dev nD) (t : Fin (cfgM m hO).N) (d) : (dats m hO outB 0 c).before 3 t d = iblk m hO c 3 t :=
  before0_3_of m hO (dats m hO outB 0 c) (A_eq m hO outB c 3) (after0_3 m hO outB c) t d
theorem before0_4 (hO : Ok m) (outB : (c : Dev nD) → Fin (cfgM m hO).N → Vec F S1x8192x128 .bf16) (c : Dev nD) (t : Fin (cfgM m hO).N) (d) : (dats m hO outB 0 c).before 4 t d = iblk m hO c 4 t :=
  before0_4_of m hO (dats m hO outB 0 c) (A_eq m hO outB c 4) (after0_4 m hO outB c) t d
theorem before0_5 (hO : Ok m) (outB : (c : Dev nD) → Fin (cfgM m hO).N → Vec F S1x8192x128 .bf16) (c : Dev nD) (t : Fin (cfgM m hO).N) (d) : (dats m hO outB 0 c).before 5 t d = iblk m hO c 5 t :=
  before0_5_of m hO (dats m hO outB 0 c) (A_eq m hO outB c 5) (after0_5 m hO outB c) t d
theorem before0_6 (hO : Ok m) (outB : (c : Dev nD) → Fin (cfgM m hO).N → Vec F S1x8192x128 .bf16) (c : Dev nD) (t : Fin (cfgM m hO).N) (d) : (dats m hO outB 0 c).before 6 t d = iblk m hO c 6 t :=
  before0_6_of m hO (dats m hO outB 0 c) (A_eq m hO outB c 6) (after0_6 m hO outB c) t d

/-- The tables as the body's run holds them: each half held on the whole memref's elements. -/
theorem tbPt0_set (c : Dev nD) (f0 : TbBuf0 (F := F) c tbM0_0) (f1 : TbBuf0 (F := F) c tbM0_1) :
    iprop(tbPt0 c tbM0_0 f0 ∗ tbPt0 c tbM0_1 f1 : sProp 𝕄) = iprop((tbM0_0.view.loc (c : Thread nD τ) ↦[tbM0_0.view.set]{fullShare.right} f0) ∗ (tbM0_1.view.loc (c : Thread nD τ) ↦[tbM0_1.view.set]{fullShare.right} f1)) := by
  have h0 : (tbM0_0 : Memref sig .tc .smem S4x32 .i32).view.set = Finset.univ := View.set_whole _
  have h1 : (tbM0_1 : Memref sig .tc .smem S4x32 .i32).view.set = Finset.univ := View.set_whole _
  rw [h0, h1]

/-- The tables' halves the region hands the body, in that form. -/
theorem PhiT0_set (c : Dev nD) : (Pipeline.ΦT pre0 (tbl m) c : sProp 𝕄) = iprop((tbM0_0.view.loc (c : Thread nD τ) ↦[tbM0_0.view.set]{fullShare.right} tbl m 0) ∗ (tbM0_1.view.loc (c : Thread nD τ) ↦[tbM0_1.view.set]{fullShare.right} tbl m 1)) :=
  (PhiT0_eq m c).trans (tbPt0_set c (tbl m 0) (tbl m 1))

/-- The body at point `t`. -/
abbrev bodyAt (hO : Ok m) (t : Fin (cfgM m hO).N) : Prog (TpuEff nD τ sig (Elt F) Λ₀ .tc) PUnit :=
  cc0_attn (grid0.coords t) tbM0_0 htbM0_0 tbM0_1 htbM0_1 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _)

/-- The body table's row at point `t`'s slots is that body. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]; try rfl

/-- The run of the body at point `t`. -/
abbrev runAt (hO : Ok m) (hT : ∀ i, TablesOK (F := F) i tbM0_0 tbM0_1 (tbl m 0) (tbl m 1)) (c : Dev nD) (t : Fin (cfgM m hO).N) :=
  kernelRun (F := F) c (grid0.coords t) tbM0_0 htbM0_0 tbM0_1 htbM0_1 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) (tbl m 0) (tbl m 1) (hT _)

/-- What the body obligation is given at point `t`, the windows one by one, -/
def bodyPre (hO : Ok m) (outB : (c : Dev nD) → Fin (cfgM m hO).N → Vec F S1x8192x128 .bf16) (c : Dev nD) (t : Fin (cfgM m hO).N) : sProp 𝕄 :=
  iprop((dats m hO outB 0 c).Φ t.castSucc ∗ (dats m hO outB 0 c).owesAt () t.castSucc
    ∗ (∃ d, owns (c : Thread nD τ) (ms0_0 m hO t) fullShare ((dats m hO outB 0 c).before 0 t d))
    ∗ (∃ d, owns (c : Thread nD τ) (ms0_1 m hO t) fullShare ((dats m hO outB 0 c).before 1 t d))
    ∗ (∃ d, owns (c : Thread nD τ) (ms0_2 m hO t) fullShare ((dats m hO outB 0 c).before 2 t d))
    ∗ (∃ d, owns (c : Thread nD τ) (ms0_3 m hO t) fullShare ((dats m hO outB 0 c).before 3 t d))
    ∗ (∃ d, owns (c : Thread nD τ) (ms0_4 m hO t) fullShare ((dats m hO outB 0 c).before 4 t d))
    ∗ (∃ d, owns (c : Thread nD τ) (ms0_5 m hO t) fullShare ((dats m hO outB 0 c).before 5 t d))
    ∗ (∃ d, owns (c : Thread nD τ) (ms0_6 m hO t) fullShare ((dats m hO outB 0 c).before 6 t d))
    ∗ (∃ X, owns (c : Thread nD τ) (ms0_7 m hO t) fullShare X))

/-- and what it returns, the result's window left at `Q7`. -/
def bodyPost (hO : Ok m) (outB : (c : Dev nD) → Fin (cfgM m hO).N → Vec F S1x8192x128 .bf16) (c : Dev nD) (t : Fin (cfgM m hO).N) (Q7 : sProp 𝕄) : sProp 𝕄 :=
  iprop((dats m hO outB 0 c).Φ t.succ ∗ (dats m hO outB 0 c).owesAt () t.succ
    ∗ owns (c : Thread nD τ) (ms0_0 m hO t) fullShare ((dats m hO outB 0 c).after 0 t)
    ∗ owns (c : Thread nD τ) (ms0_1 m hO t) fullShare ((dats m hO outB 0 c).after 1 t)
    ∗ owns (c : Thread nD τ) (ms0_2 m hO t) fullShare ((dats m hO outB 0 c).after 2 t)
    ∗ owns (c : Thread nD τ) (ms0_3 m hO t) fullShare ((dats m hO outB 0 c).after 3 t)
    ∗ owns (c : Thread nD τ) (ms0_4 m hO t) fullShare ((dats m hO outB 0 c).after 4 t)
    ∗ owns (c : Thread nD τ) (ms0_5 m hO t) fullShare ((dats m hO outB 0 c).after 5 t)
    ∗ owns (c : Thread nD τ) (ms0_6 m hO t) fullShare ((dats m hO outB 0 c).after 6 t)
    ∗ Q7)

set_option maxHeartbeats 1600000 in
/-- The body at any point, the result's window left at anything the run's pieces give: the inputs' buffers hold their blocks, so the run
    applies; the invariant hands the body its scratch buffers and the tables and takes them back. -/
theorem sound_body (hO : Ok m) (outB : (c : Dev nD) → Fin (cfgM m hO).N → Vec F S1x8192x128 .bf16) (hT : ∀ i, TablesOK (F := F) i tbM0_0 tbM0_1 (tbl m 0) (tbl m 1)) (c : Dev nD) (t : Fin (cfgM m hO).N) (Q7 : sProp 𝕄)
    (hQ : ∀ f12 f13 f14 f, ((ms0_7 m hO t).view.loc (c : Thread nD τ) ↦[(ms0_7 m hO t).view.set]{fullShare} (ms0_7 m hO t).view.writes (Elt F) f ((runAt m hO hT c t).1 f12 f13 f14)) ⊢ Q7) :
    bodyPre m hO outB c t ⊢ wp frame (wpE (defs₀ (F := F)) Variants.none c none) Set.univ (bodyAt m hO t) (fun _ => bodyPost m hO outB c t Q7) := by
  unfold bodyPre bodyPost bodyAt
  simp only [before0_0, before0_1, before0_2, before0_3, before0_4, before0_5, before0_6]
  rw [show (dats m hO outB 0 c).Φ t.succ = (dats m hO outB 0 c).Φ t.castSucc from rfl,
    show (dats m hO outB 0 c).owesAt () t.succ = (dats m hO outB 0 c).owesAt () t.castSucc from rfl,
    after0_0, after0_1, after0_2, after0_3, after0_4, after0_5, after0_6]
  rw [show (dats m hO outB 0 c).Φ t.castSucc = iprop(Pipeline.ΦA spec0 c ∗ Pipeline.ΦT pre0 (tbl m) c) from rfl, PhiT0_set, PhiA0_eq]
  iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runAt m hO hT c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HT0]; · iexact HT0
  isplitl [HT1]; · iexact HT1
  iintro ⟨H0, H1, H2, H3, H4, H5, H6, ⟨%e12, %e13, %e14, %e7, H7⟩, HS0, HS1, HS2, HT0, HT1⟩
  isplitl [HS0 HS1 HS2 Hg HT0 HT1]
  · isplitl [HS0 HS1 HS2 Hg]
    · isplitl [HS0 HS1 HS2]
      · isplitl [HS0]; · iexact HS0
        isplitl [HS1]; · iexact HS1
        iexact HS2
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (hQ e12 e13 e14 e7)
  iexact H7

/-! ## Forgetting the result's window -/

/-- The one window of which nothing is stated: the result's. -/
def fgt : Fin 8 → Bool := fun w => w.val == 7

theorem fgt_0 : fgt (0 : Fin 8) = false := by decide
theorem fgt_1 : fgt (1 : Fin 8) = false := by decide
theorem fgt_2 : fgt (2 : Fin 8) = false := by decide
theorem fgt_3 : fgt (3 : Fin 8) = false := by decide
theorem fgt_4 : fgt (4 : Fin 8) = false := by decide
theorem fgt_5 : fgt (5 : Fin 8) = false := by decide
theorem fgt_6 : fgt (6 : Fin 8) = false := by decide
theorem fgt_7 : fgt (7 : Fin 8) = true := by decide

/-- The body obligation at every point, the result's window forgotten. -/
theorem body_obligation (hO : Ok m) (outB : (c : Dev nD) → Fin (cfgM m hO).N → Vec F S1x8192x128 .bf16) (hT : ∀ i, TablesOK (F := F) i tbM0_0 tbM0_1 (tbl m 0) (tbl m 1)) (c : Dev nD) :
    BodyObligation (dats (F := F) m hO outB 0 c) (defs₀ (F := F)) Variants.none () Set.univ fgt := fun t => by
  rw [bigSep_W0, bigSep_W0, defs₀_row m hO]
  refine triple_restated (sound_body m hO outB hT c t (iprop(∃ X, owns (c : Thread nD τ) (ms0_7 m hO t) fullShare X)) ?_) rfl .rfl fun _ => .rfl
  intro f12 f13 f14 f
  iintro H
  iexists _; unfold owns; iexists _; isplitr
  swap; · iexact H
  ipureintro; rfl

set_option backward.isDefEq.respectTransparency.types false in
/-- Every weakly fair execution of the program terminates, with the inputs' arrays unchanged and every semaphore at zero. -/
theorem run_forget (hO : Ok m) (outB : (c : Dev nD) → Fin (cfgM m hO).N → Vec F S1x8192x128 .bf16) (hT : ∀ i, TablesOK (F := F) i tbM0_0 tbM0_1 (tbl m 0) (tbl m 1)) :
    θ_run defs (onTc (τ := τ) (main (F := F))) (s₀ m ρ) (fun r => (Pipeline.RDat.FramePost (cfgM m hO) (fun c => (dats m hO outB 0 c).toRForget fgt) (V m)) r ∧ r.2.sem = fun _ => 0) :=
  Pipeline.θ_run_frameP_forget (Q' := _) pcfgs (fun _ => adm m hO) (dats m hO outB) (0 : Fin 1) launch0 defs₀ Variants.none fgt m ρ main
    (hbody := fun c => (body_obligation m hO outB hT c).loose) (hshare := fun c => (dats m hO outB 0 c).share_full fun _ => rfl)
    (howed := fun _ _ => rfl) (V := V m) (hmain := hmain m Variants.none) (hA := A_eq m hO outB) (hpf := V_pre m)
    (hΦ := fun _ _ => rfl)

/-- Some contents of the result's window. -/
def outJunk : Vec F S1x8192x128 .bf16 := (Memref.whole cc0_stg7_0 : Memref sig .tc .vmem S1x8192x128 .bf16).view.read (Elt F) (Memref.whole cc0_stg7_0 : Memref sig .tc .vmem S1x8192x128 .bf16).view.junk

set_option maxHeartbeats 1600000 in
/-- The frame: every argument array ends as it began, and every semaphore at zero. -/
theorem frame (hO : Ok m) (hT : ∀ i, TablesOK (F := F) i tbM0_0 tbM0_1 (tbl m 0) (tbl m 1)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1.arr_in c 0 rfl).trans ((A_eq m hO (fun _ _ => outJunk) c 0).trans (V_main_arg0 m c)),
      (h.1.arr_in c 1 rfl).trans ((A_eq m hO (fun _ _ => outJunk) c 1).trans (V_main_arg1 m c)),
      (h.1.arr_in c 2 rfl).trans ((A_eq m hO (fun _ _ => outJunk) c 2).trans (V_main_arg2 m c)),
      (h.1.arr_in c 3 rfl).trans ((A_eq m hO (fun _ _ => outJunk) c 3).trans (V_main_arg3 m c)),
      (h.1.arr_in c 4 rfl).trans ((A_eq m hO (fun _ _ => outJunk) c 4).trans (V_main_arg4 m c)),
      (h.1.arr_in c 5 rfl).trans ((A_eq m hO (fun _ _ => outJunk) c 5).trans (V_main_arg5 m c)),
      ((h.1 c).2 main_arg6 (by decide : main_arg6 ∈ Pipeline.restRefs sig spec0)).trans (V_main_arg6 m c)⟩, h.2⟩) (run_forget m ρ hO (fun _ _ => outJunk) hT)

end Cert.Proof.Kernel

end
-- ==== Proof.LoopWords.lean ====
/- A counted loop of step one over blocks of 256 rows, its bounds known as integers: it has a meaning, it runs as many trips as the bounds
   are apart, trip `k` has the number `lower bound + k`, and the block of that number lies inside 8192 rows. -/
module

public import Idealize.ShloMosaic.Lib.Affine
public import Idealize.ShloMosaic.Lib.LoopRemainder

@[expose] public section

noncomputable section

namespace Cert.Proof

open Idealize.ShloMosaic

/-- A word known as a natural number. -/
theorem toNat_of {x : BitVec 32} {n : Nat} (h : Affine.IsInt x n) (hn : n < 2 ^ 31) : x.toNat = n := by
  unfold Affine.IsInt at h
  have := x.isLt
  rw [BitVec.toInt_eq_toNat_cond] at h
  split at h <;> omega

/-- Such a word is that number's. -/
theorem eq_ofNat {x : BitVec 32} {n : Nat} (h : Affine.IsInt x n) (hn : n < 2 ^ 31) : x = BitVec.ofNat 32 n := by
  apply BitVec.eq_of_toNat_eq
  rw [toNat_of h hn, BitVec.toNat_ofNat]
  omega

/-- A loop of step one between two such bounds. -/
structure Between (L : Scf.Loop 32) (a b : Nat) : Prop where
  lb : Affine.IsInt L.lb a
  ub : Affine.IsInt L.ub b
  st : L.st = 1#32

namespace Between
variable {L : Scf.Loop 32} {a b : Nat} (h : Between L a b)
include h

theorem st' : Affine.IsInt L.st 1 := by rw [h.st]; exact Affine.ofNat _ (by omega)

/-- It has a meaning, -/
theorem ok (hab : a ≤ b) (hb : b ≤ 64) : L.OK := Affine.ok h.lb h.ub h.st' (by omega)

/-- it runs at most as many trips as its bounds are apart, -/
theorem trips_le (hab : a ≤ b) : L.trips ≤ b - a := by
  exact Affine.trips_le h.lb h.ub h.st' _ (by omega)

/-- and exactly so many. -/
theorem trips (hab : a ≤ b) (hb : b ≤ 64) : L.trips = b - a := by
  have e1 := eq_ofNat h.lb (by omega)
  have e2 := eq_ofNat h.ub (by omega)
  obtain ⟨lb, ub, st⟩ := L
  have e3 := h.st
  dsimp only at e1 e2 e3
  subst e1 e2 e3
  unfold Scf.Loop.trips Scf.trips
  dsimp only
  have ha : (BitVec.ofNat 32 a).toInt = a := by have := h.lb; unfold Affine.IsInt at this; exact this
  have hb' : (BitVec.ofNat 32 b).toInt = b := by have := h.ub; unfold Affine.IsInt at this; exact this
  simp only [ha, hb', show (1#32 : BitVec 32).toInt = 1 from rfl]
  omega

/-- Trip `k`'s number. -/
theorem iv (hb : b ≤ 64) (k : Fin L.trips) : Affine.IsInt (Scf.iv L.lb L.st k.val) ((a + k.val : Nat) : Int) := by
  have hk : k.val < b := by
    by_cases hab : a ≤ b
    · have := h.trips_le hab; omega
    · have : L.trips ≤ 0 := Affine.trips_le h.lb h.ub h.st' _ (by omega)
      omega
  have hk2 : a + k.val < b := by
    by_cases hab : a ≤ b
    · have := h.trips_le hab; omega
    · have : L.trips ≤ 0 := Affine.trips_le h.lb h.ub h.st' _ (by omega)
      omega
  exact Affine.iv h.lb h.st' _ (by push_cast; omega)

theorem lt (k : Fin L.trips) : a + k.val < b := by
  by_cases hab : a ≤ b
  · have := h.trips_le hab; omega
  · have : L.trips ≤ 0 := Affine.trips_le h.lb h.ub h.st' _ (by omega)
    omega

/-- The block's first row. -/
theorem row (hb : b ≤ 64) (k : Fin L.trips) : Affine.IsInt (Scalar.muli (Scf.iv L.lb L.st k.val) 256#32) ((256 * (a + k.val) : Nat) : Int) := by
  have := h.lt k
  exact Affine.muli (h.iv hb k) (Affine.ofNat 256 (e := 256) (by omega)) (by push_cast; omega)

/-- … as a number, -/
theorem row_toNat (hb : b ≤ 64) (k : Fin L.trips) : (Scalar.muli (Scf.iv L.lb L.st k.val) 256#32).toNat = 256 * (a + k.val) :=
  toNat_of (h.row hb k) (by have := h.lt k; omega)

/-- a multiple of 256, -/
theorem dvd (hb : b ≤ 64) (k : Fin L.trips) : 256 ∣ (Scalar.muli (Scf.iv L.lb L.st k.val) 256#32).toNat := by
  rw [h.row_toNat hb k]; exact Dvd.intro _ rfl

/-- and the block inside 8192 rows. -/
theorem inside (hb : b ≤ 32) (k : Fin L.trips) : (Scalar.indexCast (Scalar.muli (Scf.iv L.lb L.st k.val) 256#32)).toNat + 256 ≤ 8192 := by
  have e : (Scalar.indexCast (Scalar.muli (Scf.iv L.lb L.st k.val) 256#32)).toNat = 256 * (a + k.val) := toNat_of (Affine.indexCast (h.row (by omega) k)) (by have := h.lt k; omega)
  have := h.lt k
  rw [e]; omega

end Between

/-- A loop of step one from `a` to `a + ((b − a) / 1) · 1`. -/
theorem between_main {x y : BitVec 32} {a b : Nat} (hx : Affine.IsInt x a) (hy : Affine.IsInt y b) (hab : a ≤ b) (hb : b ≤ 64) :
    Between ⟨x, Scalar.addi x (Scalar.muli (Scalar.divsi (Scalar.subi y x) 1#32) 1#32), 1#32⟩ a b := by
  refine ⟨hx, ?_, rfl⟩
  rw [Scalar.muli_divsi_one]
  exact Affine.addi hx (Affine.subi hy hx (e := (b : Int) - a) (by omega)) (by omega)

/-- The remainder loop after it: from `b` to `b`. -/
theorem between_rem {x y : BitVec 32} {a b : Nat} (hx : Affine.IsInt x a) (hy : Affine.IsInt y b) (hab : a ≤ b) (hb : b ≤ 64) :
    Between ⟨Scalar.addi x (Scalar.muli (Scalar.divsi (Scalar.subi y x) 1#32) 1#32), Scalar.addi x (Scalar.subi y x), 1#32⟩ b b := by
  have e : Affine.IsInt (Scalar.addi x (Scalar.subi y x)) b := Affine.addi hx (Affine.subi hy hx (e := (b : Int) - a) (by omega)) (by omega)
  refine ⟨?_, e, rfl⟩
  dsimp only
  rw [Scalar.muli_divsi_one]
  exact e

/-! Rectangles of 256 rows or lanes inside the arrays. -/

theorem in_rows4 {v : Nat} (h : v + 256 ≤ 8192) : ∀ a : Fin 4, (![0, 0, v, 0] : Fin 4 → Nat) a + (![1, 1, 256, 128] : Fin 4 → Nat) a ≤ (![1, 1, 8192, 128] : Fin 4 → Nat) a := fun a =>
  match a with
  | ⟨0, _⟩ => Nat.le_refl 1
  | ⟨1, _⟩ => Nat.le_refl 1
  | ⟨2, _⟩ => h
  | ⟨3, _⟩ => Nat.le_refl 128

theorem in_lanes4 {v : Nat} (h : v + 256 ≤ 8192) : ∀ a : Fin 4, (![0, 0, 0, v] : Fin 4 → Nat) a + (![1, 1, 128, 256] : Fin 4 → Nat) a ≤ (![1, 1, 128, 8192] : Fin 4 → Nat) a := fun a =>
  match a with
  | ⟨0, _⟩ => Nat.le_refl 1
  | ⟨1, _⟩ => Nat.le_refl 1
  | ⟨2, _⟩ => Nat.le_refl 128
  | ⟨3, _⟩ => h

theorem in_rows2 {v w : Nat} (h : v + 256 ≤ 8192) : ∀ a : Fin 2, (![v, 0] : Fin 2 → Nat) a + (![256, w] : Fin 2 → Nat) a ≤ (![8192, w] : Fin 2 → Nat) a := fun a =>
  match a with
  | ⟨0, _⟩ => h
  | ⟨1, _⟩ => (Nat.zero_add w).le

end Cert.Proof

end
-- ==== Proof.KernelWords.lean ====
/- What the body checks of the two block numbers it reads holds whenever they are in order: `lo ≤ mid ≤` the trip's own number. -/
module

public import proofs.«01_k».proof.Proof.KernelTrip
public import proofs.«01_k».proof.Proof.LoopWords

@[expose] public section

set_option maxRecDepth 8192

noncomputable section

namespace Cert.Proof.Kernel

open Cert.Kernel Cert.Kernel.Gen
open Idealize.ShloMosaic

/-- The outer loop runs 32 trips, from number 0. -/
theorem t2_between : Between k0_t2_loop 0 32 :=
  ⟨Affine.ofNat _ (by omega), Affine.addi (Affine.ofNat 0 (e := 0) (by omega)) (Affine.ofNat 32 (e := 32) (by omega)) (by omega), rfl⟩

/-- The outer trip's number as a word. -/
theorem t2_iv (k : Fin k0_t2_loop.trips) : Affine.IsInt (Scf.iv 0#32 1#32 k.val) ((k.val : Nat) : Int) :=
  Affine.relit (t2_between.iv (by omega) k) (by omega)

theorem t2_lt (k : Fin k0_t2_loop.trips) : k.val < 32 := by
  have := t2_between.lt k; omega

section
variable {k : Fin k0_t2_loop.trips} {x y : BitVec 32} {lo mid : Nat} (hx : Affine.IsInt x lo) (hy : Affine.IsInt y mid)
include hx

theorem t7_between (h : lo ≤ k.val) : Between (k0_t7_loop k x) lo (k.val + 1) :=
  between_main hx (Affine.addi (t2_iv k) (Affine.ofNat 1 (e := 1) (by omega)) (by have := t2_lt k; push_cast; omega)) (by omega) (by have := t2_lt k; omega)

theorem t8_between (h : lo ≤ k.val) : Between (k0_t8_loop k x) (k.val + 1) (k.val + 1) :=
  between_rem hx (Affine.addi (t2_iv k) (Affine.ofNat 1 (e := 1) (by omega)) (by have := t2_lt k; push_cast; omega)) (by omega) (by have := t2_lt k; omega)

theorem chk2_of (h : lo ≤ k.val) : k0_chk2 k x := by
  have b7 := t7_between hx h
  have b8 := t8_between hx h
  have hk := t2_lt k
  refine ⟨b7.ok (by omega) (by omega), fun t => b7.dvd (by omega) t, fun t => in_rows2 (b7.inside (by omega) t), fun t => in_lanes4 (b7.inside (by omega) t),
    b8.ok (by omega) (by omega), fun t => b8.dvd (by omega) t, fun t => in_rows2 (b8.inside (by omega) t), fun t => in_lanes4 (b8.inside (by omega) t)⟩

include hy

theorem t3_between (h : lo ≤ mid) (h2 : mid ≤ 32) : Between (k0_t3_loop x y) lo mid := between_main hx hy h (by omega)
theorem t4_between (h : lo ≤ mid) (h2 : mid ≤ 32) : Between (k0_t4_loop x y) mid mid := between_rem hx hy h (by omega)

omit hx in
theorem t5_between (h : mid ≤ k.val) : Between (k0_t5_loop k y) mid k.val := between_main hy (t2_iv k) h (by have := t2_lt k; omega)
omit hx in
theorem t6_between (h : mid ≤ k.val) : Between (k0_t6_loop k y) k.val k.val := between_rem hy (t2_iv k) h (by have := t2_lt k; omega)

theorem chk1_of (h : lo ≤ mid) (h2 : mid ≤ k.val) : k0_chk1 k x y := by
  have hk := t2_lt k
  have b3 := t3_between hx hy h (by omega)
  have b4 := t4_between hx hy h (by omega)
  have b5 := t5_between hy h2
  have b6 := t6_between hy h2
  refine ⟨b3.ok (by omega) (by omega), fun t => b3.dvd (by omega) t, fun t => in_rows4 (b3.inside (by omega) t), fun t => in_rows2 (b3.inside (by omega) t), fun t => in_rows2 (b3.inside (by omega) t),
    b4.ok (by omega) (by omega), fun t => b4.dvd (by omega) t, fun t => in_rows4 (b4.inside (by omega) t), fun t => in_rows2 (b4.inside (by omega) t), fun t => in_rows2 (b4.inside (by omega) t),
    b5.ok (by omega) (by omega), fun t => b5.dvd (by omega) t, fun t => in_rows4 (b5.inside (by omega) t), fun t => in_rows2 (b5.inside (by omega) t), fun t => in_rows2 (b5.inside (by omega) t),
    b6.ok (by omega) (by omega), fun t => b6.dvd (by omega) t, fun t => in_rows4 (b6.inside (by omega) t), fun t => in_rows2 (b6.inside (by omega) t), fun t => in_rows2 (b6.inside (by omega) t)⟩

end

end Cert.Proof.Kernel

end
-- ==== Proof.CumMax.lean ====
/- The running maximum of signed words along the second axis of a `[4, 8192]` table, as one window of 8192 padded low by 8191: at each
   place it is the greatest of the words up to there. -/
module

public import Idealize.ShloMosaic.Lib.StableHlo
public import Idealize.ShloMosaic.PureOps

@[expose] public section

noncomputable section

namespace Cert.Proof

open Idealize.ShloMosaic

/-- The signed maximum of two words is at least each, -/
theorem le_maxsi (a b : BitVec 32) : a.toInt ≤ (IntOp.maxsi a b).toInt ∧ b.toInt ≤ (IntOp.maxsi a b).toInt := by
  unfold IntOp.maxsi
  by_cases h : (b.slt a) <;> simp only [h] <;> simp [BitVec.slt] at h ⊢ <;> omega

/-- and one of them. -/
theorem maxsi_eq (a b : BitVec 32) : IntOp.maxsi a b = a ∨ IntOp.maxsi a b = b := by
  unfold IntOp.maxsi
  split <;> simp

/-- A fold of maxima is at least what it starts from and each of its terms. -/
theorem le_foldl_maxsi {α : Type} (g : α → BitVec 32) (l : List α) (v : BitVec 32) :
    v.toInt ≤ (l.foldl (fun r n => IntOp.maxsi r (g n)) v).toInt
      ∧ ∀ n ∈ l, (g n).toInt ≤ (l.foldl (fun r n => IntOp.maxsi r (g n)) v).toInt := by
  induction l generalizing v with
  | nil => exact ⟨le_refl _, fun n hn => absurd hn List.not_mem_nil⟩
  | cons a l ih =>
    obtain ⟨h1, h2⟩ := ih (IntOp.maxsi v (g a))
    obtain ⟨ha, hb⟩ := le_maxsi v (g a)
    refine ⟨ha.trans h1, fun n hn => ?_⟩
    rcases List.mem_cons.1 hn with rfl | hn
    · exact hb.trans h1
    · exact h2 n hn

/-- A fold of maxima is what it starts from or one of its terms. -/
theorem foldl_maxsi_eq {α : Type} (g : α → BitVec 32) (l : List α) (v : BitVec 32) :
    (l.foldl (fun r n => IntOp.maxsi r (g n)) v) = v ∨ ∃ n ∈ l, (l.foldl (fun r n => IntOp.maxsi r (g n)) v) = g n := by
  induction l generalizing v with
  | nil => exact .inl rfl
  | cons a l ih =>
    rw [List.foldl_cons]
    rcases ih (IntOp.maxsi v (g a)) with h | ⟨n, hn, h⟩
    · rcases maxsi_eq v (g a) with h' | h'
      · exact .inl (h.trans h')
      · exact .inr ⟨a, List.mem_cons_self, h.trans h'⟩
    · exact .inr ⟨n, List.mem_cons_of_mem _ hn, h⟩

/-- The table's shape. -/
abbrev Tab : Shape := ⟨2, ![4, 8192]⟩

/-- The running maximum as one windowed maximum. -/
abbrev cumMax (x : Tab.Idx → BitVec 32) (init : (⟨0, ![]⟩ : Shape).Idx → BitVec 32)
    (h : Tab.ReduceWindows ![1, 8192] ![1, 1] ![0, 8191] ![0, 0] Tab) (hu : 0 < (⟨0, ![]⟩ : Shape).numel) : Tab.Idx → BitVec 32 :=
  Host.reduceWindow IntOp.maxsi ![1, 8192] ![1, 1] ![0, 8191] ![0, 0] x init h hu

section
variable (x : Tab.Idx → BitVec 32) (init : (⟨0, ![]⟩ : Shape).Idx → BitVec 32)
    (h : Tab.ReduceWindows ![1, 8192] ![1, 1] ![0, 8191] ![0, 0] Tab) (hu : 0 < (⟨0, ![]⟩ : Shape).numel)

/-- Each word up to a place is at most the running maximum there. -/
theorem le_cumMax (j k : Tab.Idx) (h0 : k 0 = j 0) (h1 : (k 1).val ≤ (j 1).val) : (x k).toInt ≤ (cumMax x init h hu j).toInt := by
  unfold cumMax Host.reduceWindow
  have hk1 : (k 1).val < 8192 := (k 1).isLt
  have hj1 : (j 1).val < 8192 := (j 1).isLt
  let W : Shape := ⟨2, ![1, 8192]⟩
  let w : W.Idx := fun a => match a with
    | ⟨0, _⟩ => ⟨0, Nat.one_pos⟩
    | ⟨1, _⟩ => ⟨(k 1).val + 8191 - (j 1).val, by show _ < 8192; omega⟩
  have key := (le_foldl_maxsi (fun n : Fin W.numel =>
      let p : Fin 2 → Nat := fun a => (j (a.cast h.1.symm)).val * (![1, 1] : Fin 2 → Nat) a + (W.rowMajor.symm n a).val
      if hin : ∀ a, (![0, 8191] : Fin 2 → Nat) a ≤ p a ∧ p a - (![0, 8191] : Fin 2 → Nat) a < Tab.size a then x (fun a => ⟨p a - (![0, 8191] : Fin 2 → Nat) a, (hin a).2⟩)
      else init (Shape.Idx.first hu)) (List.finRange W.numel) (init (Shape.Idx.first hu))).2 (W.rowMajor w) (List.mem_finRange _)
  refine le_trans (le_of_eq ?_) key
  dsimp only
  rw [Equiv.symm_apply_apply]
  have hp0 : (j ((0 : Fin 2).cast h.1.symm)).val = (k 0).val := by rw [h0]; rfl
  have hp1 : (j ((1 : Fin 2).cast h.1.symm)).val = (j 1).val := rfl
  have hw0 : (w 0).val = 0 := rfl
  have hw1 : (w 1).val = (k 1).val + 8191 - (j 1).val := rfl
  have hin : ∀ a : Fin 2, (![0, 8191] : Fin 2 → Nat) a ≤ (j (a.cast h.1.symm)).val * (![1, 1] : Fin 2 → Nat) a + (w a).val
      ∧ (j (a.cast h.1.symm)).val * (![1, 1] : Fin 2 → Nat) a + (w a).val - (![0, 8191] : Fin 2 → Nat) a < Tab.size a := by
    intro a
    match a with
    | ⟨0, _⟩ =>
      have := (k 0).isLt
      refine ⟨Nat.zero_le _, ?_⟩
      show (j ((0 : Fin 2).cast h.1.symm)).val * 1 + (w 0).val - 0 < _
      rw [hp0, hw0]; simpa using this
    | ⟨1, _⟩ =>
      refine ⟨?_, ?_⟩
      · show 8191 ≤ (j ((1 : Fin 2).cast h.1.symm)).val * 1 + (w 1).val
        rw [hp1, hw1]; omega
      · show (j ((1 : Fin 2).cast h.1.symm)).val * 1 + (w 1).val - 8191 < 8192
        rw [hp1, hw1]; omega
  rw [dif_pos hin]
  congr 2
  funext a
  apply Fin.ext
  match a with
  | ⟨0, _⟩ =>
    show (k 0).val = (j ((0 : Fin 2).cast h.1.symm)).val * 1 + (w 0).val - 0
    rw [hp0, hw0]; omega
  | ⟨1, _⟩ =>
    show (k 1).val = (j ((1 : Fin 2).cast h.1.symm)).val * 1 + (w 1).val - 8191
    rw [hp1, hw1]; omega

/-- The running maximum from the least word is one of the words up to the place. -/
theorem cumMax_eq (hi : init (Shape.Idx.first hu) = 2147483648#32) (j : Tab.Idx) :
    ∃ k : Tab.Idx, k 0 = j 0 ∧ (k 1).val ≤ (j 1).val ∧ cumMax x init h hu j = x k := by
  let W : Shape := ⟨2, ![1, 8192]⟩
  have key := foldl_maxsi_eq (fun n : Fin W.numel =>
      let p : Fin 2 → Nat := fun a => (j (a.cast h.1.symm)).val * (![1, 1] : Fin 2 → Nat) a + (W.rowMajor.symm n a).val
      if hin : ∀ a, (![0, 8191] : Fin 2 → Nat) a ≤ p a ∧ p a - (![0, 8191] : Fin 2 → Nat) a < Tab.size a then x (fun a => ⟨p a - (![0, 8191] : Fin 2 → Nat) a, (hin a).2⟩)
      else init (Shape.Idx.first hu)) (List.finRange W.numel) (init (Shape.Idx.first hu))
  have self : cumMax x init h hu j = init (Shape.Idx.first hu) → ∃ k : Tab.Idx, k 0 = j 0 ∧ (k 1).val ≤ (j 1).val ∧ cumMax x init h hu j = x k := by
    intro e
    refine ⟨j, rfl, le_refl _, ?_⟩
    have h1 := le_cumMax x init h hu j j rfl (le_refl _)
    have h2 : (2147483648#32 : BitVec 32).toInt = -2147483648 := by decide
    rw [e, hi] at h1 ⊢
    apply BitVec.eq_of_toInt_eq
    have h3 : (-2147483648 : Int) ≤ (x j).toInt := BitVec.le_toInt (x j)
    rw [h2] at h1 ⊢
    omega
  rcases key with e | ⟨n, -, e⟩
  · exact self e
  · dsimp only at e
    split at e
    next hin =>
      refine ⟨_, ?_, ?_, e⟩
      · apply Fin.ext
        have hw0 : (W.rowMajor.symm n 0).val < 1 := (W.rowMajor.symm n 0).isLt
        show (j ((0 : Fin 2).cast h.1.symm)).val * 1 + (W.rowMajor.symm n 0).val - 0 = (j 0).val
        have : (j ((0 : Fin 2).cast h.1.symm)).val = (j 0).val := rfl
        omega
      · have hw1 : (W.rowMajor.symm n 1).val < 8192 := (W.rowMajor.symm n 1).isLt
        show (j ((1 : Fin 2).cast h.1.symm)).val * 1 + (W.rowMajor.symm n 1).val - 8191 ≤ (j 1).val
        have : (j ((1 : Fin 2).cast h.1.symm)).val = (j 1).val := rfl
        omega
    next => exact self e

end

end Cert.Proof

end
-- ==== Proof.Starts.lean ====
/- The positions at which the documents start, and the two block numbers the launch reads off them.

   A flag marks the first position of each document.  `starts` is the running maximum of the flagged positions: at `q`, the last flagged
   position at or before `q` (zero where there is none).  Floor division by 256, as the host spells it, then gives the number of the block of
   256 positions it lies in. -/
module

public import proofs.«01_k».proof.Proof.CumMax
public import proofs.«01_k».proof.Proof.LoopWords
public import Mathlib.Tactic.NormNum

@[expose] public section

noncomputable section

namespace Cert.Proof

open Idealize.ShloMosaic

/-- Floor division by 256 as the host spells it: round towards zero, less one where signs differ and a remainder is left. -/
def floorDiv (x : BitVec 32) : BitVec 32 :=
  Scalar.select
    (IntOp.andi
      (IntOp.cmpi CmpIPredicate.ne (if x = 0 then 0 else if BitVec.msb x = true then -1 else 1)
        (if (256#32 : BitVec 32) = 0 then 0 else if BitVec.msb 256#32 = true then -1 else 1 : BitVec 32))
      (IntOp.cmpi CmpIPredicate.ne (IntOp.remsi ArithUnit.host x 256#32) 0#32))
    (IntOp.subi (IntOp.divsi ArithUnit.host x 256#32) 1#32) (IntOp.divsi ArithUnit.host x 256#32)

theorem divsi_256 (x : BitVec 32) (hx : x.toNat < 2 ^ 31) : IntOp.divsi ArithUnit.host x 256#32 = BitVec.ofNat 32 (x.toNat / 256) := by
  have hc : ¬ IntOp.SDivCorner x 256#32 := by
    rintro (h | ⟨_, h⟩) <;> exact absurd h (by decide)
  have hm : x.msb = false := by rw [BitVec.msb_eq_decide]; simp; omega
  unfold IntOp.divsi
  have h256 : (256#32 : BitVec 32).msb = false := by decide
  rw [if_neg hc, BitVec.sdiv, hm, h256]
  apply BitVec.eq_of_toNat_eq
  have e : ((256#32 : BitVec 32)).toNat = 256 := rfl
  simp only [BitVec.udiv_eq, BitVec.toNat_udiv, e]
  rw [BitVec.toNat_ofNat]
  omega

theorem floorDiv_eq (x : BitVec 32) (hx : x.toNat < 2 ^ 31) : floorDiv x = BitVec.ofNat 32 (x.toNat / 256) := by
  have hm : x.msb = false := by rw [BitVec.msb_eq_decide]; simp; omega
  unfold floorDiv
  rw [divsi_256 x hx, hm]
  by_cases h0 : x = 0
  · subst h0; decide
  · rw [if_neg h0]
    have h1 : (IntOp.cmpi CmpIPredicate.ne (if false = true then -1 else 1)
        (if (256#32 : BitVec 32) = 0 then 0 else if BitVec.msb 256#32 = true then -1 else 1 : BitVec 32)) = 0#1 := by decide
    rw [h1]
    have h2 : ∀ y : BitVec 1, IntOp.andi 0#1 y = 0#1 := by decide
    rw [h2]
    rfl

/-- `starts` from the flags: the running maximum of the flagged positions. -/
abbrev starts (flag : Tab.Idx → BitVec 1) (init : (⟨0, ![]⟩ : Shape).Idx → BitVec 32)
    (h : Tab.ReduceWindows ![1, 8192] ![1, 1] ![0, 8191] ![0, 0] Tab) (hu : 0 < (⟨0, ![]⟩ : Shape).numel) : Tab.Idx → BitVec 32 :=
  cumMax (fun j => Scalar.select (flag j) (BitVec.ofNat 32 (j 1).val) 0#32) init h hu

/-- A word that is a natural number no greater than `n`. -/
def AtMost (x : BitVec 32) (n : Nat) : Prop := x.toNat ≤ n

theorem starts_le (flag : Tab.Idx → BitVec 1) (init : (⟨0, ![]⟩ : Shape).Idx → BitVec 32)
    (h : Tab.ReduceWindows ![1, 8192] ![1, 1] ![0, 8191] ![0, 0] Tab) (hu : 0 < (⟨0, ![]⟩ : Shape).numel)
    (hi : init (Shape.Idx.first hu) = 2147483648#32) (j : Tab.Idx) : AtMost (starts flag init h hu j) (j 1).val := by
  obtain ⟨k, h0, h1, e⟩ := cumMax_eq (fun j => Scalar.select (flag j) (BitVec.ofNat 32 (j 1).val) 0#32) init h hu hi j
  unfold AtMost starts
  rw [e]
  simp only [Scalar.select]
  split
  · rw [BitVec.toNat_ofNat]
    exact le_trans (Nat.mod_le _ _) h1
  · exact Nat.zero_le _

theorem lo_le {x : BitVec 32} {n : Nat} (h : AtMost x (256 * n)) (hn : n < 32) : (floorDiv x).toNat ≤ n := by
  unfold AtMost at h
  rw [floorDiv_eq x (by omega), BitVec.toNat_ofNat]
  omega

theorem isInt_of_toNat {x : BitVec 32} {n : Nat} (h : x.toNat = n) (hn : n < 2 ^ 31) : Affine.IsInt x n := by
  unfold Affine.IsInt
  rw [BitVec.toInt_eq_toNat_cond]
  split <;> omega

theorem toNat_maxsi {x y : BitVec 32} (hx : x.toNat < 2 ^ 31) (hy : y.toNat < 2 ^ 31) : (IntOp.maxsi x y).toNat = max x.toNat y.toNat := by
  have ex := isInt_of_toNat (x := x) rfl hx
  have ey := isInt_of_toNat (x := y) rfl hy
  unfold Affine.IsInt at ex ey
  unfold IntOp.maxsi
  by_cases h : (y.slt x) <;> simp only [h] <;> simp [BitVec.slt, ex, ey] at h ⊢ <;> omega

theorem toNat_minsi {x y : BitVec 32} (hx : x.toNat < 2 ^ 31) (hy : y.toNat < 2 ^ 31) : (IntOp.minsi x y).toNat = min x.toNat y.toNat := by
  have ex := isInt_of_toNat (x := x) rfl hx
  have ey := isInt_of_toNat (x := y) rfl hy
  unfold Affine.IsInt at ex ey
  unfold IntOp.minsi
  by_cases h : (x.slt y) <;> simp only [h] <;> simp [BitVec.slt, ex, ey] at h ⊢ <;> omega

/-- The second block number: the block after the last start of the block of queries, at most the block of queries, at least the first number. -/
def midOf (x y : BitVec 32) (n : Nat) : BitVec 32 :=
  IntOp.maxsi (IntOp.minsi (floorDiv (IntOp.subi (IntOp.addi x 256#32) 1#32)) (BitVec.ofNat 32 n)) (floorDiv y)

theorem midOf_toNat {x y : BitVec 32} {n : Nat} (hx : AtMost x (255 + 256 * n)) (hy : AtMost y (256 * n)) (hn : n < 32) :
    (midOf x y n).toNat = max (min ((x.toNat + 255) / 256) n) (y.toNat / 256) := by
  unfold AtMost at hx hy
  have e : (IntOp.subi (IntOp.addi x 256#32) 1#32).toNat = x.toNat + 255 := by
    simp only [IntOp.subi, IntOp.addi, BitVec.toNat_sub, BitVec.toNat_add, BitVec.toNat_ofNat]
    omega
  have f : (floorDiv (IntOp.subi (IntOp.addi x 256#32) 1#32)).toNat = (x.toNat + 255) / 256 := by
    rw [floorDiv_eq _ (by omega), e, BitVec.toNat_ofNat]; omega
  have g : (floorDiv y).toNat = y.toNat / 256 := by
    rw [floorDiv_eq _ (by omega), BitVec.toNat_ofNat]; omega
  have h : (BitVec.ofNat 32 n).toNat = n := by rw [BitVec.toNat_ofNat]; omega
  unfold midOf
  have m1 := toNat_minsi (x := floorDiv (IntOp.subi (IntOp.addi x 256#32) 1#32)) (y := BitVec.ofNat 32 n) (by omega) (by omega)
  rw [toNat_maxsi (by omega) (by omega), m1, f, g, h]

end Cert.Proof
-- ==== Proof.KernelTables.lean ====
/- The two tables and the start positions as the launch finds them.

   `Kernel` computes them on the host from the segment ids: a flag where a document starts, the running maximum of the flagged positions, and
   from it for each block of 256 queries the block `lo` in which its first query's document starts and the block `mid` after the one in which
   its last query's document starts, cut to lie between `lo` and the block of queries itself. -/
module

public import proofs.«01_k».proof.Proof.KernelBody
public import proofs.«01_k».proof.Proof.KernelWords
public import proofs.«01_k».proof.Proof.Starts
public import Idealize.ShloMosaic.Lib.StableHlo.RunRead
public import Idealize.ShloMosaic.Lib.StableHlo.ReadAt

@[expose] public section

set_option maxRecDepth 8192

noncomputable section

namespace Cert.Proof.Kernel

open Cert.Kernel Cert.Kernel.Gen
open Idealize.ShloMosaic Idealize.ShloMosaic.TcCoe Idealize.ShloMosaic.StableHlo

variable {F : FTy → Type} [FloatOps F]

section
variable (W : Valuation τ sig (Elt F))

/-- The flags: the first position of a row, and every position whose segment id is not that of the position before. -/
theorem at_v4 : after (hostOps0 (F := F)) W main_v4 =
    concatenate S4x8192 1 [⟨S4x1, broadcastInDim S4x1 ![] bcast_S_S4x1 (constantI S_ 1 1#1)⟩,
      ⟨S4x8191, cmpi .ne (extractStridedSlice S4x8191 ![0, 1] (W main_arg6) slices_S4x8192_S4x8191_0_1)
        (extractStridedSlice S4x8191 ![0, 0] (W main_arg6) slices_S4x8192_S4x8191_0_0)⟩] concatenates_S4x1_S4x8191_S4x8192_d1 := by
  rfl

theorem at_v5 : after (hostOps0 (F := F)) W main_v5 = iotaInDim S8192 32 0 := by
  rfl

theorem at_c_0 : after (hostOps0 (F := F)) W main_c_0 = constantI S_ 32 0#32 := by
  rfl

/-- The running maximum of the flagged positions. -/
theorem at_v7 : after ([hostOps0_1, hostOps0_2].flatten) W main_v7 =
    Host.reduceWindow IntOp.maxsi ![1, 8192] ![1, 1] ![0, 8191] ![0, 0]
      (select (W main_v4) (broadcastInDim S4x8192 ![1] bcast_S8192_S4x8192_1 (W main_v5)) (broadcastInDim S4x8192 ![] bcast_S_S4x8192 (W main_c_0)))
      (broadcastInDim S_ ![] bcast_S_S_ (constantI S_ 32 2147483648#32)) reduceWindows_S4x8192_S4x8192_w1s1p0_0_w8192s1p8191_0 h_S_ := by
  simp only [List.flatten, List.append]
  after_reads_simp
  simp -implicitDefEqProofs only [StableHlo.TRef.toBuf, StableHlo.TRef.ofBuf, cast_cast, cast_eq, id]

theorem at_v9 (j) : after ([hostOps0_3, hostOps0_4, hostOps0_5, hostOps0_6, hostOps0_7].flatten) W main_v9 j =
    floorDiv (W main_v7 (ix2 (j 0) ⟨256 * (j 1).val, by have : (j 1).val < 32 := (j 1).isLt; omega⟩)) := by
  simp only [List.flatten, List.append]
  after_reads_at
  rfl

theorem at_v20 (j) : after ([hostOps0_3, hostOps0_4, hostOps0_5, hostOps0_6, hostOps0_7].flatten) W main_v20 j =
    midOf (W main_v7 (ix2 (j 0) ⟨255 + 256 * (j 1).val, by have : (j 1).val < 32 := (j 1).isLt; omega⟩))
      (W main_v7 (ix2 (j 0) ⟨256 * (j 1).val, by have : (j 1).val < 32 := (j 1).isLt; omega⟩)) (j 1).val := by
  simp only [List.flatten, List.append]
  after_reads_at
  rfl

theorem at_v21 (j) : after ([hostOps0_3, hostOps0_4, hostOps0_5, hostOps0_6, hostOps0_7].flatten) W main_v21 j =
    W main_v7 (ix2 (j 0) (j 2)) := by
  simp only [List.flatten, List.append]
  after_reads_at

end

variable (m : (ℓ : Loc nD τ sig) → Buf (Elt F) ℓ)

/-- The flags of the launch's segment ids. -/
def flags (c : Dev nD) : Tab.Idx → BitVec 1 :=
  concatenate S4x8192 1 [⟨S4x1, broadcastInDim S4x1 ![] bcast_S_S4x1 (constantI S_ 1 1#1)⟩,
    ⟨S4x8191, cmpi .ne (extractStridedSlice S4x8191 ![0, 1] (m ((c : Thread nD τ).loc main_arg6)) slices_S4x8192_S4x8191_0_1)
      (extractStridedSlice S4x8191 ![0, 0] (m ((c : Thread nD τ).loc main_arg6)) slices_S4x8192_S4x8191_0_0)⟩] concatenates_S4x1_S4x8191_S4x8192_d1

/-- The start positions: at `q`, the first position of the document of `q`. -/
def startAt (c : Dev nD) : Tab.Idx → BitVec 32 :=
  starts (flags m c) (broadcastInDim S_ ![] bcast_S_S_ (constantI S_ 32 2147483648#32)) reduceWindows_S4x8192_S4x8192_w1s1p0_0_w8192s1p8191_0 h_S_

theorem startAt_le (c : Dev nD) (j : Tab.Idx) : AtMost (startAt m c j) (j 1).val :=
  by unfold startAt; exact starts_le (flags m c) _ _ _ (by simp only [broadcastInDim, constantI]) j

/-- The valuation after the running maximum. -/
def W7 (c : Dev nD) : Valuation τ sig (Elt F) :=
  after ([hostOps0_1, hostOps0_2].flatten) (after hostOps0 (fun b => m (c, b)))

theorem W7_v7 (c : Dev nD) : W7 m c main_v7 = startAt m c := by
  unfold W7
  rw [at_v7, at_v4, at_v5, at_c_0]
  rfl

theorem V_eq (c : Dev nD) (b : Ref sig .tc) : V m c b = after ([hostOps0_3, hostOps0_4, hostOps0_5, hostOps0_6, hostOps0_7].flatten) (W7 m c) b := by
  rfl

/-- The first table. -/
theorem V_v9 (c : Dev nD) (j) : V m c main_v9 j =
    floorDiv (startAt m c (ix2 (j 0) ⟨256 * (j 1).val, by have : (j 1).val < 32 := (j 1).isLt; omega⟩)) := by
  rw [V_eq, at_v9, W7_v7]

/-- The second. -/
theorem V_v20 (c : Dev nD) (j) : V m c main_v20 j =
    midOf (startAt m c (ix2 (j 0) ⟨255 + 256 * (j 1).val, by have : (j 1).val < 32 := (j 1).isLt; omega⟩))
      (startAt m c (ix2 (j 0) ⟨256 * (j 1).val, by have : (j 1).val < 32 := (j 1).isLt; omega⟩)) (j 1).val := by
  rw [V_eq, at_v20, W7_v7]

/-- The start positions as the launch reads them. -/
theorem V_v21 (c : Dev nD) (j) : V m c main_v21 j = startAt m c (ix2 (j 0) (j 2)) := by
  rw [V_eq, at_v21, W7_v7]

/-- The word of a table that trip `k` reads is the table's entry of the grid point's batch and the trip's block. -/
theorem off6_lt (i : grid0.Coords) (k : Fin k0_t2_loop.trips) : k0_off6 i k = ![(i 0).val, k.val] := by
  have h0 : (i 0).val < 4 := (i 0).isLt
  have hk := t2_lt k
  have e0 : (Scalar.indexCast (BitVec.ofNat 32 (i 0).val)).toNat = (i 0).val := by
    have := toNat_of (Affine.ofNat (i 0).val (e := (i 0).val) (by omega)) (by omega)
    rw [← this]; simp [Scalar.indexCast]
  have e1 : (Scalar.indexCast (Scf.iv 0#32 1#32 k)).toNat = k.val := by
    have := toNat_of (t2_iv k) (by omega)
    have e : (Scalar.indexCast (Scf.iv 0#32 1#32 k)).toNat = (Scf.iv 0#32 1#32 k.val).toNat := by simp [Scalar.indexCast]
    rw [e, this]
  unfold k0_off6
  dsimp only
  rw [e0, e1]

theorem tbl_0 : tbl m 0 = V m 0 main_v9 := rfl

theorem wordAt_0_of (i : grid0.Coords) (k : Fin k0_t2_loop.trips) (X : BufTy.Contents (Elt F) tbM0_0.view.ty) :
    wordAt i tbM0_0 X k = X (ix2 ⟨(i 0).val, (i 0).isLt⟩ ⟨k.val, t2_lt k⟩) := by
  change X _ = X _
  congr 1
  have e := off6_lt i k
  funext a
  apply Fin.ext
  change k0_off6 i k a + 1 * 0 = _
  rw [e]
  match a with
  | ⟨0, _⟩ => rfl
  | ⟨1, _⟩ => rfl

theorem wordAt_0 (i : grid0.Coords) (k : Fin k0_t2_loop.trips) :
    wordAt i tbM0_0 (tbl m 0) k = V m 0 main_v9 (ix2 ⟨(i 0).val, (i 0).isLt⟩ ⟨k.val, t2_lt k⟩) :=
  (wordAt_0_of i k _).trans (congrFun (tbl_0 m) _)

theorem tbl_1 : tbl m 1 = V m 0 main_v20 := rfl

theorem wordAt_1_of (i : grid0.Coords) (k : Fin k0_t2_loop.trips) (X : BufTy.Contents (Elt F) tbM0_1.view.ty) :
    wordAt i tbM0_1 X k = X (ix2 ⟨(i 0).val, (i 0).isLt⟩ ⟨k.val, t2_lt k⟩) := by
  change X _ = X _
  congr 1
  have e := off6_lt i k
  funext a
  apply Fin.ext
  change k0_off6 i k a + 1 * 0 = _
  rw [e]
  match a with
  | ⟨0, _⟩ => rfl
  | ⟨1, _⟩ => rfl

theorem wordAt_1 (i : grid0.Coords) (k : Fin k0_t2_loop.trips) :
    wordAt i tbM0_1 (tbl m 1) k = V m 0 main_v20 (ix2 ⟨(i 0).val, (i 0).isLt⟩ ⟨k.val, t2_lt k⟩) :=
  (wordAt_1_of i k _).trans (congrFun (tbl_1 m) _)

/-- The first start position of a block of queries, and the last. -/
abbrev firstStart (b : Fin 4) (n : Fin 32) : BitVec 32 := startAt m 0 (ix2 b ⟨256 * n.val, by omega⟩)
abbrev lastStart (b : Fin 4) (n : Fin 32) : BitVec 32 := startAt m 0 (ix2 b ⟨255 + 256 * n.val, by omega⟩)

/-- The two block numbers of a block of queries. -/
def lo (b : Fin 4) (n : Fin 32) : Nat := (firstStart m b n).toNat / 256
def mid (b : Fin 4) (n : Fin 32) : Nat := max (min (((lastStart m b n).toNat + 255) / 256) n.val) ((firstStart m b n).toNat / 256)

theorem lo_le_mid (b : Fin 4) (n : Fin 32) : lo m b n ≤ mid m b n := le_max_right _ _

theorem mid_le (b : Fin 4) (n : Fin 32) : mid m b n ≤ n.val := by
  have h1 : AtMost (firstStart m b n) (256 * n.val) := startAt_le m 0 _
  unfold AtMost at h1
  exact max_le (min_le_right _ _) (by omega)

theorem lo_word (i : grid0.Coords) (k : Fin k0_t2_loop.trips) :
    Affine.IsInt (wordAt i tbM0_0 (tbl m 0) k) (lo m ⟨(i 0).val, (i 0).isLt⟩ ⟨k.val, t2_lt k⟩ : Nat) := by
  have hk := t2_lt k
  have h1 : AtMost (firstStart m ⟨(i 0).val, (i 0).isLt⟩ ⟨k.val, t2_lt k⟩) (256 * k.val) := startAt_le m 0 _
  have h2 := h1
  unfold AtMost at h2
  rw [wordAt_0, V_v9]
  refine isInt_of_toNat ?_ (by unfold lo; omega)
  change (floorDiv (firstStart m ⟨(i 0).val, (i 0).isLt⟩ ⟨k.val, t2_lt k⟩)).toNat = _
  rw [floorDiv_eq _ (by omega), BitVec.toNat_ofNat]
  unfold lo
  omega

theorem mid_word (i : grid0.Coords) (k : Fin k0_t2_loop.trips) :
    Affine.IsInt (wordAt i tbM0_1 (tbl m 1) k) (mid m ⟨(i 0).val, (i 0).isLt⟩ ⟨k.val, t2_lt k⟩ : Nat) := by
  have hk := t2_lt k
  have h1 : AtMost (firstStart m ⟨(i 0).val, (i 0).isLt⟩ ⟨k.val, t2_lt k⟩) (256 * k.val) := startAt_le m 0 _
  have h2 : AtMost (lastStart m ⟨(i 0).val, (i 0).isLt⟩ ⟨k.val, t2_lt k⟩) (255 + 256 * k.val) := startAt_le m 0 _
  have h3 := mid_le m ⟨(i 0).val, (i 0).isLt⟩ ⟨k.val, t2_lt k⟩
  rw [wordAt_1, V_v20]
  refine isInt_of_toNat ?_ (by dsimp only at h3; omega)
  exact midOf_toNat h2 h1 hk

/-- The side conditions of the words read hold, whatever the segment ids. -/
theorem tables_ok (i : grid0.Coords) : TablesOK (F := F) i tbM0_0 tbM0_1 (tbl m 0) (tbl m 1) := fun k =>
  ⟨chk2_of (lo_word m i k) (le_trans (lo_le_mid m _ _) (mid_le m _ _)),
    chk1_of (lo_word m i k) (mid_word m i k) (lo_le_mid m _ _) (mid_le m _ _)⟩

theorem ok : Ok m := by
  unfold Ok ok0
  trivial

end Cert.Proof.Kernel
-- ==== Proof.KernelIdealTrip.lean ====
/- One trip of the loop over the blocks of 256 queries, run once at a symbolic trip number, and the invariant of that loop. The trip reads
   the two tables of block numbers and the blocks of the operands, and writes three arrays: the result's block, the scratch array of the
   scores and the accumulator. What it writes is the run's own find, kept as lists of pieces; the values are read off them elsewhere. -/
module

public import proofs.«01_k».proof.Proof.Gen.KernelIdeal.Loops
public import Idealize.ShloMosaic.Lib.Tactic

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the generated invariants. -/
local notation "𝕄G" => MT nD τ sig Unit (Elt F) ℕ (UR sig nD τ) ℕ

/-- What one trip owns: the arrays it only reads, each at its contents (of the two tables the half that a launch lends), and the three
    arrays it writes, at any. -/
abbrev Trip_k0_t2 (c : Dev nD) (arg2 : Memref sig .tc .smem S4x32 .i32) (arg3 : Memref sig .tc .smem S4x32 .i32) (arg4 : Memref sig .tc .vmem S1x1x8192x128 .fp8e4m3) (arg5 : Memref sig .tc .vmem S1x1x8192x128 .fp8e4m3) (arg6 : Memref sig .tc .vmem S1x1x128x8192 .fp8e4m3) (arg7 : Memref sig .tc .vmem S1x8x8192 .f32) (arg10 : Memref sig .tc .vmem S1x1x8192 .i32) (arg13 : Memref sig .tc .vmem S8192x128 .f32) (arg11 : Memref sig .tc .vmem S1x8192x128 .bf16) (arg12 : Memref sig .tc .vmem S8192x256 .f32) (arg14 : Memref sig .tc .vmem S128x256 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg10 : BufTy.Contents (Elt F) arg10.view.ty) (X_arg13 : BufTy.Contents (Elt F) arg13.view.ty) (f11 : BufTy.Contents (Elt F) arg11.view.ty) (f12 : BufTy.Contents (Elt F) arg12.view.ty) (f14 : BufTy.Contents (Elt F) arg14.view.ty) : sProp 𝕄G :=
  iprop((arg2.view.loc (c : Thread nD τ) ↦[arg2.view.set]{fullShare.right} X_arg2) ∗ (arg3.view.loc (c : Thread nD τ) ↦[arg3.view.set]{fullShare.right} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg10.view.loc (c : Thread nD τ) ↦[arg10.view.set]{fullShare} X_arg10) ∗ (arg13.view.loc (c : Thread nD τ) ↦[arg13.view.set]{fullShare} X_arg13) ∗ (arg11.view.loc (c : Thread nD τ) ↦[arg11.view.set]{fullShare} f11) ∗ (arg12.view.loc (c : Thread nD τ) ↦[arg12.view.set]{fullShare} f12) ∗ (arg14.view.loc (c : Thread nD τ) ↦[arg14.view.set]{fullShare} f14))

/-- The word of a table that trip `k` at a grid point reads. -/
abbrev wordAt (i : grid0.Coords) (a : Memref sig .tc .smem S4x32 .i32) (X : BufTy.Contents (Elt F) a.view.ty) (k : Fin k0_t2_loop.trips) : BitVec 32 :=
  View.readAt (Elt F) a.view (Rect.unit (s := S4x32) (k0_off6 i k) S1x1.size (k0_off6_inb i k)).toLoadRect X (Shape.Idx.first (s := S1x1) (numel1_S1x1.symm ▸ Nat.one_pos))

/-- ONE TRIP at a symbolic `k`: what it writes into its three arrays, as pieces, given the side conditions of the two words it reads. -/
@[irreducible] def trip_k0_t2 (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec F S1x8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg10 : BufTy.Contents (Elt F) arg10.view.ty) (X_arg13 : BufTy.Contents (Elt F) arg13.view.ty) (k : Fin k0_t2_loop.trips)
    (h2 : k0_chk2 k (wordAt i arg2 X_arg2 k)) (h1 : k0_chk1 k (wordAt i arg2 X_arg2 k) (wordAt i arg3 X_arg3 k)) :
    Σ' (L11 : BufTy.Contents (Elt F) arg12.view.ty → BufTy.Contents (Elt F) arg14.view.ty → List (View.Piece (Elt F) S1x8192x128 .bf16))
       (L12 : BufTy.Contents (Elt F) arg12.view.ty → BufTy.Contents (Elt F) arg14.view.ty → List (View.Piece (Elt F) S8192x256 .f32)),
       { C14 : BufTy.Contents (Elt F) arg12.view.ty → BufTy.Contents (Elt F) arg14.view.ty → BufTy.Contents (Elt F) arg14.view.ty //
      ∀ (E : Set ℕ) (f11 : BufTy.Contents (Elt F) arg11.view.ty) (f12 : BufTy.Contents (Elt F) arg12.view.ty) (f14 : BufTy.Contents (Elt F) arg14.view.ty),
      Trip_k0_t2 (F := F) c arg2 arg3 arg4 arg5 arg6 arg7 arg10 arg13 arg11 arg12 arg14 X_arg2 X_arg3 X_arg4 X_arg5 X_arg6 X_arg7 X_arg10 X_arg13 f11 f12 f14
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg0 v9 v11 k ())
          (fun _ => Trip_k0_t2 (F := F) c arg2 arg3 arg4 arg5 arg6 arg7 arg10 arg13 arg11 arg12 arg14 X_arg2 X_arg3 X_arg4 X_arg5 X_arg6 X_arg7 X_arg10 X_arg13 (arg11.view.writes (Elt F) f11 (L11 f12 f14)) (arg12.view.writes (Elt F) f12 (L12 f12 f14)) (C14 f12 f14)) } := by
  refine ⟨?_, ?_, ?_, fun E f11 f12 f14 => ?run⟩
  case run =>
    unfold k0_t2_body
    simp only [k0_part1_eq_skeleton, k0_part2_eq_skeleton]
    iintro ⟨HR_arg2, HR_arg3, HR_arg4, HR_arg5, HR_arg6, HR_arg7, HR_arg10, HR_arg13, HW_arg11, HW_arg12, HW_arg14⟩
    have h2' : ∀ w, w = wordAt i arg2 X_arg2 k → k0_chk2 k w := fun w h => h ▸ h2
    have h1' : ∀ w u, w = wordAt i arg2 X_arg2 k → u = wordAt i arg3 X_arg3 k → k0_chk1 k w u := fun w u h h' => h ▸ h' ▸ h1
    sl_exec (disch := first | (with_reducible refine h2' _ ?_; rfl) | (with_reducible refine h1' _ _ ?_ ?_ <;> rfl))
    sl_step
    sl_close

/-- Trip `k`'s contribution to the state before it: its pieces of the result in front, the scores' array and the accumulator as it leaves
    them. Past the last trip, and where a side condition of the words read fails, the state itself. -/
@[irreducible] def st_k0_t2Step (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec F S1x8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg10 : BufTy.Contents (Elt F) arg10.view.ty) (X_arg13 : BufTy.Contents (Elt F) arg13.view.ty) (k : ℕ)
    (prev : List (View.Piece (Elt F) S1x8192x128 .bf16) × BufTy.Contents (Elt F) arg12.view.ty × BufTy.Contents (Elt F) arg14.view.ty) :
    List (View.Piece (Elt F) S1x8192x128 .bf16) × BufTy.Contents (Elt F) arg12.view.ty × BufTy.Contents (Elt F) arg14.view.ty :=
  if h : ∃ h : k < k0_t2_loop.trips, k0_chk2 ⟨k, h⟩ (wordAt i arg2 X_arg2 ⟨k, h⟩) ∧ k0_chk1 ⟨k, h⟩ (wordAt i arg2 X_arg2 ⟨k, h⟩) (wordAt i arg3 X_arg3 ⟨k, h⟩) then
    ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 ⟨k, h.1⟩ h.2.1 h.2.2).1 prev.2.1 prev.2.2 ++ prev.1,
     arg12.view.writes (Elt F) prev.2.1 ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 ⟨k, h.1⟩ h.2.1 h.2.2).2.1 prev.2.1 prev.2.2),
     (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 ⟨k, h.1⟩ h.2.1 h.2.2).2.2.1 prev.2.1 prev.2.2)
  else prev

/-- The state before trip `k`: the pieces of the result written so far, last first, and the contents of the two scratch arrays. -/
def st_k0_t2 (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec F S1x8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg10 : BufTy.Contents (Elt F) arg10.view.ty) (X_arg13 : BufTy.Contents (Elt F) arg13.view.ty)
    (G12 : BufTy.Contents (Elt F) arg12.view.ty) (G14 : BufTy.Contents (Elt F) arg14.view.ty) : ℕ →
    List (View.Piece (Elt F) S1x8192x128 .bf16) × BufTy.Contents (Elt F) arg12.view.ty × BufTy.Contents (Elt F) arg14.view.ty
  | 0 => ([], G12, G14)
  | k + 1 => st_k0_t2Step 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 k (st_k0_t2 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 G12 G14 k)

theorem st_k0_t2_succ (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec F S1x8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg10 : BufTy.Contents (Elt F) arg10.view.ty) (X_arg13 : BufTy.Contents (Elt F) arg13.view.ty)
    (G12 : BufTy.Contents (Elt F) arg12.view.ty) (G14 : BufTy.Contents (Elt F) arg14.view.ty) (k : Fin k0_t2_loop.trips)
    (h2 : k0_chk2 k (wordAt i arg2 X_arg2 k)) (h1 : k0_chk1 k (wordAt i arg2 X_arg2 k) (wordAt i arg3 X_arg3 k)) (prev)
    (hp : st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 G12 G14 k.val = prev) :
    st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 G12 G14 (k.val + 1)
      = ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 k h2 h1).1 prev.2.1 prev.2.2 ++ prev.1,
         arg12.view.writes (Elt F) prev.2.1 ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 k h2 h1).2.1 prev.2.1 prev.2.2),
         (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 k h2 h1).2.2.1 prev.2.1 prev.2.2) := by
  subst hp
  rw [st_k0_t2.eq_2]; unfold st_k0_t2Step
  exact dif_pos ⟨k.isLt, h2, h1⟩

/-- The side conditions of every trip at a grid point: what the two tables must satisfy for the loop to have a meaning. -/
abbrev TablesOK (i : grid0.Coords) (arg2 : Memref sig .tc .smem S4x32 .i32) (arg3 : Memref sig .tc .smem S4x32 .i32) (X_arg2 : BufTy.Contents (Elt F) arg2.view.ty) (X_arg3 : BufTy.Contents (Elt F) arg3.view.ty) : Prop :=
  ∀ k : Fin k0_t2_loop.trips, k0_chk2 k (wordAt i arg2 X_arg2 k) ∧ k0_chk1 k (wordAt i arg2 X_arg2 k) (wordAt i arg3 X_arg3 k)

/-- THE INVARIANT before trip `k`: what is only read, at its contents; the three arrays written, as the state says. -/
abbrev inv_k0_t2 (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec F S1x8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg10 : BufTy.Contents (Elt F) arg10.view.ty) (X_arg13 : BufTy.Contents (Elt F) arg13.view.ty)
    (G11 : BufTy.Contents (Elt F) arg11.view.ty) (G12 : BufTy.Contents (Elt F) arg12.view.ty) (G14 : BufTy.Contents (Elt F) arg14.view.ty) (k : ℕ) (_ : Unit) : sProp 𝕄G :=
  iprop((arg2.view.loc (c : Thread nD τ) ↦[arg2.view.set]{fullShare.right} X_arg2) ∗ (arg3.view.loc (c : Thread nD τ) ↦[arg3.view.set]{fullShare.right} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg10.view.loc (c : Thread nD τ) ↦[arg10.view.set]{fullShare} X_arg10) ∗ (arg13.view.loc (c : Thread nD τ) ↦[arg13.view.set]{fullShare} X_arg13) ∗ (∃ f, (arg11.view.loc (c : Thread nD τ) ↦[arg11.view.set]{fullShare} f) ∗ ⌜f = arg11.view.writes (Elt F) G11 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 G12 G14 k).1⌝)
    ∗ (∃ f, (arg12.view.loc (c : Thread nD τ) ↦[arg12.view.set]{fullShare} f) ∗ ⌜f = (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 G12 G14 k).2.1⌝)
    ∗ (∃ f, (arg14.view.loc (c : Thread nD τ) ↦[arg14.view.set]{fullShare} f) ∗ ⌜f = (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 G12 G14 k).2.2⌝)
    ∗ ⌜TablesOK (F := F) i arg2 arg3 X_arg2 X_arg3⌝)

set_option warn.classDefReducibility false in
/-- THE LOOP BY ITS INVARIANT: each trip steps the state. -/
@[sl_loop] def loopInv_k0_t2 (𝒱 : Variants) (c : Dev nD) (bd : Option 𝒱.V) (E : Set ℕ) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec F S1x8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg10 : BufTy.Contents (Elt F) arg10.view.ty) (X_arg13 : BufTy.Contents (Elt F) arg13.view.ty)
    (G11 : BufTy.Contents (Elt F) arg11.view.ty) (G12 : BufTy.Contents (Elt F) arg12.view.ty) (G14 : BufTy.Contents (Elt F) arg14.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg0 v9 v11 where
  inv := inv_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 G11 G12 G14
  step k acc := by
    iintro ⟨HR_arg2, HR_arg3, HR_arg4, HR_arg5, HR_arg6, HR_arg7, HR_arg10, HR_arg13, ⟨%f_11, HW_arg11, %h_11⟩, ⟨%f_12, HW_arg12, %h_12⟩, ⟨%f_14, HW_arg14, %h_14⟩, %hok⟩
    iapply (wp_wand_r Idealize.ShloMosaic.frame (wpE (defs₀ (F := F)) 𝒱 (c : Thread nD τ) bd) E)
    isplitl [HR_arg2 HR_arg3 HR_arg4 HR_arg5 HR_arg6 HR_arg7 HR_arg10 HR_arg13 HW_arg11 HW_arg12 HW_arg14]
    · iapply ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 k (hok k).1 (hok k).2).2.2.2 E f_11 f_12 f_14)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg10]; · iexact HR_arg10
      isplitl [HR_arg13]; · iexact HR_arg13
      isplitl [HW_arg11]; · iexact HW_arg11
      isplitl [HW_arg12]; · iexact HW_arg12
      iexact HW_arg14
    · iintro %yld ⟨HR_arg2, HR_arg3, HR_arg4, HR_arg5, HR_arg6, HR_arg7, HR_arg10, HR_arg13, HW_arg11, HW_arg12, HW_arg14⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg10]; · iexact HR_arg10
      isplitl [HR_arg13]; · iexact HR_arg13
      simp only [st_k0_t2_succ (F := F) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 G12 G14 k (hok k).1 (hok k).2 _ rfl]
      isplitl [HW_arg11]
      · iexists _; isplitl [HW_arg11]; · iexact HW_arg11
        ipureintro; rw [h_11, h_12, h_14, ← View.writes_append]
      isplitl [HW_arg12]
      · iexists _; isplitl [HW_arg12]; · iexact HW_arg12
        ipureintro; rw [h_12, h_14]
      isplitl [HW_arg14]
      · iexists _; isplitl [HW_arg14]; · iexact HW_arg14
        ipureintro; rw [h_12, h_14]
      ipureintro; exact hok

end Cert.Proof.KernelIdeal
-- ==== Proof.KernelIdealKit.lean ====
/- The program up to its one pipelined region: the arrays' contents there, each window's block, the tables as the body is handed them, and
   the frame's post read off any run of the region. -/
module

public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resource algebra of the run. -/
local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7] (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨hostOps0_fresh, hostOps0_1_fresh, hostOps0_2_fresh, hostOps0_3_fresh, hostOps0_4_fresh, hostOps0_5_fresh, hostOps0_6_fresh, hostOps0_7_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S4x32 .i32 := Memref.whole main_v9
abbrev htbM0_0 : tbM0_0.IsWhole := Memref.isWhole_whole _
abbrev tbM0_1 : Memref sig .tc .smem S4x32 .i32 := Memref.whole main_v20
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).2 main_arg6 (by decide : main_arg6 ∈ Pipeline.restRefs sig spec0)).trans (V_main_arg6 m c)⟩) h

/-- Each window's current staging memref at point `t`, spelled as the pipeline passes it (`bodyAt0`), and its wholeness. -/
abbrev ms0_0 (hO : Ok m) (t : Fin (cfgM m hO).N) : Memref sig .tc .vmem S1x1x8192x128 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x8192x128 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x128x8192 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x8x8192 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x8x8192 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x8x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x8192 .i32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x8192x128 .bf16 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S8192x256 .f32 := Memref.whole cc0_scratch0
abbrev scM0_1 : Memref sig .tc .vmem S8192x128 .f32 := Memref.whole cc0_scratch1
abbrev scM0_2 : Memref sig .tc .vmem S128x256 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Proof.KernelIdeal

end
-- ==== Proof.KernelIdealBody.lean ====
/- The body of the kernel run once on whole buffers: the scales of the keys are spread over the lanes, the scales of the values are
   loaded, and the loop over the blocks of queries goes by its invariant. The result's buffer ends with the loop's pieces written over what
   it held; the pieces are functions of what the three scratch arrays held, which the values do not depend on (shown elsewhere). -/
module

public import proofs.«01_k».proof.Proof.KernelIdealTrip
public import proofs.«01_k».proof.Proof.KernelIdealKit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resource algebra of the run. -/
local notation "𝕄" => MT nD τ sig Unit (Elt F) ℕ (UR sig nD τ) ℕ

set_option maxHeartbeats 4000000 in
/-- The body's run on whole buffers, the inputs' at their contents and the others' at anything, for tables whose words pass the body's own
    checks (`TablesOK`): the pieces are the ones the run finds. -/
noncomputable def kernelRun (c : Dev nD) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole)
    (x0 : Vec F S1x1x8192x128 .fp8e4m3) (x1 : Vec F S1x1x8192x128 .fp8e4m3) (x2 : Vec F S1x1x128x8192 .fp8e4m3) (x3 : Vec F S1x8x8192 .f32) (x4 : Vec F S1x8x8192 .f32) (x5 : Vec F S1x8x128 .f32) (x6 : Vec F S1x1x8192 .i32) (xt0 : BufTy.Contents (Elt F) arg2.view.ty) (xt1 : BufTy.Contents (Elt F) arg3.view.ty) (hT : TablesOK (F := F) i arg2 arg3 xt0 xt1) :
    { L7 : BufTy.Contents (Elt F) arg12.view.ty → BufTy.Contents (Elt F) arg13.view.ty → BufTy.Contents (Elt F) arg14.view.ty → List (View.Piece (Elt F) S1x8192x128 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (arg2.view.loc (c : Thread nD τ) ↦[arg2.view.set]{fullShare.right} xt0) ∗ (arg3.view.loc (c : Thread nD τ) ↦[arg3.view.set]{fullShare.right} xt1)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ f12, ∃ f13, ∃ f14, ∃ f, arg11.view.loc (c : Thread nD τ) ↦[arg11.view.set]{fullShare} arg11.view.writes (Elt F) f (L7 f12 f13 f14)) ∗ (∃ d, owns (c : Thread nD τ) arg12 fullShare d) ∗ (∃ d, owns (c : Thread nD τ) arg13 fullShare d) ∗ (∃ d, owns (c : Thread nD τ) arg14 fullShare d) ∗ (arg2.view.loc (c : Thread nD τ) ↦[arg2.view.set]{fullShare.right} xt0) ∗ (arg3.view.loc (c : Thread nD τ) ↦[arg3.view.set]{fullShare.right} xt1)) -∗ K ⟨⟩))
          ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_attn_eq_skeleton]; unfold cc0_attn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, HT0, HT1, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists fs0, fs1, fs2, _; iexact H7
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    iexact HT1

end Cert.Proof.KernelIdeal

end
-- ==== Proof.KernelIdealRun.lean ====
/- The region's run with nothing stated of the result: the proof data of the pipeline, the body obligation at every grid point with the
   result's window forgotten, and from it that every argument array ends as it began and every semaphore at zero. -/
module

public import proofs.«01_k».proof.Proof.KernelIdealBody

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resource algebra of the run. -/
local notation "𝕄" => MT nD τ sig Unit (Elt F) ℕ (UR sig nD τ) ℕ

variable (m : (ℓ : Loc nD τ sig) → Buf (Elt F) ℓ) (ρ : Dev nD → PrngReg)

/-- The pipeline's proof data, the result's window stated by `outB`: the arrays as the region finds them; after the body each input's buffer
    at its block and the result's at `outB`; the invariant the scratch buffers, the generator register and the tables' halves. -/
def dats (hO : Ok m) (outB : (c : Dev nD) → Fin (cfgM m hO).N → Vec F S1x8192x128 .bf16) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outB c t
  Φ _ := iprop(Pipeline.ΦA spec0 c ∗ Pipeline.ΦT pre0 (tbl m) c)
  q _ := fullShare
  owed _ := 0

/-- The proof data's arrays are the region-entry contents. -/
theorem A_eq (hO : Ok m) (outB) (c : Dev nD) (w : Fin (cfgM m hO).W) : (dats m hO outB 0 c).A w = V m c (Pipeline.arrRef spec0 w) := by
  dsimp only [dats]

/-! What the body leaves, window by window. -/

theorem after0_0 (hO : Ok m) (outB) (c : Dev nD) (t : Fin (cfgM m hO).N) : (dats m hO outB 0 c).after 0 t = iblk m hO c 0 t := by dsimp only [dats]; try rfl
theorem after0_1 (hO : Ok m) (outB) (c : Dev nD) (t : Fin (cfgM m hO).N) : (dats m hO outB 0 c).after 1 t = iblk m hO c 1 t := by dsimp only [dats]; try rfl
theorem after0_2 (hO : Ok m) (outB) (c : Dev nD) (t : Fin (cfgM m hO).N) : (dats m hO outB 0 c).after 2 t = iblk m hO c 2 t := by dsimp only [dats]; try rfl
theorem after0_3 (hO : Ok m) (outB) (c : Dev nD) (t : Fin (cfgM m hO).N) : (dats m hO outB 0 c).after 3 t = iblk m hO c 3 t := by dsimp only [dats]; try rfl
theorem after0_4 (hO : Ok m) (outB) (c : Dev nD) (t : Fin (cfgM m hO).N) : (dats m hO outB 0 c).after 4 t = iblk m hO c 4 t := by dsimp only [dats]; try rfl
theorem after0_5 (hO : Ok m) (outB) (c : Dev nD) (t : Fin (cfgM m hO).N) : (dats m hO outB 0 c).after 5 t = iblk m hO c 5 t := by dsimp only [dats]; try rfl
theorem after0_6 (hO : Ok m) (outB) (c : Dev nD) (t : Fin (cfgM m hO).N) : (dats m hO outB 0 c).after 6 t = iblk m hO c 6 t := by dsimp only [dats]; try rfl
theorem after0_7 (hO : Ok m) (outB) (c : Dev nD) (t : Fin (cfgM m hO).N) : (dats m hO outB 0 c).after 7 t = outB c t := by dsimp only [dats]; try rfl

/-! Each input's current staging buffer holds its block at every point. -/

theorem before0_0 (hO : Ok m) (outB : (c : Dev nD) → Fin (cfgM m hO).N → Vec F S1x8192x128 .bf16) (c : Dev nD) (t : Fin (cfgM m hO).N) (d) : (dats m hO outB 0 c).before 0 t d = iblk m hO c 0 t :=
  before0_0_of m hO (dats m hO outB 0 c) (A_eq m hO outB c 0) (after0_0 m hO outB c) t d
theorem before0_1 (hO : Ok m) (outB : (c : Dev nD) → Fin (cfgM m hO).N → Vec F S1x8192x128 .bf16) (c : Dev nD) (t : Fin (cfgM m hO).N) (d) : (dats m hO outB 0 c).before 1 t d = iblk m hO c 1 t :=
  before0_1_of m hO (dats m hO outB 0 c) (A_eq m hO outB c 1) (after0_1 m hO outB c) t d
theorem before0_2 (hO : Ok m) (outB : (c : Dev nD) → Fin (cfgM m hO).N → Vec F S1x8192x128 .bf16) (c : Dev nD) (t : Fin (cfgM m hO).N) (d) : (dats m hO outB 0 c).before 2 t d = iblk m hO c 2 t :=
  before0_2_of m hO (dats m hO outB 0 c) (A_eq m hO outB c 2) (after0_2 m hO outB c) t d
theorem before0_3 (hO : Ok m) (outB : (c : Dev nD) → Fin (cfgM m hO).N → Vec F S1x8192x128 .bf16) (c : Dev nD) (t : Fin (cfgM m hO).N) (d) : (dats m hO outB 0 c).before 3 t d = iblk m hO c 3 t :=
  before0_3_of m hO (dats m hO outB 0 c) (A_eq m hO outB c 3) (after0_3 m hO outB c) t d
theorem before0_4 (hO : Ok m) (outB : (c : Dev nD) → Fin (cfgM m hO).N → Vec F S1x8192x128 .bf16) (c : Dev nD) (t : Fin (cfgM m hO).N) (d) : (dats m hO outB 0 c).before 4 t d = iblk m hO c 4 t :=
  before0_4_of m hO (dats m hO outB 0 c) (A_eq m hO outB c 4) (after0_4 m hO outB c) t d
theorem before0_5 (hO : Ok m) (outB : (c : Dev nD) → Fin (cfgM m hO).N → Vec F S1x8192x128 .bf16) (c : Dev nD) (t : Fin (cfgM m hO).N) (d) : (dats m hO outB 0 c).before 5 t d = iblk m hO c 5 t :=
  before0_5_of m hO (dats m hO outB 0 c) (A_eq m hO outB c 5) (after0_5 m hO outB c) t d
theorem before0_6 (hO : Ok m) (outB : (c : Dev nD) → Fin (cfgM m hO).N → Vec F S1x8192x128 .bf16) (c : Dev nD) (t : Fin (cfgM m hO).N) (d) : (dats m hO outB 0 c).before 6 t d = iblk m hO c 6 t :=
  before0_6_of m hO (dats m hO outB 0 c) (A_eq m hO outB c 6) (after0_6 m hO outB c) t d

/-- The tables as the body's run holds them: each half held on the whole memref's elements. -/
theorem tbPt0_set (c : Dev nD) (f0 : TbBuf0 (F := F) c tbM0_0) (f1 : TbBuf0 (F := F) c tbM0_1) :
    iprop(tbPt0 c tbM0_0 f0 ∗ tbPt0 c tbM0_1 f1 : sProp 𝕄) = iprop((tbM0_0.view.loc (c : Thread nD τ) ↦[tbM0_0.view.set]{fullShare.right} f0) ∗ (tbM0_1.view.loc (c : Thread nD τ) ↦[tbM0_1.view.set]{fullShare.right} f1)) := by
  have h0 : (tbM0_0 : Memref sig .tc .smem S4x32 .i32).view.set = Finset.univ := View.set_whole _
  have h1 : (tbM0_1 : Memref sig .tc .smem S4x32 .i32).view.set = Finset.univ := View.set_whole _
  rw [h0, h1]

/-- The tables' halves the region hands the body, in that form. -/
theorem PhiT0_set (c : Dev nD) : (Pipeline.ΦT pre0 (tbl m) c : sProp 𝕄) = iprop((tbM0_0.view.loc (c : Thread nD τ) ↦[tbM0_0.view.set]{fullShare.right} tbl m 0) ∗ (tbM0_1.view.loc (c : Thread nD τ) ↦[tbM0_1.view.set]{fullShare.right} tbl m 1)) :=
  (PhiT0_eq m c).trans (tbPt0_set c (tbl m 0) (tbl m 1))

/-- The body at point `t`. -/
abbrev bodyAt (hO : Ok m) (t : Fin (cfgM m hO).N) : Prog (TpuEff nD τ sig (Elt F) Λ₀ .tc) PUnit :=
  cc0_attn (grid0.coords t) tbM0_0 htbM0_0 tbM0_1 htbM0_1 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _)

/-- The body table's row at point `t`'s slots is that body. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]; try rfl

/-- The run of the body at point `t`. -/
abbrev runAt (hO : Ok m) (hT : ∀ i, TablesOK (F := F) i tbM0_0 tbM0_1 (tbl m 0) (tbl m 1)) (c : Dev nD) (t : Fin (cfgM m hO).N) :=
  kernelRun (F := F) c (grid0.coords t) tbM0_0 htbM0_0 tbM0_1 htbM0_1 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) (tbl m 0) (tbl m 1) (hT _)

/-- What the body obligation is given at point `t`, the windows one by one, -/
def bodyPre (hO : Ok m) (outB : (c : Dev nD) → Fin (cfgM m hO).N → Vec F S1x8192x128 .bf16) (c : Dev nD) (t : Fin (cfgM m hO).N) : sProp 𝕄 :=
  iprop((dats m hO outB 0 c).Φ t.castSucc ∗ (dats m hO outB 0 c).owesAt () t.castSucc
    ∗ (∃ d, owns (c : Thread nD τ) (ms0_0 m hO t) fullShare ((dats m hO outB 0 c).before 0 t d))
    ∗ (∃ d, owns (c : Thread nD τ) (ms0_1 m hO t) fullShare ((dats m hO outB 0 c).before 1 t d))
    ∗ (∃ d, owns (c : Thread nD τ) (ms0_2 m hO t) fullShare ((dats m hO outB 0 c).before 2 t d))
    ∗ (∃ d, owns (c : Thread nD τ) (ms0_3 m hO t) fullShare ((dats m hO outB 0 c).before 3 t d))
    ∗ (∃ d, owns (c : Thread nD τ) (ms0_4 m hO t) fullShare ((dats m hO outB 0 c).before 4 t d))
    ∗ (∃ d, owns (c : Thread nD τ) (ms0_5 m hO t) fullShare ((dats m hO outB 0 c).before 5 t d))
    ∗ (∃ d, owns (c : Thread nD τ) (ms0_6 m hO t) fullShare ((dats m hO outB 0 c).before 6 t d))
    ∗ (∃ X, owns (c : Thread nD τ) (ms0_7 m hO t) fullShare X))

/-- and what it returns, the result's window left at `Q7`. -/
def bodyPost (hO : Ok m) (outB : (c : Dev nD) → Fin (cfgM m hO).N → Vec F S1x8192x128 .bf16) (c : Dev nD) (t : Fin (cfgM m hO).N) (Q7 : sProp 𝕄) : sProp 𝕄 :=
  iprop((dats m hO outB 0 c).Φ t.succ ∗ (dats m hO outB 0 c).owesAt () t.succ
    ∗ owns (c : Thread nD τ) (ms0_0 m hO t) fullShare ((dats m hO outB 0 c).after 0 t)
    ∗ owns (c : Thread nD τ) (ms0_1 m hO t) fullShare ((dats m hO outB 0 c).after 1 t)
    ∗ owns (c : Thread nD τ) (ms0_2 m hO t) fullShare ((dats m hO outB 0 c).after 2 t)
    ∗ owns (c : Thread nD τ) (ms0_3 m hO t) fullShare ((dats m hO outB 0 c).after 3 t)
    ∗ owns (c : Thread nD τ) (ms0_4 m hO t) fullShare ((dats m hO outB 0 c).after 4 t)
    ∗ owns (c : Thread nD τ) (ms0_5 m hO t) fullShare ((dats m hO outB 0 c).after 5 t)
    ∗ owns (c : Thread nD τ) (ms0_6 m hO t) fullShare ((dats m hO outB 0 c).after 6 t)
    ∗ Q7)

set_option maxHeartbeats 1600000 in
/-- The body at any point, the result's window left at anything the run's pieces give: the inputs' buffers hold their blocks, so the run
    applies; the invariant hands the body its scratch buffers and the tables and takes them back. -/
theorem sound_body (hO : Ok m) (outB : (c : Dev nD) → Fin (cfgM m hO).N → Vec F S1x8192x128 .bf16) (hT : ∀ i, TablesOK (F := F) i tbM0_0 tbM0_1 (tbl m 0) (tbl m 1)) (c : Dev nD) (t : Fin (cfgM m hO).N) (Q7 : sProp 𝕄)
    (hQ : ∀ f12 f13 f14 f, ((ms0_7 m hO t).view.loc (c : Thread nD τ) ↦[(ms0_7 m hO t).view.set]{fullShare} (ms0_7 m hO t).view.writes (Elt F) f ((runAt m hO hT c t).1 f12 f13 f14)) ⊢ Q7) :
    bodyPre m hO outB c t ⊢ wp frame (wpE (defs₀ (F := F)) Variants.none c none) Set.univ (bodyAt m hO t) (fun _ => bodyPost m hO outB c t Q7) := by
  unfold bodyPre bodyPost bodyAt
  simp only [before0_0, before0_1, before0_2, before0_3, before0_4, before0_5, before0_6]
  rw [show (dats m hO outB 0 c).Φ t.succ = (dats m hO outB 0 c).Φ t.castSucc from rfl,
    show (dats m hO outB 0 c).owesAt () t.succ = (dats m hO outB 0 c).owesAt () t.castSucc from rfl,
    after0_0, after0_1, after0_2, after0_3, after0_4, after0_5, after0_6]
  rw [show (dats m hO outB 0 c).Φ t.castSucc = iprop(Pipeline.ΦA spec0 c ∗ Pipeline.ΦT pre0 (tbl m) c) from rfl, PhiT0_set, PhiA0_eq]
  iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runAt m hO hT c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HT0]; · iexact HT0
  isplitl [HT1]; · iexact HT1
  iintro ⟨H0, H1, H2, H3, H4, H5, H6, ⟨%e12, %e13, %e14, %e7, H7⟩, HS0, HS1, HS2, HT0, HT1⟩
  isplitl [HS0 HS1 HS2 Hg HT0 HT1]
  · isplitl [HS0 HS1 HS2 Hg]
    · isplitl [HS0 HS1 HS2]
      · isplitl [HS0]; · iexact HS0
        isplitl [HS1]; · iexact HS1
        iexact HS2
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (hQ e12 e13 e14 e7)
  iexact H7

/-! ## Forgetting the result's window -/

/-- The one window of which nothing is stated: the result's. -/
def fgt : Fin 8 → Bool := fun w => w.val == 7

theorem fgt_0 : fgt (0 : Fin 8) = false := by decide
theorem fgt_1 : fgt (1 : Fin 8) = false := by decide
theorem fgt_2 : fgt (2 : Fin 8) = false := by decide
theorem fgt_3 : fgt (3 : Fin 8) = false := by decide
theorem fgt_4 : fgt (4 : Fin 8) = false := by decide
theorem fgt_5 : fgt (5 : Fin 8) = false := by decide
theorem fgt_6 : fgt (6 : Fin 8) = false := by decide
theorem fgt_7 : fgt (7 : Fin 8) = true := by decide

/-- The body obligation at every point, the result's window forgotten. -/
theorem body_obligation (hO : Ok m) (outB : (c : Dev nD) → Fin (cfgM m hO).N → Vec F S1x8192x128 .bf16) (hT : ∀ i, TablesOK (F := F) i tbM0_0 tbM0_1 (tbl m 0) (tbl m 1)) (c : Dev nD) :
    BodyObligation (dats (F := F) m hO outB 0 c) (defs₀ (F := F)) Variants.none () Set.univ fgt := fun t => by
  rw [bigSep_W0, bigSep_W0, defs₀_row m hO]
  refine triple_restated (sound_body m hO outB hT c t (iprop(∃ X, owns (c : Thread nD τ) (ms0_7 m hO t) fullShare X)) ?_) rfl .rfl fun _ => .rfl
  intro f12 f13 f14 f
  iintro H
  iexists _; unfold owns; iexists _; isplitr
  swap; · iexact H
  ipureintro; rfl

set_option backward.isDefEq.respectTransparency.types false in
/-- Every weakly fair execution of the program terminates, with the inputs' arrays unchanged and every semaphore at zero. -/
theorem run_forget (hO : Ok m) (outB : (c : Dev nD) → Fin (cfgM m hO).N → Vec F S1x8192x128 .bf16) (hT : ∀ i, TablesOK (F := F) i tbM0_0 tbM0_1 (tbl m 0) (tbl m 1)) :
    θ_run defs (onTc (τ := τ) (main (F := F))) (s₀ m ρ) (fun r => (Pipeline.RDat.FramePost (cfgM m hO) (fun c => (dats m hO outB 0 c).toRForget fgt) (V m)) r ∧ r.2.sem = fun _ => 0) :=
  Pipeline.θ_run_frameP_forget (Q' := _) pcfgs (fun _ => adm m hO) (dats m hO outB) (0 : Fin 1) launch0 defs₀ Variants.none fgt m ρ main
    (hbody := fun c => (body_obligation m hO outB hT c).loose) (hshare := fun c => (dats m hO outB 0 c).share_full fun _ => rfl)
    (howed := fun _ _ => rfl) (V := V m) (hmain := hmain m Variants.none) (hA := A_eq m hO outB) (hpf := V_pre m)
    (hΦ := fun _ _ => rfl)

/-- Some contents of the result's window. -/
def outJunk : Vec F S1x8192x128 .bf16 := (Memref.whole cc0_stg7_0 : Memref sig .tc .vmem S1x8192x128 .bf16).view.read (Elt F) (Memref.whole cc0_stg7_0 : Memref sig .tc .vmem S1x8192x128 .bf16).view.junk

set_option maxHeartbeats 1600000 in
/-- The frame: every argument array ends as it began, and every semaphore at zero. -/
theorem frame (hO : Ok m) (hT : ∀ i, TablesOK (F := F) i tbM0_0 tbM0_1 (tbl m 0) (tbl m 1)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1.arr_in c 0 rfl).trans ((A_eq m hO (fun _ _ => outJunk) c 0).trans (V_main_arg0 m c)),
      (h.1.arr_in c 1 rfl).trans ((A_eq m hO (fun _ _ => outJunk) c 1).trans (V_main_arg1 m c)),
      (h.1.arr_in c 2 rfl).trans ((A_eq m hO (fun _ _ => outJunk) c 2).trans (V_main_arg2 m c)),
      (h.1.arr_in c 3 rfl).trans ((A_eq m hO (fun _ _ => outJunk) c 3).trans (V_main_arg3 m c)),
      (h.1.arr_in c 4 rfl).trans ((A_eq m hO (fun _ _ => outJunk) c 4).trans (V_main_arg4 m c)),
      (h.1.arr_in c 5 rfl).trans ((A_eq m hO (fun _ _ => outJunk) c 5).trans (V_main_arg5 m c)),
      ((h.1 c).2 main_arg6 (by decide : main_arg6 ∈ Pipeline.restRefs sig spec0)).trans (V_main_arg6 m c)⟩, h.2⟩) (run_forget m ρ hO (fun _ _ => outJunk) hT)

end Cert.Proof.KernelIdeal

end
-- ==== Proof.KernelIdealWords.lean ====
/- What the body checks of the two block numbers it reads holds whenever they are in order: `lo ≤ mid ≤` the trip's own number. -/
module

public import proofs.«01_k».proof.Proof.KernelIdealTrip
public import proofs.«01_k».proof.Proof.LoopWords

@[expose] public section

set_option maxRecDepth 8192

noncomputable section

namespace Cert.Proof.KernelIdeal

open Cert.KernelIdeal Cert.KernelIdeal.Gen
open Idealize.ShloMosaic

/-- The outer loop runs 32 trips, from number 0. -/
theorem t2_between : Between k0_t2_loop 0 32 :=
  ⟨Affine.ofNat _ (by omega), Affine.addi (Affine.ofNat 0 (e := 0) (by omega)) (Affine.ofNat 32 (e := 32) (by omega)) (by omega), rfl⟩

/-- The outer trip's number as a word. -/
theorem t2_iv (k : Fin k0_t2_loop.trips) : Affine.IsInt (Scf.iv 0#32 1#32 k.val) ((k.val : Nat) : Int) :=
  Affine.relit (t2_between.iv (by omega) k) (by omega)

theorem t2_lt (k : Fin k0_t2_loop.trips) : k.val < 32 := by
  have := t2_between.lt k; omega

section
variable {k : Fin k0_t2_loop.trips} {x y : BitVec 32} {lo mid : Nat} (hx : Affine.IsInt x lo) (hy : Affine.IsInt y mid)
include hx

theorem t7_between (h : lo ≤ k.val) : Between (k0_t7_loop k x) lo (k.val + 1) :=
  between_main hx (Affine.addi (t2_iv k) (Affine.ofNat 1 (e := 1) (by omega)) (by have := t2_lt k; push_cast; omega)) (by omega) (by have := t2_lt k; omega)

theorem t8_between (h : lo ≤ k.val) : Between (k0_t8_loop k x) (k.val + 1) (k.val + 1) :=
  between_rem hx (Affine.addi (t2_iv k) (Affine.ofNat 1 (e := 1) (by omega)) (by have := t2_lt k; push_cast; omega)) (by omega) (by have := t2_lt k; omega)

theorem chk2_of (h : lo ≤ k.val) : k0_chk2 k x := by
  have b7 := t7_between hx h
  have b8 := t8_between hx h
  have hk := t2_lt k
  refine ⟨b7.ok (by omega) (by omega), fun t => b7.dvd (by omega) t, fun t => in_rows2 (b7.inside (by omega) t), fun t => in_lanes4 (b7.inside (by omega) t),
    b8.ok (by omega) (by omega), fun t => b8.dvd (by omega) t, fun t => in_rows2 (b8.inside (by omega) t), fun t => in_lanes4 (b8.inside (by omega) t)⟩

include hy

theorem t3_between (h : lo ≤ mid) (h2 : mid ≤ 32) : Between (k0_t3_loop x y) lo mid := between_main hx hy h (by omega)
theorem t4_between (h : lo ≤ mid) (h2 : mid ≤ 32) : Between (k0_t4_loop x y) mid mid := between_rem hx hy h (by omega)

omit hx in
theorem t5_between (h : mid ≤ k.val) : Between (k0_t5_loop k y) mid k.val := between_main hy (t2_iv k) h (by have := t2_lt k; omega)
omit hx in
theorem t6_between (h : mid ≤ k.val) : Between (k0_t6_loop k y) k.val k.val := between_rem hy (t2_iv k) h (by have := t2_lt k; omega)

theorem chk1_of (h : lo ≤ mid) (h2 : mid ≤ k.val) : k0_chk1 k x y := by
  have hk := t2_lt k
  have b3 := t3_between hx hy h (by omega)
  have b4 := t4_between hx hy h (by omega)
  have b5 := t5_between hy h2
  have b6 := t6_between hy h2
  refine ⟨b3.ok (by omega) (by omega), fun t => b3.dvd (by omega) t, fun t => in_rows4 (b3.inside (by omega) t), fun t => in_rows2 (b3.inside (by omega) t), fun t => in_rows2 (b3.inside (by omega) t),
    b4.ok (by omega) (by omega), fun t => b4.dvd (by omega) t, fun t => in_rows4 (b4.inside (by omega) t), fun t => in_rows2 (b4.inside (by omega) t), fun t => in_rows2 (b4.inside (by omega) t),
    b5.ok (by omega) (by omega), fun t => b5.dvd (by omega) t, fun t => in_rows4 (b5.inside (by omega) t), fun t => in_rows2 (b5.inside (by omega) t), fun t => in_rows2 (b5.inside (by omega) t),
    b6.ok (by omega) (by omega), fun t => b6.dvd (by omega) t, fun t => in_rows4 (b6.inside (by omega) t), fun t => in_rows2 (b6.inside (by omega) t), fun t => in_rows2 (b6.inside (by omega) t)⟩

end

end Cert.Proof.KernelIdeal

end
-- ==== Proof.KernelIdealTables.lean ====
/- The two tables and the start positions as the launch finds them.

   `KernelIdeal` computes them on the host from the segment ids: a flag where a document starts, the running maximum of the flagged positions, and
   from it for each block of 256 queries the block `lo` in which its first query's document starts and the block `mid` after the one in which
   its last query's document starts, cut to lie between `lo` and the block of queries itself. -/
module

public import proofs.«01_k».proof.Proof.KernelIdealBody
public import proofs.«01_k».proof.Proof.KernelIdealWords
public import proofs.«01_k».proof.Proof.Starts
public import Idealize.ShloMosaic.Lib.StableHlo.RunRead
public import Idealize.ShloMosaic.Lib.StableHlo.ReadAt

@[expose] public section

set_option maxRecDepth 8192

noncomputable section

namespace Cert.Proof.KernelIdeal

open Cert.KernelIdeal Cert.KernelIdeal.Gen
open Idealize.ShloMosaic Idealize.ShloMosaic.TcCoe Idealize.ShloMosaic.StableHlo

variable {F : FTy → Type} [FloatOps F] [Named F]

section
variable (W : Valuation τ sig (Elt F))

/-- The flags: the first position of a row, and every position whose segment id is not that of the position before. -/
theorem at_v4 : after (hostOps0 (F := F)) W main_v4 =
    concatenate S4x8192 1 [⟨S4x1, broadcastInDim S4x1 ![] bcast_S_S4x1 (constantI S_ 1 1#1)⟩,
      ⟨S4x8191, cmpi .ne (extractStridedSlice S4x8191 ![0, 1] (W main_arg6) slices_S4x8192_S4x8191_0_1)
        (extractStridedSlice S4x8191 ![0, 0] (W main_arg6) slices_S4x8192_S4x8191_0_0)⟩] concatenates_S4x1_S4x8191_S4x8192_d1 := by
  rfl

theorem at_v5 : after (hostOps0 (F := F)) W main_v5 = iotaInDim S8192 32 0 := by
  rfl

theorem at_c_0 : after (hostOps0 (F := F)) W main_c_0 = constantI S_ 32 0#32 := by
  rfl

/-- The running maximum of the flagged positions. -/
theorem at_v7 : after ([hostOps0_1, hostOps0_2].flatten) W main_v7 =
    Host.reduceWindow IntOp.maxsi ![1, 8192] ![1, 1] ![0, 8191] ![0, 0]
      (select (W main_v4) (broadcastInDim S4x8192 ![1] bcast_S8192_S4x8192_1 (W main_v5)) (broadcastInDim S4x8192 ![] bcast_S_S4x8192 (W main_c_0)))
      (broadcastInDim S_ ![] bcast_S_S_ (constantI S_ 32 2147483648#32)) reduceWindows_S4x8192_S4x8192_w1s1p0_0_w8192s1p8191_0 h_S_ := by
  simp only [List.flatten, List.append]
  after_reads_simp
  simp -implicitDefEqProofs only [StableHlo.TRef.toBuf, StableHlo.TRef.ofBuf, cast_cast, cast_eq, id]

theorem at_v9 (j) : after ([hostOps0_3, hostOps0_4, hostOps0_5, hostOps0_6, hostOps0_7].flatten) W main_v9 j =
    floorDiv (W main_v7 (ix2 (j 0) ⟨256 * (j 1).val, by have : (j 1).val < 32 := (j 1).isLt; omega⟩)) := by
  simp only [List.flatten, List.append]
  after_reads_at
  rfl

theorem at_v20 (j) : after ([hostOps0_3, hostOps0_4, hostOps0_5, hostOps0_6, hostOps0_7].flatten) W main_v20 j =
    midOf (W main_v7 (ix2 (j 0) ⟨255 + 256 * (j 1).val, by have : (j 1).val < 32 := (j 1).isLt; omega⟩))
      (W main_v7 (ix2 (j 0) ⟨256 * (j 1).val, by have : (j 1).val < 32 := (j 1).isLt; omega⟩)) (j 1).val := by
  simp only [List.flatten, List.append]
  after_reads_at
  rfl

theorem at_v21 (j) : after ([hostOps0_3, hostOps0_4, hostOps0_5, hostOps0_6, hostOps0_7].flatten) W main_v21 j =
    W main_v7 (ix2 (j 0) (j 2)) := by
  simp only [List.flatten, List.append]
  after_reads_at

end

variable (m : (ℓ : Loc nD τ sig) → Buf (Elt F) ℓ)

/-- The flags of the launch's segment ids. -/
def flags (c : Dev nD) : Tab.Idx → BitVec 1 :=
  concatenate S4x8192 1 [⟨S4x1, broadcastInDim S4x1 ![] bcast_S_S4x1 (constantI S_ 1 1#1)⟩,
    ⟨S4x8191, cmpi .ne (extractStridedSlice S4x8191 ![0, 1] (m ((c : Thread nD τ).loc main_arg6)) slices_S4x8192_S4x8191_0_1)
      (extractStridedSlice S4x8191 ![0, 0] (m ((c : Thread nD τ).loc main_arg6)) slices_S4x8192_S4x8191_0_0)⟩] concatenates_S4x1_S4x8191_S4x8192_d1

/-- The start positions: at `q`, the first position of the document of `q`. -/
def startAt (c : Dev nD) : Tab.Idx → BitVec 32 :=
  starts (flags m c) (broadcastInDim S_ ![] bcast_S_S_ (constantI S_ 32 2147483648#32)) reduceWindows_S4x8192_S4x8192_w1s1p0_0_w8192s1p8191_0 h_S_

theorem startAt_le (c : Dev nD) (j : Tab.Idx) : AtMost (startAt m c j) (j 1).val :=
  by unfold startAt; exact starts_le (flags m c) _ _ _ (by simp only [broadcastInDim, constantI]) j

/-- The valuation after the running maximum. -/
def W7 (c : Dev nD) : Valuation τ sig (Elt F) :=
  after ([hostOps0_1, hostOps0_2].flatten) (after hostOps0 (fun b => m (c, b)))

theorem W7_v7 (c : Dev nD) : W7 m c main_v7 = startAt m c := by
  unfold W7
  rw [at_v7, at_v4, at_v5, at_c_0]
  rfl

theorem V_eq (c : Dev nD) (b : Ref sig .tc) : V m c b = after ([hostOps0_3, hostOps0_4, hostOps0_5, hostOps0_6, hostOps0_7].flatten) (W7 m c) b := by
  rfl

/-- The first table. -/
theorem V_v9 (c : Dev nD) (j) : V m c main_v9 j =
    floorDiv (startAt m c (ix2 (j 0) ⟨256 * (j 1).val, by have : (j 1).val < 32 := (j 1).isLt; omega⟩)) := by
  rw [V_eq, at_v9, W7_v7]

/-- The second. -/
theorem V_v20 (c : Dev nD) (j) : V m c main_v20 j =
    midOf (startAt m c (ix2 (j 0) ⟨255 + 256 * (j 1).val, by have : (j 1).val < 32 := (j 1).isLt; omega⟩))
      (startAt m c (ix2 (j 0) ⟨256 * (j 1).val, by have : (j 1).val < 32 := (j 1).isLt; omega⟩)) (j 1).val := by
  rw [V_eq, at_v20, W7_v7]

/-- The start positions as the launch reads them. -/
theorem V_v21 (c : Dev nD) (j) : V m c main_v21 j = startAt m c (ix2 (j 0) (j 2)) := by
  rw [V_eq, at_v21, W7_v7]

/-- The word of a table that trip `k` reads is the table's entry of the grid point's batch and the trip's block. -/
theorem off6_lt (i : grid0.Coords) (k : Fin k0_t2_loop.trips) : k0_off6 i k = ![(i 0).val, k.val] := by
  have h0 : (i 0).val < 4 := (i 0).isLt
  have hk := t2_lt k
  have e0 : (Scalar.indexCast (BitVec.ofNat 32 (i 0).val)).toNat = (i 0).val := by
    have := toNat_of (Affine.ofNat (i 0).val (e := (i 0).val) (by omega)) (by omega)
    rw [← this]; simp [Scalar.indexCast]
  have e1 : (Scalar.indexCast (Scf.iv 0#32 1#32 k)).toNat = k.val := by
    have := toNat_of (t2_iv k) (by omega)
    have e : (Scalar.indexCast (Scf.iv 0#32 1#32 k)).toNat = (Scf.iv 0#32 1#32 k.val).toNat := by simp [Scalar.indexCast]
    rw [e, this]
  unfold k0_off6
  dsimp only
  rw [e0, e1]

theorem tbl_0 : tbl m 0 = V m 0 main_v9 := rfl

theorem wordAt_0_of (i : grid0.Coords) (k : Fin k0_t2_loop.trips) (X : BufTy.Contents (Elt F) tbM0_0.view.ty) :
    wordAt i tbM0_0 X k = X (ix2 ⟨(i 0).val, (i 0).isLt⟩ ⟨k.val, t2_lt k⟩) := by
  change X _ = X _
  congr 1
  have e := off6_lt i k
  funext a
  apply Fin.ext
  change k0_off6 i k a + 1 * 0 = _
  rw [e]
  match a with
  | ⟨0, _⟩ => rfl
  | ⟨1, _⟩ => rfl

theorem wordAt_0 (i : grid0.Coords) (k : Fin k0_t2_loop.trips) :
    wordAt i tbM0_0 (tbl m 0) k = V m 0 main_v9 (ix2 ⟨(i 0).val, (i 0).isLt⟩ ⟨k.val, t2_lt k⟩) :=
  (wordAt_0_of i k _).trans (congrFun (tbl_0 m) _)

theorem tbl_1 : tbl m 1 = V m 0 main_v20 := rfl

theorem wordAt_1_of (i : grid0.Coords) (k : Fin k0_t2_loop.trips) (X : BufTy.Contents (Elt F) tbM0_1.view.ty) :
    wordAt i tbM0_1 X k = X (ix2 ⟨(i 0).val, (i 0).isLt⟩ ⟨k.val, t2_lt k⟩) := by
  change X _ = X _
  congr 1
  have e := off6_lt i k
  funext a
  apply Fin.ext
  change k0_off6 i k a + 1 * 0 = _
  rw [e]
  match a with
  | ⟨0, _⟩ => rfl
  | ⟨1, _⟩ => rfl

theorem wordAt_1 (i : grid0.Coords) (k : Fin k0_t2_loop.trips) :
    wordAt i tbM0_1 (tbl m 1) k = V m 0 main_v20 (ix2 ⟨(i 0).val, (i 0).isLt⟩ ⟨k.val, t2_lt k⟩) :=
  (wordAt_1_of i k _).trans (congrFun (tbl_1 m) _)

/-- The first start position of a block of queries, and the last. -/
abbrev firstStart (b : Fin 4) (n : Fin 32) : BitVec 32 := startAt m 0 (ix2 b ⟨256 * n.val, by omega⟩)
abbrev lastStart (b : Fin 4) (n : Fin 32) : BitVec 32 := startAt m 0 (ix2 b ⟨255 + 256 * n.val, by omega⟩)

/-- The two block numbers of a block of queries. -/
def lo (b : Fin 4) (n : Fin 32) : Nat := (firstStart m b n).toNat / 256
def mid (b : Fin 4) (n : Fin 32) : Nat := max (min (((lastStart m b n).toNat + 255) / 256) n.val) ((firstStart m b n).toNat / 256)

theorem lo_le_mid (b : Fin 4) (n : Fin 32) : lo m b n ≤ mid m b n := le_max_right _ _

theorem mid_le (b : Fin 4) (n : Fin 32) : mid m b n ≤ n.val := by
  have h1 : AtMost (firstStart m b n) (256 * n.val) := startAt_le m 0 _
  unfold AtMost at h1
  exact max_le (min_le_right _ _) (by omega)

theorem lo_word (i : grid0.Coords) (k : Fin k0_t2_loop.trips) :
    Affine.IsInt (wordAt i tbM0_0 (tbl m 0) k) (lo m ⟨(i 0).val, (i 0).isLt⟩ ⟨k.val, t2_lt k⟩ : Nat) := by
  have hk := t2_lt k
  have h1 : AtMost (firstStart m ⟨(i 0).val, (i 0).isLt⟩ ⟨k.val, t2_lt k⟩) (256 * k.val) := startAt_le m 0 _
  have h2 := h1
  unfold AtMost at h2
  rw [wordAt_0, V_v9]
  refine isInt_of_toNat ?_ (by unfold lo; omega)
  change (floorDiv (firstStart m ⟨(i 0).val, (i 0).isLt⟩ ⟨k.val, t2_lt k⟩)).toNat = _
  rw [floorDiv_eq _ (by omega), BitVec.toNat_ofNat]
  unfold lo
  omega

theorem mid_word (i : grid0.Coords) (k : Fin k0_t2_loop.trips) :
    Affine.IsInt (wordAt i tbM0_1 (tbl m 1) k) (mid m ⟨(i 0).val, (i 0).isLt⟩ ⟨k.val, t2_lt k⟩ : Nat) := by
  have hk := t2_lt k
  have h1 : AtMost (firstStart m ⟨(i 0).val, (i 0).isLt⟩ ⟨k.val, t2_lt k⟩) (256 * k.val) := startAt_le m 0 _
  have h2 : AtMost (lastStart m ⟨(i 0).val, (i 0).isLt⟩ ⟨k.val, t2_lt k⟩) (255 + 256 * k.val) := startAt_le m 0 _
  have h3 := mid_le m ⟨(i 0).val, (i 0).isLt⟩ ⟨k.val, t2_lt k⟩
  rw [wordAt_1, V_v20]
  refine isInt_of_toNat ?_ (by dsimp only at h3; omega)
  exact midOf_toNat h2 h1 hk

/-- The side conditions of the words read hold, whatever the segment ids. -/
theorem tables_ok (i : grid0.Coords) : TablesOK (F := F) i tbM0_0 tbM0_1 (tbl m 0) (tbl m 1) := fun k =>
  ⟨chk2_of (lo_word m i k) (le_trans (lo_le_mid m _ _) (mid_le m _ _)),
    chk1_of (lo_word m i k) (mid_word m i k) (lo_le_mid m _ _) (mid_le m _ _)⟩

theorem ok : Ok m := by
  unfold Ok ok0
  trivial

end Cert.Proof.KernelIdeal
-- ==== Proof.KernelIdealPay.lean ====
/- What one block's operations compute over the extended reals, entry by entry: a block of scores and its mask, the running maximum over the
   blocks, the weights, their running sums, and the result's block. -/
module

public import proofs.«01_k».proof.Proof.KernelIdealWords
public import proofs.«01_k».proof.Proof.Gen.KernelIdeal.Skeleton
public import Idealize.ShloMosaic.Lib.Pointwise
public import Idealize.ShloMosaic.PureOps.Ideal

@[expose] public section

set_option maxRecDepth 8192
noncomputable section
namespace Cert.Proof.KernelIdeal

open Cert.KernelIdeal Cert.KernelIdeal.Gen
open Idealize.ShloMosaic Idealize.ShloMosaic.TcCoe

/-- The pattern of −∞. -/
theorem ofBits_neg_inf : Ideal.ofBits FTy.f32 4286578688#32 = (⊥ : EReal) := by
  simp [Ideal.ofBits, Ideal.ieee]

theorem ofBits_eight : Ideal.ofBits FTy.f32 1090519040#32 = ((8 : ℝ) : EReal) := by
  simp [Ideal.ofBits, Ideal.ieee, -EReal.coe_mul]; norm_num

/-- A selection under two comparisons of words. -/
theorem select_window {α : Type} (r s q : BitVec 32) (a b : α) :
    Scalar.select (IntOp.andi (IntOp.cmpi CmpIPredicate.sge r s) (IntOp.cmpi CmpIPredicate.sle r q)) a b
      = if s.toInt ≤ r.toInt ∧ r.toInt ≤ q.toInt then a else b := by
  rw [show IntOp.cmpi CmpIPredicate.sge r s = BitVec.ofBool (decide (s.toInt ≤ r.toInt)) from rfl, show IntOp.cmpi CmpIPredicate.sle r q = BitVec.ofBool (decide (r.toInt ≤ q.toInt)) from rfl]
  by_cases h1 : s.toInt ≤ r.toInt <;> by_cases h2 : r.toInt ≤ q.toInt <;> simp [h1, h2, Scalar.select, IntOp.andi]

/-- The row number of a block's row. -/
theorem row_toInt {j : BitVec 32} {n x : ℕ} (h : Affine.IsInt j n) (hn : n < 64) (hx : x < 256) :
    (IntOp.addi (BitVec.ofNat 32 x) (Scalar.muli j 256#32)).toInt = ((256 * n + x : ℕ) : ℤ) := by
  have := Affine.addi (Affine.ofNat x (e := x) (by omega)) (Affine.muli h (Affine.ofNat 256 (e := 256) (by omega)) (e := ((256 * n : ℕ) : ℤ)) (by push_cast; omega))
    (e := ((256 * n + x : ℕ) : ℤ)) (by push_cast; omega)
  unfold Affine.IsInt at this
  exact this

/-- The number of a head in its group of eight, as the program computes it. -/
theorem head_word : ∀ n : Fin 32, Scalar.select
                (Scalar.andi
                  (Scalar.xori
                    (Scalar.cmpi CmpIPredicate.slt
                      (Scalar.remsi (BitVec.ofNat 32 n.val)
                        (Scalar.select (Scalar.cmpi CmpIPredicate.eq 8#32 0#32) 1#32 8#32))
                      0#32)
                    (Scalar.cmpi CmpIPredicate.slt (Scalar.select (Scalar.cmpi CmpIPredicate.eq 8#32 0#32) 1#32 8#32)
                      0#32))
                  (Scalar.cmpi CmpIPredicate.ne
                    (Scalar.remsi (BitVec.ofNat 32 n.val)
                      (Scalar.select (Scalar.cmpi CmpIPredicate.eq 8#32 0#32) 1#32 8#32))
                    0#32))
                (Scalar.addi
                  (Scalar.remsi (BitVec.ofNat 32 n.val)
                    (Scalar.select (Scalar.cmpi CmpIPredicate.eq 8#32 0#32) 1#32 8#32))
                  (Scalar.select (Scalar.cmpi CmpIPredicate.eq 8#32 0#32) 1#32 8#32))
                (Scalar.remsi (BitVec.ofNat 32 n.val)
                  (Scalar.select (Scalar.cmpi CmpIPredicate.eq 8#32 0#32) 1#32 8#32)) = BitVec.ofNat 32 (n.val % 8) := by decide

/-- The one row of eight a head's number picks. -/
theorem pick_row (v : Fin 8 → EReal) (n : ℕ) :
    (∑ x : Fin 8, Scalar.select (IntOp.cmpi CmpIPredicate.eq (BitVec.ofNat 32 x.val) (BitVec.ofNat 32 (n % 8))) (v x) 0) = v ⟨n % 8, Nat.mod_lt _ (by omega)⟩ := by
  have key : ∀ x y : Fin 8, IntOp.cmpi CmpIPredicate.eq (BitVec.ofNat 32 x.val) (BitVec.ofNat 32 y.val) = if x = y then 1 else 0 := by decide
  rw [Finset.sum_eq_single (⟨n % 8, Nat.mod_lt _ (by omega)⟩ : Fin 8)]
  · have := key ⟨n % 8, Nat.mod_lt _ (by omega)⟩ ⟨n % 8, Nat.mod_lt _ (by omega)⟩
    dsimp only at this
    rw [this, if_pos rfl]; rfl
  · intro b _ hb
    have := key b ⟨n % 8, Nat.mod_lt _ (by omega)⟩
    dsimp only at this
    rw [this, if_neg hb]; rfl
  · intro h; exact absurd (Finset.mem_univ _) h

/-- A block of scores: the rows' dot products, each times its key's scale. -/
theorem pay20 (v28 : Vec Ideal S1x1x256x128 .fp8e4m3) (v132 : Vec Ideal S1x1x256x128 .fp8e4m3) (v136 : Vec Ideal S256x128 .f32) (w : EReal) (x y : Fin 256)
    (hw : ∀ d : Fin 128, v136 (ix2 x d) = w) :
    k0_pay21 (F := Ideal) v28 v132 v136 (ix2 x y) = (∑ d : Fin 128, v132 (ix4 0 0 x d) * v28 (ix4 0 0 y d)) * w := by
  unfold k0_pay21 k0_pay20 k0_pay10
  pointwise
  congr 1
  split <;> exact hw _

/-- A block of scores, masked. -/
theorem pay15 (k0_t2 : Fin k0_t2_loop.trips) (v28 : Vec Ideal S1x1x256x128 .fp8e4m3) (v43 : Vec Ideal S1x1x256 .i32) (v47 : Elt Ideal .i32) (v50 : Elt Ideal .i32) (k0_t3 : Fin (k0_t3_loop v47 v50).trips)
    (v132 : Vec Ideal S1x1x256x128 .fp8e4m3) (v136 : Vec Ideal S256x128 .f32) (w : EReal) (x y : Fin 256) (n : ℕ) (hn : n < 32) (h3 : Affine.IsInt (Scf.iv v47 1#32 k0_t3.val) n)
    (hw : ∀ d : Fin 128, v136 (ix2 x d) = w) :
    k0_pay15 (F := Ideal) 0#32 1#32 k0_t2 v28 v43 v47 v50 k0_t3 v132 v136 (ix2 x y)
      = if (v43 (ix3 0 0 y) : BitVec 32).toInt ≤ ((256 * n + x.val : ℕ) : ℤ) ∧ 256 * n + x.val ≤ 256 * k0_t2.val + y.val then (∑ d : Fin 128, v132 (ix4 0 0 x d) * v28 (ix4 0 0 y d)) * w else ⊥ := by
  unfold k0_pay15 k0_pay14 k0_pay12 k0_pay10
  pointwise
  rw [select_window, row_toInt h3 (by omega) x.isLt, row_toInt (t2_iv k0_t2) (by have := t2_lt k0_t2; omega) y.isLt, ofBits_neg_inf]
  simp only [Nat.cast_le]
  congr 2
  split <;> exact hw _

/-- The block on the diagonal. -/
theorem pay27 (arg15 : BitVec 32) (v29 : FVec Ideal S256x128 .fp8e4m3) (v44 : IVec S1x256 32) (v69 : Vec Ideal S1x1x256x128 .fp8e4m3) (v73 : Vec Ideal S256x128 .f32) (w : EReal) (x y : Fin 256) (n : ℕ) (hn : n < 32)
    (h3 : Affine.IsInt arg15 n) (hw : ∀ d : Fin 128, v73 (ix2 x d) = w) :
    k0_pay27 (F := Ideal) arg15 v29 v44 v69 v73 (ix2 x y)
      = if (v44 (ix2 0 y) : BitVec 32).toInt ≤ ((256 * n + x.val : ℕ) : ℤ) ∧ 256 * n + x.val ≤ 256 * n + y.val then (∑ d : Fin 128, v69 (ix4 0 0 x d) * v29 (ix2 y d)) * w else ⊥ := by
  unfold k0_pay27 k0_pay26
  pointwise
  rw [select_window, row_toInt h3 (by omega) x.isLt, row_toInt h3 (by omega) y.isLt, ofBits_neg_inf]
  simp only [Nat.cast_le]
  congr 2
  split <;> exact hw _

theorem pay26_27 (arg15 : BitVec 32) (v29 : FVec Ideal S256x128 .fp8e4m3) (v44 : IVec S1x256 32) (v69 : Vec Ideal S1x1x256x128 .fp8e4m3) (v73 : Vec Ideal S256x128 .f32) :
    k0_pay26 (F := Ideal) arg15 v29 v44 v69 v73 = k0_pay27 (F := Ideal) arg15 v29 v44 v69 v73 := by
  unfold k0_pay27
  exact (shapeCast_id _ _).symm

/-- The running maximum, over the rows of one remainder mod 8. -/
theorem fold_le (f : Fin 32 → EReal) (x : EReal) : Finset.fold max (Ideal.ofBits FTy.f32 4286578688#32) f Finset.univ ≤ x ↔ ∀ i, f i ≤ x := by
  rw [Finset.fold_max_le, ofBits_neg_inf]
  simp

theorem fold_le8 (f : Fin 8 → EReal) (x : EReal) : Finset.fold max (Ideal.ofBits FTy.f32 4286578688#32) f Finset.univ ≤ x ↔ ∀ i, f i ≤ x := by
  rw [Finset.fold_max_le, ofBits_neg_inf]
  simp

/-- Row `8 j + s` of a block. -/
abbrev sub (j : Fin 32) (s : Fin 8) : Fin 256 := ⟨j.val * 8 + s.val, by omega⟩

theorem pay16 (k0_t2 : Fin k0_t2_loop.trips) (v28 : Vec Ideal S1x1x256x128 .fp8e4m3) (v43 : Vec Ideal S1x1x256 .i32) (v47 : Elt Ideal .i32) (v50 : Elt Ideal .i32) (k0_t3 : Fin (k0_t3_loop v47 v50).trips) (a) (v132) (v136)
    (s : Fin 8) (y : Fin 256) (x : EReal) :
    k0_pay16 (F := Ideal) 0#32 1#32 k0_t2 v28 v43 v47 v50 k0_t3 a v132 v136 (ix2 s y) ≤ x
      ↔ a (ix2 s y) ≤ x ∧ ∀ j : Fin 32, k0_pay15 (F := Ideal) 0#32 1#32 k0_t2 v28 v43 v47 v50 k0_t3 v132 v136 (ix2 (sub j s) y) ≤ x := by
  unfold k0_pay16 k0_pay15
  generalize k0_pay14 (F := Ideal) 0#32 1#32 k0_t2 v28 v43 v47 v50 k0_t3 v132 v136 = P
  pointwise
  rw [max_le_iff, fold_le]

theorem pay22 (v28 : Vec Ideal S1x1x256x128 .fp8e4m3) (a) (v132) (v136)
    (s : Fin 8) (y : Fin 256) (x : EReal) :
    k0_pay22 (F := Ideal) v28 a v132 v136 (ix2 s y) ≤ x
      ↔ a (ix2 s y) ≤ x ∧ ∀ j : Fin 32, k0_pay21 (F := Ideal) v28 v132 v136 (ix2 (sub j s) y) ≤ x := by
  unfold k0_pay22 k0_pay21
  generalize k0_pay20 (F := Ideal) v28 v132 v136 = P
  pointwise
  rw [max_le_iff, fold_le]

/-- The maximum over all rows, and from it the exponents' shift. -/
theorem pay28 (arg15 : BitVec 32) (v29 : FVec Ideal S256x128 .fp8e4m3) (v41 : FVec Ideal S1x256 .f32) (v44 : IVec S1x256 32) (a : FVec Ideal S8x256 .f32) (v69 : Vec Ideal S1x1x256x128 .fp8e4m3) (v73 : Vec Ideal S256x128 .f32) (y : Fin 256) :
    ∃ M : EReal, k0_pay28 (F := Ideal) arg15 v29 v41 v44 a v69 v73 (ix2 0 y) = M * v41 (ix2 0 y) - ((8 : ℝ) : EReal)
      ∧ ∀ x, M ≤ x ↔ ∀ s : Fin 8, a (ix2 s y) ≤ x ∧ ∀ j : Fin 32, k0_pay27 (F := Ideal) arg15 v29 v44 v69 v73 (ix2 (sub j s) y) ≤ x := by
  unfold k0_pay28
  rw [pay26_27]
  generalize k0_pay27 (F := Ideal) arg15 v29 v44 v69 v73 = P
  pointwise
  rw [ofBits_eight]
  refine ⟨_, rfl, fun x => ?_⟩
  rw [fold_le8]
  refine forall_congr' fun s => ?_
  rw [max_le_iff, fold_le]

/-- One block's share of the weighted sum of values. -/
theorem pay4 (v41 : FVec Ideal S1x256 .f32) (v101 : FVec Ideal S1x256 .f32) (v132 : Vec Ideal S256x256 .f32) (v138 : Vec Ideal S128x256 .f32) (v140 : Vec Ideal S1x1x128x256 .fp8e4m3) (d : Fin 128) (y : Fin 256) :
    k0_pay4 (F := Ideal) v41 v101 v132 v138 v140 (ix2 d y)
      = v138 (ix2 d y) + ∑ x : Fin 256, v140 (ix4 0 0 d x) * Ideal.exp2 (v132 (ix2 x y) * v41 (ix2 0 y) - v101 (ix2 0 y)) := by
  unfold k0_pay4 k0_pay3
  pointwise
  rfl

/-- One block's share of the sum of the weights. -/
theorem pay5 (v41 : FVec Ideal S1x256 .f32) (v101 : FVec Ideal S1x256 .f32) (v132 : Vec Ideal S256x256 .f32) (a : FVec Ideal S8x256 .f32) (s : Fin 8) (y : Fin 256) :
    k0_pay5 (F := Ideal) v41 v101 a v132 (ix2 s y)
      = a (ix2 s y) + ∑ x : Fin 32, Ideal.exp2 (v132 (ix2 (sub x s) y) * v41 (ix2 0 y) - v101 (ix2 0 y)) := by
  unfold k0_pay5 k0_pay3
  pointwise
  rfl

/-- The result's block. -/
theorem pay9 (i : grid0.Coords) (v11 : Vec Ideal S1x8x128 .f32) (v114 : FVec Ideal S8x256 .f32) (v117 : Vec Ideal S128x256 .f32) (q : Fin 256) (d : Fin 128) :
    k0_pay9 (F := Ideal) i v11 v114 v117 (ix3 0 q d)
      = v117 (ix2 d q) * Ideal.div 1 (∑ x : Fin 8, v114 (ix2 x q)) * v11 (ix3 0 ⟨(i 1).val % 8, Nat.mod_lt _ (by omega)⟩ d) := by
  unfold k0_pay9
  pointwise
  rw [head_word (i 1), pick_row (fun x => v11 (ix3 0 x d))]
  split <;> rfl

/-- The scale of a query, times the constant. -/
theorem pay11 (n : ℕ) (v31 : Vec Ideal S1x8x256 .f32) (y : Fin 256) :
    k0_pay11 (F := Ideal) (BitVec.ofNat 32 (n % 8)) v31 (ix2 0 y) = v31 (ix3 0 ⟨n % 8, Nat.mod_lt _ (by omega)⟩ y) * (((Real.sqrt 128)⁻¹ * (Real.log 2)⁻¹ : ℝ) : EReal) := by
  unfold k0_pay11
  pointwise
  rw [pick_row (fun x => v31 (ix3 0 x y))]
  rfl

/-- A key's scale, spread over a row. -/
theorem pay1 (i : grid0.Coords) (v28 : Vec Ideal S1x8x128 .f32) (x y : Fin 128) :
    k0_pay1 (F := Ideal) i v28 (ix2 x y) = v28 (ix3 0 ⟨(i 1).val % 8, Nat.mod_lt _ (by omega)⟩ x) := by
  unfold k0_pay1
  pointwise
  rw [head_word (i 1), pick_row (fun z => v28 (ix3 0 z x))]

end Cert.Proof.KernelIdeal
-- ==== Proof.KernelIdealLoops.lean ====
/- What the loops over blocks of keys leave: the maxima of the scores so far and the scores themselves in the scratch array, then the sums of
   the weights and the weighted sums of the values. -/
module

public import proofs.«01_k».proof.Proof.KernelIdealBody
public import proofs.«01_k».proof.Proof.KernelIdealPay
public import Idealize.ShloMosaic.Lib.Pointwise
public import Idealize.ShloMosaic.Lib.VecWindow
public import Idealize.ShloMosaic.Lib.Writes
public import Idealize.ShloMosaic.PureOps.Ideal

@[expose] public section

set_option maxRecDepth 8192
set_option maxHeartbeats 1600000
noncomputable section
namespace Cert.Proof.KernelIdeal

open Cert.KernelIdeal Cert.KernelIdeal.Gen
open Idealize.ShloMosaic Idealize.ShloMosaic.TcCoe

/-- A row number, as an index. -/
def rowF (r : ℕ) : Fin 8192 := Fin.ofNat 8192 r

theorem rowF_val {r : ℕ} (h : r < 8192) : (rowF r).val = r := Nat.mod_eq_of_lt h

/-- The score of key `r` against query `q`: the dot product, times the key's scale; -/
def score (Kb Qb : ℕ → Fin 128 → EReal) (ks : ℕ → EReal) (r q : ℕ) : EReal := (∑ d, Kb r d * Qb q d) * ks r

/-- and masked to the keys between the query's first one and the query itself. -/
def masked (start : ℕ → ℤ) (Kb Qb : ℕ → Fin 128 → EReal) (ks : ℕ → EReal) (r q : ℕ) : EReal :=
  if start q ≤ r ∧ r ≤ q then score Kb Qb ks r q else ⊥

section
variable {κ : Kind} {sp : Space} {s : Shape} {e : EltTy}

/-- A load at unit strides, entry by entry. -/
theorem readAt_at (v : View sig κ sp s e) (f : v.ty.Contents (Elt Ideal)) {off off' size : Fin s.rank → ℕ} (hoff : off = off') (inb : ∀ a, off a + size a ≤ s.size a)
    (y : (Rect.unit off size inb).shape.Idx) (z : s.Idx) (h : ∀ a, (z a).val = off' a + (y a).val) :
    v.readAt (Elt Ideal) (Rect.unit off size inb).toLoadRect f y = v.read (Elt Ideal) f z := by
  subst hoff
  exact congrArg (v.read (Elt Ideal) f) (funext fun a => Fin.ext (by
    show off a + 1 * (y a).val = (z a).val
    rw [h a]; omega))

/-- After the blocks `lo … hi − 1`: the carried value is the maximum of the scores so far, and the scratch array holds them. -/
def Good (T : ℕ → ℕ → EReal) (v : View sig κ sp S8192x256 .f32) (qt lo hi : ℕ) (a : FVec Ideal S8x256 .f32) (g : v.ty.Contents (Elt Ideal)) : Prop :=
  (∀ (s : Fin 8) (q : Fin 256) (x : EReal), a (ix2 s q) ≤ x ↔ ∀ r, 256 * lo ≤ r → r < 256 * hi → r % 8 = s.val → T r (256 * qt + q.val) ≤ x)
    ∧ ∀ r (q : Fin 256), 256 * lo ≤ r → r < 256 * hi → v.read (Elt Ideal) g (ix2 (rowF r) q) = T r (256 * qt + q.val)

/-- One more block stored. -/
theorem held_step {T : ℕ → ℕ → EReal} {v : View sig κ sp S8192x256 .f32} {qt lo b : ℕ} {g : v.ty.Contents (Elt Ideal)}
    (hG : ∀ r (q : Fin 256), 256 * lo ≤ r → r < 256 * b → v.read (Elt Ideal) g (ix2 (rowF r) q) = T r (256 * qt + q.val)) (hb : b < 32)
    {off : Fin 2 → ℕ} (hoff : off = ![256 * b, 0]) (inb : ∀ a, off a + (![256, 256] : Fin 2 → ℕ) a ≤ S8192x256.size a)
    (P : Vec Ideal S256x256 .f32) (hP : ∀ x y : Fin 256, P (ix2 x y) = T (256 * b + x.val) (256 * qt + y.val))
    (r : ℕ) (q : Fin 256) (h1 : 256 * lo ≤ r) (h2 : r < 256 * (b + 1)) :
    v.read (Elt Ideal) (v.writes (Elt Ideal) g [⟨Rect.unit off ![256, 256] inb, P⟩]) (ix2 (rowF r) q) = T r (256 * qt + q.val) := by
  subst hoff
  by_cases h : r < 256 * b
  · rw [View.read_writes_cons_miss_of_axis v g _ [] (ix2 (rowF r) q) 0 (256 * b) 256 rfl rfl rfl (by
      left; show (rowF r).val < _; rw [rowF_val (by omega)]; exact h)]
    exact hG r q h1 h
  · have hlt : r - 256 * b < 256 := by omega
    have e := hP ⟨r - 256 * b, hlt⟩ q
    dsimp only at e
    rw [show 256 * b + (r - 256 * b) = r by omega] at e
    rw [← e]
    refine View.read_writes_cons_hit_of_coords v g (Rect.unit (s := S8192x256) ![256 * b, 0] ![256, 256] inb) P [] (ix2 (⟨r - 256 * b, hlt⟩ : Fin 256) q) (ix2 (rowF r) q) fun a => ?_
    match a with
    | ⟨0, _⟩ =>
      show (rowF r).val = 256 * b + 1 * (r - 256 * b)
      rw [rowF_val (by omega)]; omega
    | ⟨1, _⟩ =>
      show q.val = 0 + 1 * q.val
      omega

/-- A maximum taken over one more block. -/
theorem max_step {T : ℕ → ℕ → EReal} {qt lo b : ℕ} {s : Fin 8} {q : Fin 256} {x : EReal} {A : Prop} (hlo : lo ≤ b)
    (hG : A ↔ ∀ r, 256 * lo ≤ r → r < 256 * b → r % 8 = s.val → T r (256 * qt + q.val) ≤ x)
    (P : Vec Ideal S256x256 .f32) (hP : ∀ x y : Fin 256, P (ix2 x y) = T (256 * b + x.val) (256 * qt + y.val)) :
    (A ∧ ∀ j : Fin 32, P (ix2 (sub j s) q) ≤ x) ↔ ∀ r, 256 * lo ≤ r → r < 256 * (b + 1) → r % 8 = s.val → T r (256 * qt + q.val) ≤ x := by
  rw [hG]
  constructor
  · rintro ⟨h1, h2⟩ r hr1 hr2 hr3
    by_cases h : r < 256 * b
    · exact h1 r hr1 h hr3
    · have e := h2 ⟨(r - 256 * b) / 8, by omega⟩
      rw [hP] at e
      have e2 : 256 * b + (sub ⟨(r - 256 * b) / 8, by omega⟩ s).val = r := by
        show 256 * b + ((r - 256 * b) / 8 * 8 + s.val) = r
        omega
      rwa [e2] at e
  · intro h
    refine ⟨fun r h1 h2 h3 => h r h1 (by omega) h3, fun j => ?_⟩
    rw [hP]
    exact h _ (by omega) (by show 256 * b + (j.val * 8 + s.val) < _; omega) (by show (256 * b + (j.val * 8 + s.val)) % 8 = _; omega)

theorem Good.step {T : ℕ → ℕ → EReal} {v : View sig κ sp S8192x256 .f32} {qt lo b : ℕ} {a a' : FVec Ideal S8x256 .f32} {g : v.ty.Contents (Elt Ideal)}
    (hG : Good T v qt lo b a g) (hlo : lo ≤ b) (hb : b < 32)
    {off : Fin 2 → ℕ} (hoff : off = ![256 * b, 0]) (inb : ∀ a, off a + (![256, 256] : Fin 2 → ℕ) a ≤ S8192x256.size a)
    (P : Vec Ideal S256x256 .f32) (hP : ∀ x y : Fin 256, P (ix2 x y) = T (256 * b + x.val) (256 * qt + y.val))
    (ha : ∀ (s : Fin 8) (q : Fin 256) (x : EReal), a' (ix2 s q) ≤ x ↔ a (ix2 s q) ≤ x ∧ ∀ j : Fin 32, P (ix2 (sub j s) q) ≤ x) :
    Good T v qt lo (b + 1) a' (v.writes (Elt Ideal) g [⟨Rect.unit off ![256, 256] inb, P⟩]) :=
  ⟨fun s q x => (ha s q x).trans (max_step hlo (hG.1 s q x) P hP), held_step hG.2 hb hoff inb P hP⟩

theorem Good.init (T : ℕ → ℕ → EReal) (v : View sig κ sp S8192x256 .f32) (qt lo : ℕ) (g : v.ty.Contents (Elt Ideal)) :
    Good T v qt lo lo (k0_pay13 (F := Ideal)) g := by
  refine ⟨fun s q x => ⟨fun _ r h1 h2 => absurd h1 (by omega), fun _ => ?_⟩, fun r q h1 h2 => absurd h1 (by omega)⟩
  have e : k0_pay13 (F := Ideal) (ix2 s q) = ⊥ := by
    unfold k0_pay13
    pointwise
    exact ofBits_neg_inf
  rw [e]
  exact bot_le

end

/-- The block's first row, as an offset. -/
theorem cast_row {L : Scf.Loop 32} {a b : ℕ} (h : Between L a b) (hb : b ≤ 64) (k : Fin L.trips) :
    (Scalar.indexCast (Scalar.muli (Scf.iv L.lb L.st k.val) 256#32)).toNat = 256 * (a + k.val) :=
  toNat_of (Affine.indexCast (h.row hb k)) (by have := h.lt k; omega)

/-- What one trip of the loop that spreads the key scales writes. -/
theorem t1_trip (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (X_arg8 : BufTy.Contents (Elt Ideal) arg8.view.ty) (k : Fin k0_t1_loop.trips) :
    ∃ (i1 : ∀ a, (k0_off1 k) a + (![1, 8, 128] : Fin _ → ℕ) a ≤ S1x8x8192.size a) (i2 : ∀ a, (k0_off2 k) a + (![128, 128] : Fin _ → ℕ) a ≤ S8192x128.size a), (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X_arg8 k).1 = [⟨Rect.unit (k0_off2 k) ![128, 128] i2, k0_pay1 i (arg8.view.readAt (Elt Ideal) (Rect.unit (s := S1x8x8192) (k0_off1 k) ![1, 8, 128] i1).toLoadRect X_arg8)⟩] := by
  delta trip_k0_t1
  dsimp only
  exact ⟨_, _, rfl⟩

/-- What one trip of the loop over the masked blocks computes. -/
theorem t3_trip (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (c0_i32_9 : BitVec 32) (c1_i32_10 : BitVec 32) (k0_t2 : Fin k0_t2_loop.trips) (v28 : Vec Ideal S1x1x256x128 .fp8e4m3) (v43 : Vec Ideal S1x1x256 .i32) (v47 : Elt Ideal .i32) (v50 : Elt Ideal .i32) (k0_hw1 : k0_chk1 k0_t2 v47 v50) (X_arg5 : BufTy.Contents (Elt Ideal) arg5.view.ty) (X_arg13 : BufTy.Contents (Elt Ideal) arg13.view.ty) (k : Fin (k0_t3_loop v47 v50).trips) (a : FVec Ideal S8x256 .f32) :
    ∃ (i1 : ∀ a, (k0_off7 v47 v50 k) a + (![1, 1, 256, 128] : Fin _ → ℕ) a ≤ S1x1x8192x128.size a) (i2 : ∀ a, (k0_off8 v47 v50 k) a + (![256, 128] : Fin _ → ℕ) a ≤ S8192x128.size a) (i3 : ∀ a, (k0_off9 v47 v50 k) a + (![256, 256] : Fin _ → ℕ) a ≤ S8192x256.size a), (trip_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg0 v9 c0_i32_9 c1_i32_10 k0_t2 v28 v43 v47 v50 k0_hw1 X_arg5 X_arg13 k).1 a = k0_pay16 c0_i32_9 c1_i32_10 k0_t2 v28 v43 v47 v50 k a (arg5.view.readAt (Elt Ideal) (Rect.unit (s := S1x1x8192x128) (k0_off7 v47 v50 k) ![1, 1, 256, 128] i1).toLoadRect X_arg5) (arg13.view.readAt (Elt Ideal) (Rect.unit (s := S8192x128) (k0_off8 v47 v50 k) ![256, 128] i2).toLoadRect X_arg13)
      ∧ (trip_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg0 v9 c0_i32_9 c1_i32_10 k0_t2 v28 v43 v47 v50 k0_hw1 X_arg5 X_arg13 k).2.1 a = [⟨Rect.unit (k0_off9 v47 v50 k) ![256, 256] i3, k0_pay15 c0_i32_9 c1_i32_10 k0_t2 v28 v43 v47 v50 k (arg5.view.readAt (Elt Ideal) (Rect.unit (s := S1x1x8192x128) (k0_off7 v47 v50 k) ![1, 1, 256, 128] i1).toLoadRect X_arg5) (arg13.view.readAt (Elt Ideal) (Rect.unit (s := S8192x128) (k0_off8 v47 v50 k) ![256, 128] i2).toLoadRect X_arg13)⟩] := by
  delta trip_k0_t3
  dsimp only
  exact ⟨_, _, _, rfl, rfl⟩

/-- What one trip of the loop over the unmasked blocks computes. -/
theorem t5_trip (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (c0_i32_9 : BitVec 32) (c1_i32_10 : BitVec 32) (k0_t2 : Fin k0_t2_loop.trips) (v28 : Vec Ideal S1x1x256x128 .fp8e4m3) (v47 : Elt Ideal .i32) (v50 : Elt Ideal .i32) (k0_hw1 : k0_chk1 k0_t2 v47 v50) (X_arg5 : BufTy.Contents (Elt Ideal) arg5.view.ty) (X_arg13 : BufTy.Contents (Elt Ideal) arg13.view.ty) (k : Fin (k0_t5_loop k0_t2 v50).trips) (a : FVec Ideal S8x256 .f32) :
    ∃ (i1 : ∀ a, (k0_off13 k0_t2 v50 k) a + (![1, 1, 256, 128] : Fin _ → ℕ) a ≤ S1x1x8192x128.size a) (i2 : ∀ a, (k0_off14 k0_t2 v50 k) a + (![256, 128] : Fin _ → ℕ) a ≤ S8192x128.size a) (i3 : ∀ a, (k0_off15 k0_t2 v50 k) a + (![256, 256] : Fin _ → ℕ) a ≤ S8192x256.size a), (trip_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg0 v9 c0_i32_9 c1_i32_10 k0_t2 v28 v47 v50 k0_hw1 X_arg5 X_arg13 k).1 a = k0_pay22 v28 a (arg5.view.readAt (Elt Ideal) (Rect.unit (s := S1x1x8192x128) (k0_off13 k0_t2 v50 k) ![1, 1, 256, 128] i1).toLoadRect X_arg5) (arg13.view.readAt (Elt Ideal) (Rect.unit (s := S8192x128) (k0_off14 k0_t2 v50 k) ![256, 128] i2).toLoadRect X_arg13)
      ∧ (trip_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg0 v9 c0_i32_9 c1_i32_10 k0_t2 v28 v47 v50 k0_hw1 X_arg5 X_arg13 k).2.1 a = [⟨Rect.unit (k0_off15 k0_t2 v50 k) ![256, 256] i3, k0_pay21 v28 (arg5.view.readAt (Elt Ideal) (Rect.unit (s := S1x1x8192x128) (k0_off13 k0_t2 v50 k) ![1, 1, 256, 128] i1).toLoadRect X_arg5) (arg13.view.readAt (Elt Ideal) (Rect.unit (s := S8192x128) (k0_off14 k0_t2 v50 k) ![256, 128] i2).toLoadRect X_arg13)⟩] := by
  delta trip_k0_t5
  dsimp only
  exact ⟨_, _, _, rfl, rfl⟩

/-- What one trip of the loop over the weights computes. -/
theorem t7_trip (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (k0_t2 : Fin k0_t2_loop.trips) (v41 : FVec Ideal S1x256 .f32) (v47 : Elt Ideal .i32) (k0_hw2 : k0_chk2 k0_t2 v47) (v101 : FVec Ideal S1x256 .f32) (X_arg6 : BufTy.Contents (Elt Ideal) arg6.view.ty) (X_arg12 : BufTy.Contents (Elt Ideal) arg12.view.ty) (k : Fin (k0_t7_loop k0_t2 v47).trips) (a : FVec Ideal S8x256 .f32) (f14 : BufTy.Contents (Elt Ideal) arg14.view.ty) :
    ∃ (i1 : ∀ a, (k0_off22 k0_t2 v47 k) a + (![256, 256] : Fin _ → ℕ) a ≤ S8192x256.size a) (i2 : ∀ a, (k0_off23 k0_t2 v47 k) a + (![1, 1, 128, 256] : Fin _ → ℕ) a ≤ S1x1x128x8192.size a), (trip_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_t2 v41 v47 k0_hw2 v101 X_arg6 X_arg12 k).1 a f14 = k0_pay5 v41 v101 a (arg12.view.readAt (Elt Ideal) (Rect.unit (s := S8192x256) (k0_off22 k0_t2 v47 k) ![256, 256] i1).toLoadRect X_arg12)
      ∧ (trip_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_t2 v41 v47 k0_hw2 v101 X_arg6 X_arg12 k).2.1 a f14 = [⟨Rect.unit ![0, 0] ![128, 256] inb_S128x256_S128x256_0_0, k0_pay4 v41 v101 (arg12.view.readAt (Elt Ideal) (Rect.unit (s := S8192x256) (k0_off22 k0_t2 v47 k) ![256, 256] i1).toLoadRect X_arg12)
          (arg14.view.readAt (Elt Ideal) (Rect.unit (s := S128x256) ![0, 0] ![128, 256] inb_S128x256_S128x256_0_0).toLoadRect f14) (arg6.view.readAt (Elt Ideal) (Rect.unit (s := S1x1x128x8192) (k0_off23 k0_t2 v47 k) ![1, 1, 128, 256] i2).toLoadRect X_arg6)⟩] := by
  delta trip_k0_t7
  dsimp only
  exact ⟨_, _, rfl, rfl⟩

/-- The loop over the masked blocks. -/
theorem t3_state (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (k0_t2 : Fin k0_t2_loop.trips) (v28 : Vec Ideal S1x1x256x128 .fp8e4m3) (v43 : Vec Ideal S1x1x256 .i32) (v47 : Elt Ideal .i32) (v50 : Elt Ideal .i32) (k0_hw1 : k0_chk1 k0_t2 v47 v50) (X_arg5 : BufTy.Contents (Elt Ideal) arg5.view.ty) (X_arg13 : BufTy.Contents (Elt Ideal) arg13.view.ty) (lo mid : ℕ) (hlo : Affine.IsInt v47 lo) (hmid : Affine.IsInt v50 mid) (hlm : lo ≤ mid) (hmq : mid ≤ k0_t2.val)
    (Kb Qb : ℕ → Fin 128 → EReal) (ks : ℕ → EReal) (start : ℕ → ℤ)
    (hK : ∀ r, r < 8192 → ∀ d, arg5.view.read (Elt Ideal) X_arg5 (ix4 0 0 (rowF r) d) = Kb r d)
    (hks : ∀ r, r < 8192 → ∀ d : Fin 128, arg13.view.read (Elt Ideal) X_arg13 (ix2 (rowF r) d) = ks r)
    (hQ : ∀ (y : Fin 256) d, v28 (ix4 0 0 y d) = Qb (256 * k0_t2.val + y.val) d)
    (hS : ∀ y : Fin 256, (v43 (ix3 0 0 y) : BitVec 32).toInt = start (256 * k0_t2.val + y.val))
    (g : BufTy.Contents (Elt Ideal) arg12.view.ty) (n : ℕ) (hn : n ≤ mid - lo) :
    Good (masked start Kb Qb ks) arg12.view k0_t2.val lo (lo + n) (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg0 v9 0#32 1#32 k0_t2 v28 v43 v47 v50 k0_hw1 X_arg5 X_arg13  (k0_pay13 (F := Ideal)) n).1 (arg12.view.writes (Elt Ideal) g (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg0 v9 0#32 1#32 k0_t2 v28 v43 v47 v50 k0_hw1 X_arg5 X_arg13  (k0_pay13 (F := Ideal)) n).2) := by
  have hq := t2_lt k0_t2
  have hB := t3_between hlo hmid hlm (by omega)
  have hT := hB.trips hlm (by omega)
  induction n with
  | zero => exact Good.init _ _ _ _ _
  | succ n ih =>
    have ih := ih (by omega)
    let k : Fin (k0_t3_loop v47 v50).trips := ⟨n, by omega⟩
    have er := cast_row hB (by omega) k
    have ek : k.val = n := rfl
    have o1 : k0_off7 v47 v50 k = ![0, 0, 256 * (lo + n), 0] := by unfold k0_off7; exact congrArg (fun z => ![0, 0, z, 0]) er
    have o2 : k0_off8 v47 v50 k = ![256 * (lo + n), 0] := by unfold k0_off8; exact congrArg (fun z => ![z, 0]) er
    have o3 : k0_off9 v47 v50 k = ![256 * (lo + n), 0] := by unfold k0_off9; exact congrArg (fun z => ![z, 0]) er
    rw [show n + 1 = k.val + 1 from rfl, st_k0_t3_succ]
    unfold tripR_k0_t3 tripL_k0_t3
    obtain ⟨i1, i2, i3, eR, eL⟩ := t3_trip 𝒱 c bd i arg2 harg2 arg3 harg3 arg4 harg4 arg5 harg5 arg6 harg6 arg7 harg7 arg8 harg8 arg9 harg9 arg10 harg10 arg11 harg11 arg12 harg12 arg13 harg13 arg14 harg14 arg0 v9 0#32 1#32 k0_t2 v28 v43 v47 v50 k0_hw1 X_arg5 X_arg13 k (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg0 v9 0#32 1#32 k0_t2 v28 v43 v47 v50 k0_hw1 X_arg5 X_arg13  (k0_pay13 (F := Ideal)) k.val).1
    rw [eR, eL, View.writes_append]
    refine Good.step ih (by omega) (by omega) o3 i3 _ (fun x y => ?_) (fun s q x => pay16 k0_t2 v28 v43 v47 v50 k _ _ _ s q x)
    · have e : lo + n < 32 := by omega
      have hx := x.isLt
      have e5 : ∀ d, arg5.view.readAt (Elt Ideal) (Rect.unit (s := S1x1x8192x128) (k0_off7 v47 v50 k) ![1, 1, 256, 128] i1).toLoadRect X_arg5 (ix4 0 0 x d) = Kb (256 * (lo + n) + x.val) d := fun d => by
        refine (readAt_at arg5.view X_arg5 o1 i1 (ix4 0 0 x d) (ix4 0 0 (rowF (256 * (lo + n) + x.val)) d) fun a => ?_).trans (hK _ (by omega) d)
        match a with
        | ⟨0, _⟩ => rfl
        | ⟨1, _⟩ => rfl
        | ⟨2, _⟩ => show (rowF _).val = _; rw [rowF_val (by omega)]; rfl
        | ⟨3, _⟩ => show d.val = 0 + d.val; omega
      have e13 : ∀ d : Fin 128, arg13.view.readAt (Elt Ideal) (Rect.unit (s := S8192x128) (k0_off8 v47 v50 k) ![256, 128] i2).toLoadRect X_arg13 (ix2 x d) = ks (256 * (lo + n) + x.val) := fun d => by
        refine (readAt_at arg13.view X_arg13 o2 i2 (ix2 x d) (ix2 (rowF (256 * (lo + n) + x.val)) d) fun a => ?_).trans (hks _ (by omega) d)
        match a with
        | ⟨0, _⟩ => show (rowF _).val = _; rw [rowF_val (by omega)]; rfl
        | ⟨1, _⟩ => show d.val = 0 + d.val; omega

      rw [pay15 k0_t2 v28 v43 v47 v50 k _ _ (ks (256 * (lo + n) + x.val)) x y (lo + n) e (hB.iv (by omega) k) e13]
      simp only [e5, hQ, hS]
      rfl

/-- The loop over the blocks that need no mask. -/
theorem t5_state (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (k0_t2 : Fin k0_t2_loop.trips) (v28 : Vec Ideal S1x1x256x128 .fp8e4m3) (v47 : Elt Ideal .i32) (v50 : Elt Ideal .i32) (k0_hw1 : k0_chk1 k0_t2 v47 v50) (X_arg5 : BufTy.Contents (Elt Ideal) arg5.view.ty) (X_arg13 : BufTy.Contents (Elt Ideal) arg13.view.ty) (lo mid : ℕ) (hmid : Affine.IsInt v50 mid) (hlm : lo ≤ mid) (hmq : mid ≤ k0_t2.val)
    (Kb Qb : ℕ → Fin 128 → EReal) (ks : ℕ → EReal) (start : ℕ → ℤ)
    (hK : ∀ r, r < 8192 → ∀ d, arg5.view.read (Elt Ideal) X_arg5 (ix4 0 0 (rowF r) d) = Kb r d)
    (hks : ∀ r, r < 8192 → ∀ d : Fin 128, arg13.view.read (Elt Ideal) X_arg13 (ix2 (rowF r) d) = ks r)
    (hQ : ∀ (y : Fin 256) d, v28 (ix4 0 0 y d) = Qb (256 * k0_t2.val + y.val) d)
    (hS : ∀ y : Fin 256, mid < k0_t2.val → start (256 * k0_t2.val + y.val) ≤ ((256 * mid : ℕ) : ℤ))
    (a0 : FVec Ideal S8x256 .f32) (g : BufTy.Contents (Elt Ideal) arg12.view.ty) (h0 : Good (masked start Kb Qb ks) arg12.view k0_t2.val lo mid a0 g) (n : ℕ) (hn : n ≤ k0_t2.val - mid) :
    Good (masked start Kb Qb ks) arg12.view k0_t2.val lo (mid + n) (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg0 v9 0#32 1#32 k0_t2 v28 v47 v50 k0_hw1 X_arg5 X_arg13  a0 n).1 (arg12.view.writes (Elt Ideal) g (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg0 v9 0#32 1#32 k0_t2 v28 v47 v50 k0_hw1 X_arg5 X_arg13  a0 n).2) := by
  have hq := t2_lt k0_t2
  have hB := t5_between hmid hmq
  have hT := hB.trips hmq (by omega)
  induction n with
  | zero => exact h0
  | succ n ih =>
    have ih := ih (by omega)
    let k : Fin (k0_t5_loop k0_t2 v50).trips := ⟨n, by omega⟩
    have er := cast_row hB (by omega) k
    have ek : k.val = n := rfl
    have o1 : k0_off13 k0_t2 v50 k = ![0, 0, 256 * (mid + n), 0] := by unfold k0_off13; exact congrArg (fun z => ![0, 0, z, 0]) er
    have o2 : k0_off14 k0_t2 v50 k = ![256 * (mid + n), 0] := by unfold k0_off14; exact congrArg (fun z => ![z, 0]) er
    have o3 : k0_off15 k0_t2 v50 k = ![256 * (mid + n), 0] := by unfold k0_off15; exact congrArg (fun z => ![z, 0]) er
    rw [show n + 1 = k.val + 1 from rfl, st_k0_t5_succ]
    unfold tripR_k0_t5 tripL_k0_t5
    obtain ⟨i1, i2, i3, eR, eL⟩ := t5_trip 𝒱 c bd i arg2 harg2 arg3 harg3 arg4 harg4 arg5 harg5 arg6 harg6 arg7 harg7 arg8 harg8 arg9 harg9 arg10 harg10 arg11 harg11 arg12 harg12 arg13 harg13 arg14 harg14 arg0 v9 0#32 1#32 k0_t2 v28 v47 v50 k0_hw1 X_arg5 X_arg13 k (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg0 v9 0#32 1#32 k0_t2 v28 v47 v50 k0_hw1 X_arg5 X_arg13  a0 k.val).1
    rw [eR, eL, View.writes_append]
    refine Good.step ih (by omega) (by omega) o3 i3 _ (fun x y => ?_) (fun s q x => pay22 v28 _ _ _ s q x)
    · have e : mid + n < 32 := by omega
      have hx := x.isLt
      have e5 : ∀ d, arg5.view.readAt (Elt Ideal) (Rect.unit (s := S1x1x8192x128) (k0_off13 k0_t2 v50 k) ![1, 1, 256, 128] i1).toLoadRect X_arg5 (ix4 0 0 x d) = Kb (256 * (mid + n) + x.val) d := fun d => by
        refine (readAt_at arg5.view X_arg5 o1 i1 (ix4 0 0 x d) (ix4 0 0 (rowF (256 * (mid + n) + x.val)) d) fun a => ?_).trans (hK _ (by omega) d)
        match a with
        | ⟨0, _⟩ => rfl
        | ⟨1, _⟩ => rfl
        | ⟨2, _⟩ => show (rowF _).val = _; rw [rowF_val (by omega)]; rfl
        | ⟨3, _⟩ => show d.val = 0 + d.val; omega
      have e13 : ∀ d : Fin 128, arg13.view.readAt (Elt Ideal) (Rect.unit (s := S8192x128) (k0_off14 k0_t2 v50 k) ![256, 128] i2).toLoadRect X_arg13 (ix2 x d) = ks (256 * (mid + n) + x.val) := fun d => by
        refine (readAt_at arg13.view X_arg13 o2 i2 (ix2 x d) (ix2 (rowF (256 * (mid + n) + x.val)) d) fun a => ?_).trans (hks _ (by omega) d)
        match a with
        | ⟨0, _⟩ => show (rowF _).val = _; rw [rowF_val (by omega)]; rfl
        | ⟨1, _⟩ => show d.val = 0 + d.val; omega

      rw [pay20 v28 _ _ (ks (256 * (mid + n) + x.val)) x y e13]
      simp only [e5, hQ]
      unfold masked
      have hs := hS y (by omega)
      rw [if_pos ⟨by push_cast at hs ⊢; omega, by omega⟩]
      rfl

end Cert.Proof.KernelIdeal
-- ==== Proof.KernelIdealSums.lean ====
/- What the loop over the weights leaves: the sums of the weights and the weighted sums of the values over the blocks so far; and what the
   loop that spreads the key scales leaves. -/
module

public import proofs.«01_k».proof.Proof.KernelIdealLoops
public import Idealize.ShloMosaic.Lib.Pointwise
public import Idealize.ShloMosaic.Lib.VecWindow
public import Idealize.ShloMosaic.Lib.Writes
public import Idealize.ShloMosaic.PureOps.Ideal

@[expose] public section

set_option maxRecDepth 8192
set_option maxHeartbeats 1600000
noncomputable section
namespace Cert.Proof.KernelIdeal

open Cert.KernelIdeal Cert.KernelIdeal.Gen
open Idealize.ShloMosaic Idealize.ShloMosaic.TcCoe

section
variable {κ : Kind} {sp : Space} {s : Shape} {e : EltTy}

/-- A store of the whole accumulator, read. -/
theorem acc_hit (v : View sig κ sp S128x256 .f32) (g : v.ty.Contents (Elt Ideal)) (inb) (P : Vec Ideal S128x256 .f32) (d : Fin 128) (q : Fin 256) :
    v.read (Elt Ideal) (v.writes (Elt Ideal) g [⟨Rect.unit ![0, 0] ![128, 256] inb, P⟩]) (ix2 d q) = P (ix2 d q) :=
  View.read_writes_cons_hit_of_coords v g (Rect.unit (s := S128x256) ![0, 0] ![128, 256] inb) P [] (ix2 d q) (ix2 d q) fun a => by
    match a with
    | ⟨0, _⟩ => show d.val = 0 + 1 * d.val; omega
    | ⟨1, _⟩ => show q.val = 0 + 1 * q.val; omega

end

/-- The block's first lane, as an offset, of 128 keys. -/
theorem cast_row128 (k : Fin k0_t1_loop.trips) : (Scalar.indexCast (Scalar.muli (Scf.iv 0#32 1#32 k.val) 128#32)).toNat = 128 * k.val := by
  have hk : k.val < 64 := k.isLt
  exact toNat_of (Affine.indexCast (Affine.muli (Affine.iv (Affine.ofNat 0 (e := 0) (by omega)) (Affine.ofNat 1 (e := 1) (by omega)) _ (e := (k.val : ℤ)) (by omega)) (Affine.ofNat 128 (e := 128) (by omega)) (e := ((128 * k.val : ℕ) : ℤ)) (by push_cast; omega))) (by omega)

/-- The key scales, spread. -/
theorem t1_state (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (X_arg8 : BufTy.Contents (Elt Ideal) arg8.view.ty) (g : BufTy.Contents (Elt Ideal) arg13.view.ty) (n : ℕ) (hn : n ≤ 64) (r : ℕ) (hr : r < 128 * n) (d : Fin 128) :
    arg13.view.read (Elt Ideal) (arg13.view.writes (Elt Ideal) g (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X_arg8 n)) (ix2 (rowF r) d)
      = arg8.view.read (Elt Ideal) X_arg8 (ix3 0 ⟨(i 1).val % 8, Nat.mod_lt _ (by omega)⟩ (rowF r)) := by
  induction n with
  | zero => omega
  | succ n ih =>
    let k : Fin k0_t1_loop.trips := ⟨n, by show n < 64; omega⟩
    have er := cast_row128 k
    have o1 : k0_off1 k = ![0, 0, 128 * n] := by unfold k0_off1; exact congrArg (fun z => ![0, 0, z]) er
    have o2 : k0_off2 k = ![128 * n, 0] := by unfold k0_off2; exact congrArg (fun z => ![z, 0]) er
    rw [show n + 1 = k.val + 1 from rfl, pb_k0_t1_succ]
    unfold tripL_k0_t1
    obtain ⟨i1, i2, eL⟩ := t1_trip 𝒱 c bd i arg2 harg2 arg3 harg3 arg4 harg4 arg5 harg5 arg6 harg6 arg7 harg7 arg8 harg8 arg9 harg9 arg10 harg10 arg11 harg11 arg12 harg12 arg13 harg13 arg14 harg14 X_arg8 k
    rw [eL, View.writes_append]
    by_cases h : r < 128 * n
    · rw [View.read_writes_cons_miss_of_axis arg13.view _ _ [] (ix2 (rowF r) d) 0 (128 * n) 128 (congrFun o2 0) rfl rfl (by
        left; show (rowF r).val < _; rw [rowF_val (by omega)]; exact h)]
      exact ih (by omega) h
    · have hlt : r - 128 * n < 128 := by omega
      refine (View.read_writes_cons_hit_of_coords arg13.view _ (Rect.unit (s := S8192x128) (k0_off2 k) ![128, 128] i2) _ [] (ix2 (⟨r - 128 * n, hlt⟩ : Fin 128) d) (ix2 (rowF r) d) fun a => ?_).trans ?_
      · match a with
        | ⟨0, _⟩ =>
          show (rowF r).val = k0_off2 k 0 + 1 * (r - 128 * n)
          rw [congrFun o2 0, rowF_val (by omega)]
          show r = 128 * n + 1 * (r - 128 * n)
          omega
        | ⟨1, _⟩ =>
          show d.val = k0_off2 k 1 + 1 * d.val
          rw [congrFun o2 1]
          show d.val = 0 + 1 * d.val
          omega
      · rw [pay1]
        refine readAt_at arg8.view X_arg8 o1 i1 (ix3 0 _ _) (ix3 0 _ (rowF r)) fun a => ?_
        match a with
        | ⟨0, _⟩ => rfl
        | ⟨1, _⟩ => show _ % 8 = 0 + _ % 8; omega
        | ⟨2, _⟩ => show (rowF r).val = 128 * n + (r - 128 * n); rw [rowF_val (by omega)]; omega

/-- The weight of key `r` for the block's query `q`. -/
def weight (v41 v101 : FVec Ideal S1x256 .f32) (T : ℕ → ℕ → EReal) (qt r : ℕ) (q : Fin 256) : EReal :=
  Ideal.exp2 (T r (256 * qt + q.val) * v41 (ix2 0 q) - v101 (ix2 0 q))

/-- The loop over the weights. -/
theorem t7_state (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (k0_t2 : Fin k0_t2_loop.trips) (v41 : FVec Ideal S1x256 .f32) (v47 : Elt Ideal .i32) (k0_hw2 : k0_chk2 k0_t2 v47) (v101 : FVec Ideal S1x256 .f32) (X_arg6 : BufTy.Contents (Elt Ideal) arg6.view.ty) (X_arg12 : BufTy.Contents (Elt Ideal) arg12.view.ty) (lo : ℕ) (hlo : Affine.IsInt v47 lo) (hlq : lo ≤ k0_t2.val)
    (T : ℕ → ℕ → EReal) (Vb : ℕ → Fin 128 → EReal)
    (hV : ∀ r, r < 8192 → ∀ d, arg6.view.read (Elt Ideal) X_arg6 (ix4 0 0 d (rowF r)) = Vb r d)
    (hT : ∀ r (q : Fin 256), 256 * lo ≤ r → r < 256 * (k0_t2.val + 1) → arg12.view.read (Elt Ideal) X_arg12 (ix2 (rowF r) q) = T r (256 * k0_t2.val + q.val))
    (G : BufTy.Contents (Elt Ideal) arg14.view.ty) (hG : ∀ (d : Fin 128) (q : Fin 256), arg14.view.read (Elt Ideal) G (ix2 d q) = 0)
    (n : ℕ) (hn : n ≤ k0_t2.val + 1 - lo) :
    (∀ (s : Fin 8) (q : Fin 256), (st_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_t2 v41 v47 k0_hw2 v101 X_arg6 X_arg12 G k0_pay2 n).1 (ix2 s q) = ∑ j ∈ Finset.range n, ∑ x : Fin 32, weight v41 v101 T k0_t2.val (256 * (lo + j) + (sub x s).val) q)
      ∧ ∀ (d : Fin 128) (q : Fin 256), arg14.view.read (Elt Ideal) (arg14.view.writes (Elt Ideal) G (st_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_t2 v41 v47 k0_hw2 v101 X_arg6 X_arg12 G k0_pay2 n).2) (ix2 d q)
          = ∑ j ∈ Finset.range n, ∑ x : Fin 256, Vb (256 * (lo + j) + x.val) d * weight v41 v101 T k0_t2.val (256 * (lo + j) + x.val) q := by
  have hq := t2_lt k0_t2
  have hB := t7_between hlo hlq
  have hTr := hB.trips (by omega) (by omega)
  induction n with
  | zero =>
    refine ⟨fun s q => ?_, fun d q => ?_⟩
    · rw [st_k0_t7_zero]
      unfold k0_pay2
      pointwise
      simp
    · exact (hG d q).trans (by simp)
  | succ n ih =>
    obtain ⟨ih1, ih2⟩ := ih (by omega)
    let k : Fin (k0_t7_loop k0_t2 v47).trips := ⟨n, by omega⟩
    have er := cast_row hB (by omega) k
    have o1 : k0_off22 k0_t2 v47 k = ![256 * (lo + n), 0] := by unfold k0_off22; exact congrArg (fun z => ![z, 0]) er
    have o2 : k0_off23 k0_t2 v47 k = ![0, 0, 0, 256 * (lo + n)] := by unfold k0_off23; exact congrArg (fun z => ![0, 0, 0, z]) er
    rw [show n + 1 = k.val + 1 from rfl, st_k0_t7_succ]
    unfold tripR_k0_t7 tripL_k0_t7
    obtain ⟨i1, i2, eR, eL⟩ := t7_trip 𝒱 c bd i arg2 harg2 arg3 harg3 arg4 harg4 arg5 harg5 arg6 harg6 arg7 harg7 arg8 harg8 arg9 harg9 arg10 harg10 arg11 harg11 arg12 harg12 arg13 harg13 arg14 harg14 k0_t2 v41 v47 k0_hw2 v101 X_arg6 X_arg12 k (st_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_t2 v41 v47 k0_hw2 v101 X_arg6 X_arg12 G k0_pay2 k.val).1 (arg14.view.writes (Elt Ideal) G (st_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_t2 v41 v47 k0_hw2 v101 X_arg6 X_arg12 G k0_pay2 k.val).2)
    rw [eR, eL, View.writes_append]
    have hlt : lo + n < 32 := by omega
    have e12 : ∀ (x q : Fin 256), arg12.view.readAt (Elt Ideal) (Rect.unit (s := S8192x256) (k0_off22 k0_t2 v47 k) ![256, 256] i1).toLoadRect X_arg12 (ix2 x q) = T (256 * (lo + n) + x.val) (256 * k0_t2.val + q.val) := fun x q => by
      have hx := x.isLt
      refine (readAt_at arg12.view X_arg12 o1 i1 (ix2 x q) (ix2 (rowF (256 * (lo + n) + x.val)) q) fun a => ?_).trans (hT _ q (by omega) (by omega))
      match a with
      | ⟨0, _⟩ => show (rowF _).val = _; rw [rowF_val (by omega)]; rfl
      | ⟨1, _⟩ => show q.val = 0 + q.val; omega
    have e6 : ∀ (d : Fin 128) (x : Fin 256), arg6.view.readAt (Elt Ideal) (Rect.unit (s := S1x1x128x8192) (k0_off23 k0_t2 v47 k) ![1, 1, 128, 256] i2).toLoadRect X_arg6 (ix4 0 0 d x) = Vb (256 * (lo + n) + x.val) d := fun d x => by
      have hx := x.isLt
      refine (readAt_at arg6.view X_arg6 o2 i2 (ix4 0 0 d x) (ix4 0 0 d (rowF (256 * (lo + n) + x.val))) fun a => ?_).trans (hV _ (by omega) d)
      match a with
      | ⟨0, _⟩ => rfl
      | ⟨1, _⟩ => rfl
      | ⟨2, _⟩ => show d.val = 0 + d.val; omega
      | ⟨3, _⟩ => show (rowF _).val = _; rw [rowF_val (by omega)]; rfl
    refine ⟨fun s q => ?_, fun d q => ?_⟩
    · refine (pay5 _ _ _ _ _ _).trans ?_
      rw [Finset.sum_range_succ, ← ih1 s q]
      congr 1
      refine Finset.sum_congr rfl fun x _ => ?_
      rw [e12]
      rfl
    · rw [acc_hit, pay4, Finset.sum_range_succ, ← ih2 d q]
      congr 1
      · refine readAt_at arg14.view _ rfl _ (ix2 d q) (ix2 d q) fun a => ?_
        match a with
        | ⟨0, _⟩ => show d.val = 0 + d.val; omega
        | ⟨1, _⟩ => show q.val = 0 + q.val; omega
      · refine Finset.sum_congr rfl fun x _ => ?_
        rw [e12, e6]
        rfl

end Cert.Proof.KernelIdeal
-- ==== Proof.KernelIdealTile.lean ====
/- What one trip of the loop over the blocks of queries writes into the result, named stage by stage: the scores kept and their maximum after
   each loop over the keys, the exponents' shift, the sums of the weights, the block stored. -/
module

public import proofs.«01_k».proof.Proof.KernelIdealSums
public import Idealize.ShloMosaic.Lib.Pointwise
public import Idealize.ShloMosaic.Lib.VecWindow
public import Idealize.ShloMosaic.Lib.Writes
public import Idealize.ShloMosaic.PureOps.Ideal

@[expose] public section

set_option maxRecDepth 8192
set_option maxHeartbeats 1600000
noncomputable section
namespace Cert.Proof.KernelIdeal

open Cert.KernelIdeal Cert.KernelIdeal.Gen
open Idealize.ShloMosaic Idealize.ShloMosaic.TcCoe

/-- The scale of the queries, times the constant. -/
def tileC (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec Ideal S1x8x128 .f32) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg10 : BufTy.Contents (Elt Ideal) arg10.view.ty) (X_arg13 : BufTy.Contents (Elt Ideal) arg13.view.ty) (k : Fin k0_t2_loop.trips) (v47 : BitVec 32) (v50 : BitVec 32) (h2 : k0_chk2 k v47) (h1 : k0_chk1 k v47 v50) : FVec Ideal S1x256 .f32 :=
  k0_pay11 v9 (arg7.view.readAt (Elt Ideal) (Rect.unit (s := S1x8x8192) (k0_off4 k) S1x8x256.size (k0_off4_inb k)).toLoadRect X_arg7)

/-- After the masked blocks. -/
def tile3 (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec Ideal S1x8x128 .f32) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg10 : BufTy.Contents (Elt Ideal) arg10.view.ty) (X_arg13 : BufTy.Contents (Elt Ideal) arg13.view.ty) (k : Fin k0_t2_loop.trips) (v47 : BitVec 32) (v50 : BitVec 32) (h2 : k0_chk2 k v47) (h1 : k0_chk1 k v47 v50) : FVec Ideal S8x256 .f32 × List (View.Piece (Elt Ideal) S8192x256 .f32) :=
  st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg0 v9 0#32 1#32 k (arg4.view.readAt (Elt Ideal) (Rect.unit (s := S1x1x8192x128) (k0_off3 k) S1x1x256x128.size (k0_off3_inb k)).toLoadRect X_arg4) (arg10.view.readAt (Elt Ideal) (Rect.unit (s := S1x1x8192) (k0_off5 k) S1x1x256.size (k0_off5_inb k)).toLoadRect X_arg10) v47 v50 h1 X_arg5 X_arg13 k0_pay13 (k0_t3_loop v47 v50).trips

/-- Its remainder loop. -/
def tile4 (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec Ideal S1x8x128 .f32) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg10 : BufTy.Contents (Elt Ideal) arg10.view.ty) (X_arg13 : BufTy.Contents (Elt Ideal) arg13.view.ty) (k : Fin k0_t2_loop.trips) (v47 : BitVec 32) (v50 : BitVec 32) (h2 : k0_chk2 k v47) (h1 : k0_chk1 k v47 v50) : FVec Ideal S8x256 .f32 × List (View.Piece (Elt Ideal) S8192x256 .f32) :=
  st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg0 v9 0#32 1#32 k (arg4.view.readAt (Elt Ideal) (Rect.unit (s := S1x1x8192x128) (k0_off3 k) S1x1x256x128.size (k0_off3_inb k)).toLoadRect X_arg4) (arg10.view.readAt (Elt Ideal) (Rect.unit (s := S1x1x8192) (k0_off5 k) S1x1x256.size (k0_off5_inb k)).toLoadRect X_arg10) v47 v50 h1 X_arg5 X_arg13 (tile3 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1).1 (k0_t4_loop v47 v50).trips

/-- After the unmasked blocks. -/
def tile5 (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec Ideal S1x8x128 .f32) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg10 : BufTy.Contents (Elt Ideal) arg10.view.ty) (X_arg13 : BufTy.Contents (Elt Ideal) arg13.view.ty) (k : Fin k0_t2_loop.trips) (v47 : BitVec 32) (v50 : BitVec 32) (h2 : k0_chk2 k v47) (h1 : k0_chk1 k v47 v50) : FVec Ideal S8x256 .f32 × List (View.Piece (Elt Ideal) S8192x256 .f32) :=
  st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg0 v9 0#32 1#32 k (arg4.view.readAt (Elt Ideal) (Rect.unit (s := S1x1x8192x128) (k0_off3 k) S1x1x256x128.size (k0_off3_inb k)).toLoadRect X_arg4) v47 v50 h1 X_arg5 X_arg13 (tile4 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1).1 (k0_t5_loop k v50).trips

/-- Its remainder loop. -/
def tile6 (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec Ideal S1x8x128 .f32) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg10 : BufTy.Contents (Elt Ideal) arg10.view.ty) (X_arg13 : BufTy.Contents (Elt Ideal) arg13.view.ty) (k : Fin k0_t2_loop.trips) (v47 : BitVec 32) (v50 : BitVec 32) (h2 : k0_chk2 k v47) (h1 : k0_chk1 k v47 v50) : FVec Ideal S8x256 .f32 × List (View.Piece (Elt Ideal) S8192x256 .f32) :=
  st_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 k (Scf.iv 0#32 1#32 k.val) (k0_pay10 (arg4.view.readAt (Elt Ideal) (Rect.unit (s := S1x1x8192x128) (k0_off3 k) S1x1x256x128.size (k0_off3_inb k)).toLoadRect X_arg4)) (tileC 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1) (k0_pay12 (arg10.view.readAt (Elt Ideal) (Rect.unit (s := S1x1x8192) (k0_off5 k) S1x1x256.size (k0_off5_inb k)).toLoadRect X_arg10)) v47 v50 h1 (Scalar.addi v50 (Scalar.muli (Scalar.divsi (Scalar.subi (Scf.iv 0#32 1#32 k.val) v50) 1#32) 1#32)) (tile5 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1).1 X_arg5 X_arg13 (tile5 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1).1 (k0_t6_loop k v50).trips

/-- The scratch array with all the scores. -/
def tileG (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec Ideal S1x8x128 .f32) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg10 : BufTy.Contents (Elt Ideal) arg10.view.ty) (X_arg13 : BufTy.Contents (Elt Ideal) arg13.view.ty) (k : Fin k0_t2_loop.trips) (v47 : BitVec 32) (v50 : BitVec 32) (h2 : k0_chk2 k v47) (h1 : k0_chk1 k v47 v50) (f12 : BufTy.Contents (Elt Ideal) arg12.view.ty) : BufTy.Contents (Elt Ideal) arg12.view.ty :=
  arg12.view.writes (Elt Ideal) f12 (⟨Rect.unit (k0_off21 k) S256x256.size (k0_off21_inb k), k0_pay27 (Scf.iv 0#32 1#32 k.val) (k0_pay10 (arg4.view.readAt (Elt Ideal) (Rect.unit (s := S1x1x8192x128) (k0_off3 k) S1x1x256x128.size (k0_off3_inb k)).toLoadRect X_arg4)) (k0_pay12 (arg10.view.readAt (Elt Ideal) (Rect.unit (s := S1x1x8192) (k0_off5 k) S1x1x256.size (k0_off5_inb k)).toLoadRect X_arg10)) (arg5.view.readAt (Elt Ideal) (Rect.unit (s := S1x1x8192x128) (k0_off19 k) S1x1x256x128.size (k0_off19_inb k)).toLoadRect X_arg5) (arg13.view.readAt (Elt Ideal) (Rect.unit (s := S8192x128) (k0_off20 k) S256x128.size (k0_off20_inb k)).toLoadRect X_arg13)⟩ :: ((tile6 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1).2 ++ ((tile5 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1).2 ++ ((tile4 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1).2 ++ (tile3 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1).2))))

/-- The exponents' shift. -/
def tileShift (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec Ideal S1x8x128 .f32) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg10 : BufTy.Contents (Elt Ideal) arg10.view.ty) (X_arg13 : BufTy.Contents (Elt Ideal) arg13.view.ty) (k : Fin k0_t2_loop.trips) (v47 : BitVec 32) (v50 : BitVec 32) (h2 : k0_chk2 k v47) (h1 : k0_chk1 k v47 v50) : FVec Ideal S1x256 .f32 :=
  k0_pay28 (Scf.iv 0#32 1#32 k.val) (k0_pay10 (arg4.view.readAt (Elt Ideal) (Rect.unit (s := S1x1x8192x128) (k0_off3 k) S1x1x256x128.size (k0_off3_inb k)).toLoadRect X_arg4)) (tileC 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1) (k0_pay12 (arg10.view.readAt (Elt Ideal) (Rect.unit (s := S1x1x8192) (k0_off5 k) S1x1x256.size (k0_off5_inb k)).toLoadRect X_arg10)) (tile6 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1).1 (arg5.view.readAt (Elt Ideal) (Rect.unit (s := S1x1x8192x128) (k0_off19 k) S1x1x256x128.size (k0_off19_inb k)).toLoadRect X_arg5) (arg13.view.readAt (Elt Ideal) (Rect.unit (s := S8192x128) (k0_off20 k) S256x128.size (k0_off20_inb k)).toLoadRect X_arg13)

/-- After the loop over the weights. -/
def tile7 (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec Ideal S1x8x128 .f32) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg10 : BufTy.Contents (Elt Ideal) arg10.view.ty) (X_arg13 : BufTy.Contents (Elt Ideal) arg13.view.ty) (k : Fin k0_t2_loop.trips) (v47 : BitVec 32) (v50 : BitVec 32) (h2 : k0_chk2 k v47) (h1 : k0_chk1 k v47 v50) (f12 : BufTy.Contents (Elt Ideal) arg12.view.ty) : FVec Ideal S8x256 .f32 × List (View.Piece (Elt Ideal) S128x256 .f32) :=
  st_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 k (tileC 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1) v47 h2 (tileShift 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1) X_arg6 (tileG 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 f12) (arg14.view.writes (Elt Ideal) arg14.view.junk [(⟨Rect.unit ![0, 0] S128x256.size inb_S128x256_S128x256_0_0, k0_pay29 (F := Ideal)⟩ : View.Piece (Elt Ideal) S128x256 .f32)]) k0_pay2 (k0_t7_loop k v47).trips

/-- Its remainder loop. -/
def tile8 (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec Ideal S1x8x128 .f32) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg10 : BufTy.Contents (Elt Ideal) arg10.view.ty) (X_arg13 : BufTy.Contents (Elt Ideal) arg13.view.ty) (k : Fin k0_t2_loop.trips) (v47 : BitVec 32) (v50 : BitVec 32) (h2 : k0_chk2 k v47) (h1 : k0_chk1 k v47 v50) (f12 : BufTy.Contents (Elt Ideal) arg12.view.ty) : FVec Ideal S8x256 .f32 × List (View.Piece (Elt Ideal) S128x256 .f32) :=
  st_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 k (tileC 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1) v47 h2 (tileShift 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1) X_arg6 (tileG 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 f12) (arg14.view.writes (Elt Ideal) arg14.view.junk ((tile7 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 f12).2 ++ [(⟨Rect.unit ![0, 0] S128x256.size inb_S128x256_S128x256_0_0, k0_pay29 (F := Ideal)⟩ : View.Piece (Elt Ideal) S128x256 .f32)])) (tile7 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 f12).1 (k0_t8_loop k v47).trips

/-- The block stored. -/
def tilePay (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec Ideal S1x8x128 .f32) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg10 : BufTy.Contents (Elt Ideal) arg10.view.ty) (X_arg13 : BufTy.Contents (Elt Ideal) arg13.view.ty) (k : Fin k0_t2_loop.trips) (v47 : BitVec 32) (v50 : BitVec 32) (h2 : k0_chk2 k v47) (h1 : k0_chk1 k v47 v50) (f12 : BufTy.Contents (Elt Ideal) arg12.view.ty) : FVec Ideal S1x256x128 .bf16 :=
  k0_pay9 i v11 (tile8 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 f12).1 (arg14.view.readAt (Elt Ideal) (Rect.unit (s := S128x256) ![0, 0] S128x256.size inb_S128x256_S128x256_0_0).toLoadRect (arg14.view.writes (Elt Ideal) arg14.view.junk ((tile8 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 f12).2 ++ ((tile7 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 f12).2 ++ [(⟨Rect.unit ![0, 0] S128x256.size inb_S128x256_S128x256_0_0, k0_pay29 (F := Ideal)⟩ : View.Piece (Elt Ideal) S128x256 .f32)]))))

/-- The trip's one piece of the result. -/
theorem tile_shape (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec Ideal S1x8x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg10 : BufTy.Contents (Elt Ideal) arg10.view.ty) (X_arg13 : BufTy.Contents (Elt Ideal) arg13.view.ty) (k : Fin k0_t2_loop.trips) (h2 : k0_chk2 k (wordAt (F := Ideal) i arg2 X_arg2 k)) (h1 : k0_chk1 k (wordAt (F := Ideal) i arg2 X_arg2 k) (wordAt (F := Ideal) i arg3 X_arg3 k))
    (f12 : BufTy.Contents (Elt Ideal) arg12.view.ty) (f14 : BufTy.Contents (Elt Ideal) arg14.view.ty) :
    (trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 k h2 h1).1 f12 f14 = [⟨Rect.unit (k0_off26 k) S1x256x128.size (k0_off26_inb k), tilePay 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k (wordAt (F := Ideal) i arg2 X_arg2 k) (wordAt (F := Ideal) i arg3 X_arg3 k) h2 h1 f12⟩] := by
  delta trip_k0_t2
  dsimp only
  unfold tilePay tile8 tile7 tileShift tileG tile6 tile5 tile4 tile3 tileC
  rfl

end Cert.Proof.KernelIdeal
-- ==== Proof.Attend.lean ====
/- The attention of one query over all its keys, over the extended reals, and the sums and the maximum of it that come block by block. -/
module

public import Idealize.ShloMosaic.PureOps.Ideal

@[expose] public section

noncomputable section
namespace Cert.Proof

open Idealize.ShloMosaic

/-- The greatest of the scores `T` of 8192 keys. -/
def top (T : ℕ → EReal) : EReal := (Finset.range 8192).sup T

theorem top_le {T : ℕ → EReal} {x : EReal} : top T ≤ x ↔ ∀ r, r < 8192 → T r ≤ x := by
  unfold top
  rw [Finset.sup_le_iff]
  exact ⟨fun h r hr => h r (Finset.mem_range.2 hr), fun h r hr => h r (Finset.mem_range.1 hr)⟩

theorem eq_top {T : ℕ → EReal} {M : EReal} (h : ∀ x, M ≤ x ↔ ∀ r, r < 8192 → T r ≤ x) : M = top T :=
  le_antisymm ((h _).2 (top_le.1 le_rfl)) (top_le.2 ((h _).1 le_rfl))

/-- The weight of key `r`, in the base two and 2^8 times as large: the scores are scaled by `c`. -/
def wgt (T : ℕ → EReal) (c : EReal) (r : ℕ) : EReal := Ideal.exp2 (T r * c - (top T * c - ((8 : ℝ) : EReal)))

/-- One entry of the result: the weighted sum of the values, over the sum of the weights, times the values' scale. -/
def attend (T V : ℕ → EReal) (c w : EReal) : EReal :=
  (∑ r ∈ Finset.range 8192, V r * wgt T c r) * Ideal.div 1 (∑ r ∈ Finset.range 8192, wgt T c r) * w

/-- A key that is masked weighs nothing. -/
theorem exp2_masked {c : EReal} (hc : 0 < c) (s : EReal) : Ideal.exp2 (⊥ * c - s) = 0 := by
  rw [EReal.bot_mul_of_pos hc, sub_eq_add_neg, EReal.bot_add]
  exact Ideal.exp2_bot

/-- A sum over consecutive blocks of 256 is the sum over all, the rest being zero. -/
theorem sum_blocks (f : ℕ → EReal) (lo n : ℕ) (h : 256 * (lo + n) ≤ 8192)
    (h0 : ∀ r, r < 8192 → (r < 256 * lo ∨ 256 * (lo + n) ≤ r) → f r = 0) :
    ∑ j ∈ Finset.range n, ∑ x : Fin 256, f (256 * (lo + j) + x.val) = ∑ r ∈ Finset.range 8192, f r := by
  have e1 : ∀ n, ∑ j ∈ Finset.range n, ∑ x : Fin 256, f (256 * (lo + j) + x.val) = ∑ r ∈ Finset.range (256 * n), f (256 * lo + r) := by
    intro n
    induction n with
    | zero => rfl
    | succ n ih =>
      rw [Finset.sum_range_succ, ih, show 256 * (n + 1) = 256 * n + 256 from rfl, Finset.sum_range_add,
        Fin.sum_univ_eq_sum_range (fun x => f (256 * (lo + n) + x)) 256]
      congr 1
      exact Finset.sum_congr rfl fun x _ => congrArg f (by omega)
  rw [e1]
  have e2 : ∑ r ∈ Finset.range (256 * n), f (256 * lo + r) = ∑ r ∈ Finset.Ico (256 * lo) (256 * (lo + n)), f r := by
    rw [Finset.sum_Ico_eq_sum_range, show 256 * (lo + n) - 256 * lo = 256 * n by omega]
  rw [e2]
  refine Finset.sum_subset (fun r hr => ?_) fun r hr hn => ?_
  · rw [Finset.mem_Ico] at hr
    exact Finset.mem_range.2 (by omega)
  · rw [Finset.mem_Ico] at hn
    exact h0 r (Finset.mem_range.1 hr) (by omega)

/-- A sum over 8 rows of 32 is the sum over the 256. -/
theorem sum_sub (f : Fin 256 → EReal) :
    ∑ s : Fin 8, ∑ x : Fin 32, f ⟨x.val * 8 + s.val, by omega⟩ = ∑ x : Fin 256, f x := by
  rw [Finset.sum_comm, ← Fintype.sum_prod_type']
  exact Fintype.sum_equiv (finProdFinEquiv (m := 32) (n := 8)) _ _ fun p => congrArg f (Fin.ext (by
    show p.1.val * 8 + p.2.val = p.2.val + 8 * p.1.val; omega))

end Cert.Proof
-- ==== Proof.KernelIdealTileValue.lean ====
/- The block of the result that one trip of the loop over the blocks of queries stores: the attention of each of its queries. -/
module

public import proofs.«01_k».proof.Proof.KernelIdealTile
public import proofs.«01_k».proof.Proof.Attend
public import Idealize.ShloMosaic.Lib.Pointwise
public import Idealize.ShloMosaic.Lib.VecWindow
public import Idealize.ShloMosaic.Lib.Writes
public import Idealize.ShloMosaic.PureOps.Ideal

@[expose] public section

set_option maxRecDepth 8192
set_option maxHeartbeats 1600000
noncomputable section
namespace Cert.Proof.KernelIdeal

open Cert.KernelIdeal Cert.KernelIdeal.Gen
open Idealize.ShloMosaic Idealize.ShloMosaic.TcCoe

/-- The block's first query, as an offset. -/
theorem row_k (k : Fin k0_t2_loop.trips) : (Scalar.indexCast (Scalar.muli (Scf.iv 0#32 1#32 k.val) 256#32)).toNat = 256 * k.val :=
  (cast_row t2_between (by omega) k).trans (by omega)

theorem k0_pay10_at (v28 : Vec Ideal S1x1x256x128 .fp8e4m3) (y : Fin 256) (d : Fin 128) : k0_pay10 (F := Ideal) v28 (ix2 y d) = v28 (ix4 0 0 y d) := by
  unfold k0_pay10
  pointwise

theorem k0_pay12_at (v43 : Vec Ideal S1x1x256 .i32) (y : Fin 256) : k0_pay12 (F := Ideal) v43 (ix2 0 y) = v43 (ix3 0 0 y) := by
  unfold k0_pay12
  pointwise

/-- The queries of the block. -/
theorem rd_q (k : Fin k0_t2_loop.trips) (arg4 : Memref sig .tc .vmem S1x1x8192x128 .fp8e4m3) (X : BufTy.Contents (Elt Ideal) arg4.view.ty) (Qb : ℕ → Fin 128 → EReal) (hQ : ∀ r, r < 8192 → ∀ d, arg4.view.read (Elt Ideal) X (ix4 0 0 (rowF r) d) = Qb r d) (y : Fin 256) (d : Fin 128) :
    arg4.view.readAt (Elt Ideal) (Rect.unit (s := S1x1x8192x128) (k0_off3 k) S1x1x256x128.size (k0_off3_inb k)).toLoadRect X (ix4 0 0 y d) = Qb (256 * k.val + y.val) d := by
  have ho : k0_off3 k = ![0, 0, 256 * k.val, 0] := by unfold k0_off3; exact congrArg (fun z => ![0, 0, z, 0]) (row_k k)
  have hy := y.isLt
  have hk := t2_lt k
  refine (readAt_at arg4.view X ho _ (ix4 0 0 y d) (ix4 0 0 (rowF (256 * k.val + y.val)) d) fun a => ?_).trans (hQ _ (by omega) d)
  match a with
  | ⟨0, _⟩ => rfl
  | ⟨1, _⟩ => rfl
  | ⟨2, _⟩ => show (rowF _).val = 256 * k.val + y.val; exact rowF_val (by omega)
  | ⟨3, _⟩ => show d.val = 0 + d.val; omega

/-- Their scales. -/
theorem rd_qs (k : Fin k0_t2_loop.trips) (arg7 : Memref sig .tc .vmem S1x8x8192 .f32) (X : BufTy.Contents (Elt Ideal) arg7.view.ty) (s : Fin 8) (y : Fin 256) :
    arg7.view.readAt (Elt Ideal) (Rect.unit (s := S1x8x8192) (k0_off4 k) S1x8x256.size (k0_off4_inb k)).toLoadRect X (ix3 0 s y) = arg7.view.read (Elt Ideal) X (ix3 0 s (rowF (256 * k.val + y.val))) := by
  have ho : k0_off4 k = ![0, 0, 256 * k.val] := by unfold k0_off4; exact congrArg (fun z => ![0, 0, z]) (row_k k)
  have hy := y.isLt
  have hk := t2_lt k
  refine (readAt_at arg7.view X ho _ (ix3 0 s y) (ix3 0 s (rowF (256 * k.val + y.val))) fun a => ?_).trans rfl
  match a with
  | ⟨0, _⟩ => rfl
  | ⟨1, _⟩ => show s.val = 0 + s.val; omega
  | ⟨2, _⟩ => show (rowF _).val = 256 * k.val + y.val; exact rowF_val (by omega)

/-- The rows their documents begin at. -/
theorem rd_st (k : Fin k0_t2_loop.trips) (arg10 : Memref sig .tc .vmem S1x1x8192 .i32) (X : BufTy.Contents (Elt Ideal) arg10.view.ty) (y : Fin 256) :
    arg10.view.readAt (Elt Ideal) (Rect.unit (s := S1x1x8192) (k0_off5 k) S1x1x256.size (k0_off5_inb k)).toLoadRect X (ix3 0 0 y) = arg10.view.read (Elt Ideal) X (ix3 0 0 (rowF (256 * k.val + y.val))) := by
  have ho : k0_off5 k = ![0, 0, 256 * k.val] := by unfold k0_off5; exact congrArg (fun z => ![0, 0, z]) (row_k k)
  have hy := y.isLt
  have hk := t2_lt k
  refine (readAt_at arg10.view X ho _ (ix3 0 0 y) (ix3 0 0 (rowF (256 * k.val + y.val))) fun a => ?_).trans rfl
  match a with
  | ⟨0, _⟩ => rfl
  | ⟨1, _⟩ => rfl
  | ⟨2, _⟩ => show (rowF _).val = 256 * k.val + y.val; exact rowF_val (by omega)

/-- The keys of the same rows. -/
theorem rd_k (k : Fin k0_t2_loop.trips) (arg5 : Memref sig .tc .vmem S1x1x8192x128 .fp8e4m3) (X : BufTy.Contents (Elt Ideal) arg5.view.ty) (Kb : ℕ → Fin 128 → EReal) (hK : ∀ r, r < 8192 → ∀ d, arg5.view.read (Elt Ideal) X (ix4 0 0 (rowF r) d) = Kb r d) (y : Fin 256) (d : Fin 128) :
    arg5.view.readAt (Elt Ideal) (Rect.unit (s := S1x1x8192x128) (k0_off19 k) S1x1x256x128.size (k0_off19_inb k)).toLoadRect X (ix4 0 0 y d) = Kb (256 * k.val + y.val) d := by
  have ho : k0_off19 k = ![0, 0, 256 * k.val, 0] := by unfold k0_off19; exact congrArg (fun z => ![0, 0, z, 0]) (row_k k)
  have hy := y.isLt
  have hk := t2_lt k
  refine (readAt_at arg5.view X ho _ (ix4 0 0 y d) (ix4 0 0 (rowF (256 * k.val + y.val)) d) fun a => ?_).trans (hK _ (by omega) d)
  match a with
  | ⟨0, _⟩ => rfl
  | ⟨1, _⟩ => rfl
  | ⟨2, _⟩ => show (rowF _).val = 256 * k.val + y.val; exact rowF_val (by omega)
  | ⟨3, _⟩ => show d.val = 0 + d.val; omega

/-- Their scales. -/
theorem rd_ks (k : Fin k0_t2_loop.trips) (arg13 : Memref sig .tc .vmem S8192x128 .f32) (X : BufTy.Contents (Elt Ideal) arg13.view.ty) (ks : ℕ → EReal) (hks : ∀ r, r < 8192 → ∀ d : Fin 128, arg13.view.read (Elt Ideal) X (ix2 (rowF r) d) = ks r) (y : Fin 256) (d : Fin 128) :
    arg13.view.readAt (Elt Ideal) (Rect.unit (s := S8192x128) (k0_off20 k) S256x128.size (k0_off20_inb k)).toLoadRect X (ix2 y d) = ks (256 * k.val + y.val) := by
  have ho : k0_off20 k = ![256 * k.val, 0] := by unfold k0_off20; exact congrArg (fun z => ![z, 0]) (row_k k)
  have hy := y.isLt
  have hk := t2_lt k
  refine (readAt_at arg13.view X ho _ (ix2 y d) (ix2 (rowF (256 * k.val + y.val)) d) fun a => ?_).trans (hks _ (by omega) d)
  match a with
  | ⟨0, _⟩ => show (rowF _).val = 256 * k.val + y.val; exact rowF_val (by omega)
  | ⟨1, _⟩ => show d.val = 0 + d.val; omega

/-- The scale of a query, times the constant. -/
theorem tileC_at (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec Ideal S1x8x128 .f32) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg10 : BufTy.Contents (Elt Ideal) arg10.view.ty) (X_arg13 : BufTy.Contents (Elt Ideal) arg13.view.ty) (k : Fin k0_t2_loop.trips) (v47 : BitVec 32) (v50 : BitVec 32) (h2 : k0_chk2 k v47) (h1 : k0_chk1 k v47 v50) (hv9 : v9 = BitVec.ofNat 32 ((i 1).val % 8)) (y : Fin 256) :
    tileC 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 (ix2 0 y) = arg7.view.read (Elt Ideal) X_arg7 (ix3 0 ⟨(i 1).val % 8, Nat.mod_lt _ (by omega)⟩ (rowF (256 * k.val + y.val))) * (((Real.sqrt 128)⁻¹ * (Real.log 2)⁻¹ : ℝ) : EReal) := by
  unfold tileC
  rw [hv9, pay11, rd_qs]

/-- The scores of the diagonal block. -/
theorem diag_at (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec Ideal S1x8x128 .f32) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg10 : BufTy.Contents (Elt Ideal) arg10.view.ty) (X_arg13 : BufTy.Contents (Elt Ideal) arg13.view.ty) (k : Fin k0_t2_loop.trips) (v47 : BitVec 32) (v50 : BitVec 32) (h2 : k0_chk2 k v47) (h1 : k0_chk1 k v47 v50) (lo mid : ℕ) (hlo : Affine.IsInt v47 lo) (hmid : Affine.IsInt v50 mid) (hlm : lo ≤ mid) (hmq : mid ≤ k.val)
    (Kb Qb Vb : ℕ → Fin 128 → EReal) (ks qs : ℕ → EReal) (start : ℕ → ℤ)
    (hK : ∀ r, r < 8192 → ∀ d, arg5.view.read (Elt Ideal) X_arg5 (ix4 0 0 (rowF r) d) = Kb r d)
    (hks : ∀ r, r < 8192 → ∀ d : Fin 128, arg13.view.read (Elt Ideal) X_arg13 (ix2 (rowF r) d) = ks r)
    (hQ : ∀ r, r < 8192 → ∀ d, arg4.view.read (Elt Ideal) X_arg4 (ix4 0 0 (rowF r) d) = Qb r d)
    (hV : ∀ r, r < 8192 → ∀ d, arg6.view.read (Elt Ideal) X_arg6 (ix4 0 0 d (rowF r)) = Vb r d)
    (hS : ∀ r, r < 8192 → (arg10.view.read (Elt Ideal) X_arg10 (ix3 0 0 (rowF r)) : BitVec 32).toInt = start r)
    (hlow : ∀ y : Fin 256, ((256 * lo : ℕ) : ℤ) ≤ start (256 * k.val + y.val)) (hmidd : ∀ y : Fin 256, mid < k.val → start (256 * k.val + y.val) ≤ ((256 * mid : ℕ) : ℤ)) (x y : Fin 256) :
    k0_pay27 (F := Ideal) (Scf.iv 0#32 1#32 k.val) (k0_pay10 (arg4.view.readAt (Elt Ideal) (Rect.unit (s := S1x1x8192x128) (k0_off3 k) S1x1x256x128.size (k0_off3_inb k)).toLoadRect X_arg4)) (k0_pay12 (arg10.view.readAt (Elt Ideal) (Rect.unit (s := S1x1x8192) (k0_off5 k) S1x1x256.size (k0_off5_inb k)).toLoadRect X_arg10)) (arg5.view.readAt (Elt Ideal) (Rect.unit (s := S1x1x8192x128) (k0_off19 k) S1x1x256x128.size (k0_off19_inb k)).toLoadRect X_arg5) (arg13.view.readAt (Elt Ideal) (Rect.unit (s := S8192x128) (k0_off20 k) S256x128.size (k0_off20_inb k)).toLoadRect X_arg13) (ix2 x y) = masked start Kb Qb ks (256 * k.val + x.val) (256 * k.val + y.val) := by
  have hk := t2_lt k
  have hx := x.isLt
  have hy := y.isLt
  rw [pay27 _ _ _ _ _ (ks (256 * k.val + x.val)) x y k.val (by omega) (t2_iv k) (rd_ks k arg13 X_arg13 ks hks x), k0_pay12_at, rd_st, hS _ (by omega)]
  simp only [k0_pay10_at, rd_q k arg4 X_arg4 Qb hQ, rd_k k arg5 X_arg5 Kb hK]
  rfl

/-- The maxima and the scores kept after the loop over the masked blocks and that over the unmasked ones. -/
theorem tile5_good (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec Ideal S1x8x128 .f32) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg10 : BufTy.Contents (Elt Ideal) arg10.view.ty) (X_arg13 : BufTy.Contents (Elt Ideal) arg13.view.ty) (k : Fin k0_t2_loop.trips) (v47 : BitVec 32) (v50 : BitVec 32) (h2 : k0_chk2 k v47) (h1 : k0_chk1 k v47 v50) (lo mid : ℕ) (hlo : Affine.IsInt v47 lo) (hmid : Affine.IsInt v50 mid) (hlm : lo ≤ mid) (hmq : mid ≤ k.val)
    (Kb Qb Vb : ℕ → Fin 128 → EReal) (ks qs : ℕ → EReal) (start : ℕ → ℤ)
    (hK : ∀ r, r < 8192 → ∀ d, arg5.view.read (Elt Ideal) X_arg5 (ix4 0 0 (rowF r) d) = Kb r d)
    (hks : ∀ r, r < 8192 → ∀ d : Fin 128, arg13.view.read (Elt Ideal) X_arg13 (ix2 (rowF r) d) = ks r)
    (hQ : ∀ r, r < 8192 → ∀ d, arg4.view.read (Elt Ideal) X_arg4 (ix4 0 0 (rowF r) d) = Qb r d)
    (hV : ∀ r, r < 8192 → ∀ d, arg6.view.read (Elt Ideal) X_arg6 (ix4 0 0 d (rowF r)) = Vb r d)
    (hS : ∀ r, r < 8192 → (arg10.view.read (Elt Ideal) X_arg10 (ix3 0 0 (rowF r)) : BitVec 32).toInt = start r)
    (hlow : ∀ y : Fin 256, ((256 * lo : ℕ) : ℤ) ≤ start (256 * k.val + y.val)) (hmidd : ∀ y : Fin 256, mid < k.val → start (256 * k.val + y.val) ≤ ((256 * mid : ℕ) : ℤ)) (f12 : BufTy.Contents (Elt Ideal) arg12.view.ty) :
    (tile4 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1).2 = [] ∧ (tile6 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1).2 = [] ∧ (tile6 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1).1 = (tile5 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1).1
      ∧ Good (masked start Kb Qb ks) arg12.view k.val lo k.val (tile5 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1).1 (arg12.view.writes (Elt Ideal) f12 ((tile5 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1).2 ++ (tile3 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1).2)) := by
  have hk := t2_lt k
  have n3 : (k0_t3_loop v47 v50).trips = mid - lo := (t3_between hlo hmid hlm (by omega)).trips hlm (by omega)
  have n4 : (k0_t4_loop v47 v50).trips = 0 := ((t4_between hlo hmid hlm (by omega)).trips le_rfl (by omega)).trans (Nat.sub_self _)
  have n5 : (k0_t5_loop k v50).trips = k.val - mid := (t5_between hmid hmq).trips hmq (by omega)
  have n6 : (k0_t6_loop k v50).trips = 0 := ((t6_between hmid hmq).trips le_rfl (by omega)).trans (Nat.sub_self _)
  have g3 := t3_state 𝒱 c bd i arg2 harg2 arg3 harg3 arg4 harg4 arg5 harg5 arg6 harg6 arg7 harg7 arg8 harg8 arg9 harg9 arg10 harg10 arg11 harg11 arg12 harg12 arg13 harg13 arg14 harg14 arg0 v9 k (arg4.view.readAt (Elt Ideal) (Rect.unit (s := S1x1x8192x128) (k0_off3 k) S1x1x256x128.size (k0_off3_inb k)).toLoadRect X_arg4) (arg10.view.readAt (Elt Ideal) (Rect.unit (s := S1x1x8192) (k0_off5 k) S1x1x256.size (k0_off5_inb k)).toLoadRect X_arg10) v47 v50 h1 X_arg5 X_arg13 lo mid hlo hmid hlm hmq Kb Qb ks start hK hks
    (rd_q k arg4 X_arg4 Qb hQ) (fun y => by rw [rd_st]; exact hS _ (by have := y.isLt; omega)) f12 (mid - lo) le_rfl
  rw [show lo + (mid - lo) = mid by omega] at g3
  have e4 : tile4 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 = ((tile3 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1).1, []) := by
    unfold tile4
    rw [n4]
    rfl
  have e6 : tile6 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 = ((tile5 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1).1, []) := by
    unfold tile6
    rw [n6]
    rfl
  refine ⟨by rw [e4], by rw [e6], by rw [e6], ?_⟩
  have g5 := t5_state 𝒱 c bd i arg2 harg2 arg3 harg3 arg4 harg4 arg5 harg5 arg6 harg6 arg7 harg7 arg8 harg8 arg9 harg9 arg10 harg10 arg11 harg11 arg12 harg12 arg13 harg13 arg14 harg14 arg0 v9 k (arg4.view.readAt (Elt Ideal) (Rect.unit (s := S1x1x8192x128) (k0_off3 k) S1x1x256x128.size (k0_off3_inb k)).toLoadRect X_arg4) v47 v50 h1 X_arg5 X_arg13 lo mid hmid hlm hmq Kb Qb ks start hK hks
    (rd_q k arg4 X_arg4 Qb hQ) (fun y hm => by have := hmidd y hm; push_cast at this; exact this) _ _ g3 (k.val - mid) le_rfl
  rw [show mid + (k.val - mid) = k.val by omega, ← View.writes_append] at g5
  unfold tile5
  rw [e4]
  unfold tile3
  rw [n3, n5]
  exact g5

/-- A key before the block's first one or after its last is masked. -/
theorem masked_out {start : ℕ → ℤ} {Kb Qb : ℕ → Fin 128 → EReal} {ks : ℕ → EReal} {lo n q r : ℕ} (hlow : ((256 * lo : ℕ) : ℤ) ≤ start q) (hq : q < 256 * (n + 1))
    (h : r < 256 * lo ∨ 256 * (n + 1) ≤ r) : masked start Kb Qb ks r q = ⊥ := by
  unfold masked
  refine if_neg fun h' => ?_
  push_cast at hlow
  omega

/-- All the scores that are not masked are kept. -/
theorem tileG_held (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec Ideal S1x8x128 .f32) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg10 : BufTy.Contents (Elt Ideal) arg10.view.ty) (X_arg13 : BufTy.Contents (Elt Ideal) arg13.view.ty) (k : Fin k0_t2_loop.trips) (v47 : BitVec 32) (v50 : BitVec 32) (h2 : k0_chk2 k v47) (h1 : k0_chk1 k v47 v50) (lo mid : ℕ) (hlo : Affine.IsInt v47 lo) (hmid : Affine.IsInt v50 mid) (hlm : lo ≤ mid) (hmq : mid ≤ k.val)
    (Kb Qb Vb : ℕ → Fin 128 → EReal) (ks qs : ℕ → EReal) (start : ℕ → ℤ)
    (hK : ∀ r, r < 8192 → ∀ d, arg5.view.read (Elt Ideal) X_arg5 (ix4 0 0 (rowF r) d) = Kb r d)
    (hks : ∀ r, r < 8192 → ∀ d : Fin 128, arg13.view.read (Elt Ideal) X_arg13 (ix2 (rowF r) d) = ks r)
    (hQ : ∀ r, r < 8192 → ∀ d, arg4.view.read (Elt Ideal) X_arg4 (ix4 0 0 (rowF r) d) = Qb r d)
    (hV : ∀ r, r < 8192 → ∀ d, arg6.view.read (Elt Ideal) X_arg6 (ix4 0 0 d (rowF r)) = Vb r d)
    (hS : ∀ r, r < 8192 → (arg10.view.read (Elt Ideal) X_arg10 (ix3 0 0 (rowF r)) : BitVec 32).toInt = start r)
    (hlow : ∀ y : Fin 256, ((256 * lo : ℕ) : ℤ) ≤ start (256 * k.val + y.val)) (hmidd : ∀ y : Fin 256, mid < k.val → start (256 * k.val + y.val) ≤ ((256 * mid : ℕ) : ℤ)) (f12 : BufTy.Contents (Elt Ideal) arg12.view.ty) (r : ℕ) (q : Fin 256) (h1' : 256 * lo ≤ r) (h2' : r < 256 * (k.val + 1)) :
    arg12.view.read (Elt Ideal) (tileG 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 f12) (ix2 (rowF r) q) = masked start Kb Qb ks r (256 * k.val + q.val) := by
  obtain ⟨e4, e6, -, hG⟩ := tile5_good 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 lo mid hlo hmid hlm hmq Kb Qb Vb ks qs start hK hks hQ hV hS hlow hmidd f12
  unfold tileG
  rw [e4, e6, List.nil_append, List.nil_append, ← List.singleton_append, View.writes_append]
  have ho : k0_off21 k = ![256 * k.val, 0] := by unfold k0_off21; exact congrArg (fun z => ![z, 0]) (row_k k)
  exact held_step hG.2 (t2_lt k) ho _ _ (diag_at 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 lo mid hlo hmid hlm hmq Kb Qb Vb ks qs start hK hks hQ hV hS hlow hmidd) r q h1' h2'

/-- The exponents' shift: the greatest score scaled, less eight. -/
theorem tileShift_at (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec Ideal S1x8x128 .f32) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg10 : BufTy.Contents (Elt Ideal) arg10.view.ty) (X_arg13 : BufTy.Contents (Elt Ideal) arg13.view.ty) (k : Fin k0_t2_loop.trips) (v47 : BitVec 32) (v50 : BitVec 32) (h2 : k0_chk2 k v47) (h1 : k0_chk1 k v47 v50) (lo mid : ℕ) (hlo : Affine.IsInt v47 lo) (hmid : Affine.IsInt v50 mid) (hlm : lo ≤ mid) (hmq : mid ≤ k.val)
    (Kb Qb Vb : ℕ → Fin 128 → EReal) (ks qs : ℕ → EReal) (start : ℕ → ℤ)
    (hK : ∀ r, r < 8192 → ∀ d, arg5.view.read (Elt Ideal) X_arg5 (ix4 0 0 (rowF r) d) = Kb r d)
    (hks : ∀ r, r < 8192 → ∀ d : Fin 128, arg13.view.read (Elt Ideal) X_arg13 (ix2 (rowF r) d) = ks r)
    (hQ : ∀ r, r < 8192 → ∀ d, arg4.view.read (Elt Ideal) X_arg4 (ix4 0 0 (rowF r) d) = Qb r d)
    (hV : ∀ r, r < 8192 → ∀ d, arg6.view.read (Elt Ideal) X_arg6 (ix4 0 0 d (rowF r)) = Vb r d)
    (hS : ∀ r, r < 8192 → (arg10.view.read (Elt Ideal) X_arg10 (ix3 0 0 (rowF r)) : BitVec 32).toInt = start r)
    (hlow : ∀ y : Fin 256, ((256 * lo : ℕ) : ℤ) ≤ start (256 * k.val + y.val)) (hmidd : ∀ y : Fin 256, mid < k.val → start (256 * k.val + y.val) ≤ ((256 * mid : ℕ) : ℤ)) (q : Fin 256) :
    tileShift 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 (ix2 0 q) = top (fun r => masked start Kb Qb ks r (256 * k.val + q.val)) * tileC 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 (ix2 0 q) - ((8 : ℝ) : EReal) := by
  obtain ⟨-, -, e6, hG⟩ := tile5_good 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 lo mid hlo hmid hlm hmq Kb Qb Vb ks qs start hK hks hQ hV hS hlow hmidd arg12.view.junk
  have hk := t2_lt k
  have hq := q.isLt
  unfold tileShift
  rw [e6]
  obtain ⟨M, hM, hs⟩ := pay28 (Scf.iv 0#32 1#32 k.val) (k0_pay10 (arg4.view.readAt (Elt Ideal) (Rect.unit (s := S1x1x8192x128) (k0_off3 k) S1x1x256x128.size (k0_off3_inb k)).toLoadRect X_arg4)) (tileC 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1) (k0_pay12 (arg10.view.readAt (Elt Ideal) (Rect.unit (s := S1x1x8192) (k0_off5 k) S1x1x256.size (k0_off5_inb k)).toLoadRect X_arg10)) (tile5 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1).1 (arg5.view.readAt (Elt Ideal) (Rect.unit (s := S1x1x8192x128) (k0_off19 k) S1x1x256x128.size (k0_off19_inb k)).toLoadRect X_arg5) (arg13.view.readAt (Elt Ideal) (Rect.unit (s := S8192x128) (k0_off20 k) S256x128.size (k0_off20_inb k)).toLoadRect X_arg13) q
  rw [hM]
  refine congrArg (fun z => z * tileC 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 (ix2 0 q) - ((8 : ℝ) : EReal)) ?_
  refine eq_top fun x => (hs x).trans ?_
  have hstep := fun s => max_step (x := x) (le_trans hlm hmq) (hG.1 s q x) _ (diag_at 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 lo mid hlo hmid hlm hmq Kb Qb Vb ks qs start hK hks hQ hV hS hlow hmidd)
  constructor
  · intro h r hr
    by_cases hin : 256 * lo ≤ r ∧ r < 256 * (k.val + 1)
    · exact (hstep ⟨r % 8, Nat.mod_lt _ (by omega)⟩).1 (h _) r hin.1 hin.2 rfl
    · rw [masked_out (hlow q) (n := k.val) (by omega) (by omega)]
      exact bot_le
  · intro h s
    exact (hstep s).2 fun r _ h2 _ => h r (by omega)

/-- **The block stored**: the attention of each of its queries. -/
theorem tilePay_at (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec Ideal S1x8x128 .f32) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg10 : BufTy.Contents (Elt Ideal) arg10.view.ty) (X_arg13 : BufTy.Contents (Elt Ideal) arg13.view.ty) (k : Fin k0_t2_loop.trips) (v47 : BitVec 32) (v50 : BitVec 32) (h2 : k0_chk2 k v47) (h1 : k0_chk1 k v47 v50) (lo mid : ℕ) (hlo : Affine.IsInt v47 lo) (hmid : Affine.IsInt v50 mid) (hlm : lo ≤ mid) (hmq : mid ≤ k.val)
    (Kb Qb Vb : ℕ → Fin 128 → EReal) (ks qs : ℕ → EReal) (start : ℕ → ℤ)
    (hK : ∀ r, r < 8192 → ∀ d, arg5.view.read (Elt Ideal) X_arg5 (ix4 0 0 (rowF r) d) = Kb r d)
    (hks : ∀ r, r < 8192 → ∀ d : Fin 128, arg13.view.read (Elt Ideal) X_arg13 (ix2 (rowF r) d) = ks r)
    (hQ : ∀ r, r < 8192 → ∀ d, arg4.view.read (Elt Ideal) X_arg4 (ix4 0 0 (rowF r) d) = Qb r d)
    (hV : ∀ r, r < 8192 → ∀ d, arg6.view.read (Elt Ideal) X_arg6 (ix4 0 0 d (rowF r)) = Vb r d)
    (hS : ∀ r, r < 8192 → (arg10.view.read (Elt Ideal) X_arg10 (ix3 0 0 (rowF r)) : BitVec 32).toInt = start r)
    (hlow : ∀ y : Fin 256, ((256 * lo : ℕ) : ℤ) ≤ start (256 * k.val + y.val)) (hmidd : ∀ y : Fin 256, mid < k.val → start (256 * k.val + y.val) ≤ ((256 * mid : ℕ) : ℤ)) (f12 : BufTy.Contents (Elt Ideal) arg12.view.ty) (q : Fin 256) (d : Fin 128)
    (hc : 0 < tileC 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 (ix2 0 q)) :
    tilePay 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 f12 (ix3 0 q d) = attend (fun r => masked start Kb Qb ks r (256 * k.val + q.val)) (fun r => Vb r d) (tileC 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 (ix2 0 q)) (v11 (ix3 0 ⟨(i 1).val % 8, Nat.mod_lt _ (by omega)⟩ d)) := by
  have hk := t2_lt k
  have hq := q.isLt
  have n7 : (k0_t7_loop k v47).trips = k.val + 1 - lo := (t7_between hlo (le_trans hlm hmq)).trips (by omega) (by omega)
  have n8 : (k0_t8_loop k v47).trips = 0 := ((t8_between hlo (le_trans hlm hmq)).trips le_rfl (by omega)).trans (Nat.sub_self _)
  have e8 : tile8 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 f12 = ((tile7 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 f12).1, []) := by
    unfold tile8
    rw [n8]
    rfl
  have h7 := t7_state 𝒱 c bd i arg2 harg2 arg3 harg3 arg4 harg4 arg5 harg5 arg6 harg6 arg7 harg7 arg8 harg8 arg9 harg9 arg10 harg10 arg11 harg11 arg12 harg12 arg13 harg13 arg14 harg14 k (tileC 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1) v47 h2 (tileShift 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1) X_arg6 (tileG 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 f12) lo hlo (le_trans hlm hmq) (masked start Kb Qb ks) Vb hV
    (tileG_held 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 lo mid hlo hmid hlm hmq Kb Qb Vb ks qs start hK hks hQ hV hS hlow hmidd f12) (arg14.view.writes (Elt Ideal) arg14.view.junk [(⟨Rect.unit ![0, 0] S128x256.size inb_S128x256_S128x256_0_0, k0_pay29 (F := Ideal)⟩ : View.Piece (Elt Ideal) S128x256 .f32)]) (fun d q => by
      rw [acc_hit]
      unfold k0_pay29
      pointwise) (k.val + 1 - lo) le_rfl
  have e7 : tile7 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 f12 = st_k0_t7 (F := Ideal) 𝒱 c bd i arg2 harg2 arg3 harg3 arg4 harg4 arg5 harg5 arg6 harg6 arg7 harg7 arg8 harg8 arg9 harg9 arg10 harg10 arg11 harg11 arg12 harg12 arg13 harg13 arg14 harg14 k (tileC 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1) v47 h2 (tileShift 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1) X_arg6 (tileG 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 f12) (arg14.view.writes (Elt Ideal) arg14.view.junk [(⟨Rect.unit ![0, 0] S128x256.size inb_S128x256_S128x256_0_0, k0_pay29 (F := Ideal)⟩ : View.Piece (Elt Ideal) S128x256 .f32)]) k0_pay2 (k.val + 1 - lo) := by
    unfold tile7
    rw [n7]
  rw [← e7] at h7
  have ew : ∀ r, weight (tileC 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1) (tileShift 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1) (masked start Kb Qb ks) k.val r q = wgt (fun r => masked start Kb Qb ks r (256 * k.val + q.val)) (tileC 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 (ix2 0 q)) r := fun r => by
    unfold weight wgt
    rw [tileShift_at 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 lo mid hlo hmid hlm hmq Kb Qb Vb ks qs start hK hks hQ hV hS hlow hmidd q]
  have ez : ∀ r, r < 8192 → (r < 256 * lo ∨ 256 * (lo + (k.val + 1 - lo)) ≤ r) → wgt (fun r => masked start Kb Qb ks r (256 * k.val + q.val)) (tileC 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 (ix2 0 q)) r = 0 := fun r _ h => by
    unfold wgt
    dsimp only
    rw [masked_out (hlow q) (n := k.val) (by omega) (by omega)]
    exact exp2_masked hc _
  unfold tilePay
  rw [e8, List.nil_append, pay9]
  unfold attend
  refine congrArg₂ (fun a b => a * Ideal.div 1 b * v11 (ix3 0 ⟨(i 1).val % 8, Nat.mod_lt _ (by omega)⟩ d)) ?_ ?_
  · refine ((readAt_at arg14.view _ rfl _ (ix2 d q) (ix2 d q) fun a => ?_).trans ?_)
    · match a with
      | ⟨0, _⟩ => show d.val = 0 + d.val; omega
      | ⟨1, _⟩ => show q.val = 0 + q.val; omega
    · rw [View.writes_append]
      refine (h7.2 d q).trans ?_
      simp only [ew]
      refine sum_blocks (fun r => Vb r d * wgt (fun r => masked start Kb Qb ks r (256 * k.val + q.val)) (tileC 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 (ix2 0 q)) r) lo _ (by omega) fun r hr h => ?_
      rw [ez r hr h, mul_zero]
  · simp only [h7.1, ew]
    rw [Finset.sum_comm]
    refine Eq.trans (Finset.sum_congr rfl fun j _ => ?_) (sum_blocks (wgt (fun r => masked start Kb Qb ks r (256 * k.val + q.val)) (tileC 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 (ix2 0 q))) lo _ (by omega) ez)
    exact sum_sub fun x => wgt (fun r => masked start Kb Qb ks r (256 * k.val + q.val)) (tileC 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k v47 v50 h2 h1 (ix2 0 q)) (256 * (lo + j) + x.val)

end Cert.Proof.KernelIdeal
-- ==== Proof.KernelIdealOut.lean ====
/- What one run of the body leaves in the result: the attention of every query of its head, block after block. -/
module

public import proofs.«01_k».proof.Proof.KernelIdealTileValue
public import proofs.«01_k».proof.Proof.KernelIdealTables
public import Idealize.ShloMosaic.Lib.Pointwise
public import Idealize.ShloMosaic.Lib.VecWindow
public import Idealize.ShloMosaic.Lib.Writes
public import Idealize.ShloMosaic.PureOps.Ideal

@[expose] public section

set_option maxRecDepth 8192
set_option maxHeartbeats 1600000
noncomputable section
namespace Cert.Proof.KernelIdeal

open Cert.KernelIdeal Cert.KernelIdeal.Gen
open Idealize.ShloMosaic Idealize.ShloMosaic.TcCoe

/-- The blocks stored before trip `n`. -/
theorem t2_state (𝒱 : Variants) (c : Dev nD) (bd : Option 𝒱.V) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (arg0 : BitVec 32) (v9 : BitVec 32) (v11 : Vec Ideal S1x8x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg10 : BufTy.Contents (Elt Ideal) arg10.view.ty) (X_arg13 : BufTy.Contents (Elt Ideal) arg13.view.ty) (hT : TablesOK (F := Ideal) i arg2 arg3 X_arg2 X_arg3) (B : ℕ → Fin 128 → EReal)
    (hB : ∀ (k : Fin k0_t2_loop.trips) (f12 : BufTy.Contents (Elt Ideal) arg12.view.ty) (q : Fin 256) (d : Fin 128),
      tilePay 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg4 X_arg5 X_arg6 X_arg7 X_arg10 X_arg13 k (wordAt (F := Ideal) i arg2 X_arg2 k) (wordAt (F := Ideal) i arg3 X_arg3 k) (hT k).1 (hT k).2 f12 (ix3 0 q d) = B (256 * k.val + q.val) d)
    (G12 : BufTy.Contents (Elt Ideal) arg12.view.ty) (G14 : BufTy.Contents (Elt Ideal) arg14.view.ty) (f : BufTy.Contents (Elt Ideal) arg11.view.ty)
    (n : ℕ) (hn : n ≤ 32) (r : ℕ) (hr : r < 256 * n) (d : Fin 128) :
    arg11.view.read (Elt Ideal) (arg11.view.writes (Elt Ideal) f (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 G12 G14 n).1) (ix3 0 (rowF r) d) = B r d := by
  induction n with
  | zero => omega
  | succ n ih =>
    let k : Fin k0_t2_loop.trips := ⟨n, by show n < 32; omega⟩
    have o1 : k0_off26 k = ![0, 256 * n, 0] := by unfold k0_off26; exact congrArg (fun z => ![0, z, 0]) (row_k k)
    rw [show n + 1 = k.val + 1 from rfl, st_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg0 v9 v11 X_arg2 X_arg3 X_arg4 X_arg5 X_arg6 X_arg7 X_arg10 X_arg13 G12 G14 k (hT k).1 (hT k).2 _ rfl]
    dsimp only
    rw [tile_shape, View.writes_append]
    by_cases h : r < 256 * n
    · rw [View.read_writes_cons_miss_of_axis arg11.view _ _ [] (ix3 0 (rowF r) d) 1 (256 * n) 256 (congrFun o1 1) rfl rfl (by
        left; show (rowF r).val < _; rw [rowF_val (by omega)]; exact h)]
      exact ih (by omega) h
    · have hlt : r - 256 * n < 256 := by omega
      have e := hB k
      refine (View.read_writes_cons_hit_of_coords arg11.view _ (Rect.unit (s := S1x8192x128) (k0_off26 k) S1x256x128.size (k0_off26_inb k)) _ [] (ix3 0 (⟨r - 256 * n, hlt⟩ : Fin 256) d) (ix3 0 (rowF r) d) fun a => ?_).trans ?_
      · match a with
        | ⟨0, _⟩ =>
          show 0 = k0_off26 k 0 + 1 * 0
          rw [congrFun o1 0]
          rfl
        | ⟨1, _⟩ =>
          show (rowF r).val = k0_off26 k 1 + 1 * (r - 256 * n)
          rw [congrFun o1 1, rowF_val (by omega)]
          show r = 256 * n + 1 * (r - 256 * n)
          omega
        | ⟨2, _⟩ =>
          show d.val = k0_off26 k 2 + 1 * d.val
          rw [congrFun o1 2]
          show d.val = 0 + 1 * d.val
          omega
      · refine (hB k _ ⟨r - 256 * n, hlt⟩ d).trans ?_
        exact congrArg (fun z => B z d) (show 256 * n + (r - 256 * n) = r by omega)

/-- The pieces of the result that the run finds are those of the loop over the blocks of queries. -/
theorem run_pieces (c : Dev nD) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (x0 : Vec Ideal S1x1x8192x128 .fp8e4m3) (x1 : Vec Ideal S1x1x8192x128 .fp8e4m3) (x2 : Vec Ideal S1x1x128x8192 .fp8e4m3) (x3 : Vec Ideal S1x8x8192 .f32) (x4 : Vec Ideal S1x8x8192 .f32) (x5 : Vec Ideal S1x8x128 .f32) (x6 : Vec Ideal S1x1x8192 .i32) (xt0 : BufTy.Contents (Elt Ideal) arg2.view.ty) (xt1 : BufTy.Contents (Elt Ideal) arg3.view.ty) (hT : TablesOK (F := Ideal) i arg2 arg3 xt0 xt1) (f12 : BufTy.Contents (Elt Ideal) arg12.view.ty) (f13 : BufTy.Contents (Elt Ideal) arg13.view.ty) (f14 : BufTy.Contents (Elt Ideal) arg14.view.ty) : (kernelRun (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 hT).1 f12 f13 f14
    = (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (kernelRun.sl.v9 i)
        (arg9.view.readAt (Elt Ideal) (Rect.unit (s := S1x8x128) ![0, 0, 0] S1x8x128.size inb_S1x8x128_S1x8x128_0_0_0).toLoadRect (harg9.unread x5))
        xt0 xt1 (harg4.unread x0) (harg5.unread x1) (harg6.unread x2) (harg7.unread x3) (harg10.unread x6)
        (arg13.view.writes (Elt Ideal) f13 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (harg8.unread x4) (Scf.trips 0#32 (Scalar.addi 0#32 64#32) 1#32)))
        f12 f14 (Scf.trips 0#32 (Scalar.addi 0#32 32#32) 1#32)).1 := by
  delta kernelRun
  rfl

/-- The head's number within its group of eight, as the body computes it. -/
theorem v9_eq (i : grid0.Coords) : kernelRun.sl.v9 i = BitVec.ofNat 32 ((i 1).val % 8) := by
  unfold kernelRun.sl.v9
  exact head_word (i 1)

/-- **What a run of the body leaves in the result**: at every query the attention over the keys, whatever the scratch arrays held. -/
theorem run_at (c : Dev nD) (i : grid0.Coords) (arg2 : Memref sig .tc .smem S4x32 .i32) (harg2 : arg2.IsWhole) (arg3 : Memref sig .tc .smem S4x32 .i32) (harg3 : arg3.IsWhole) (arg4 : Memref sig .tc .vmem S1x1x8192x128 .fp8e4m3) (harg4 : arg4.IsWhole) (arg5 : Memref sig .tc .vmem S1x1x8192x128 .fp8e4m3) (harg5 : arg5.IsWhole) (arg6 : Memref sig .tc .vmem S1x1x128x8192 .fp8e4m3) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x8x128 .f32) (harg9 : arg9.IsWhole) (arg10 : Memref sig .tc .vmem S1x1x8192 .i32) (harg10 : arg10.IsWhole) (arg11 : Memref sig .tc .vmem S1x8192x128 .bf16) (harg11 : arg11.IsWhole) (arg12 : Memref sig .tc .vmem S8192x256 .f32) (harg12 : arg12.IsWhole) (arg13 : Memref sig .tc .vmem S8192x128 .f32) (harg13 : arg13.IsWhole) (arg14 : Memref sig .tc .vmem S128x256 .f32) (harg14 : arg14.IsWhole) (x0 : Vec Ideal S1x1x8192x128 .fp8e4m3) (x1 : Vec Ideal S1x1x8192x128 .fp8e4m3) (x2 : Vec Ideal S1x1x128x8192 .fp8e4m3) (x3 : Vec Ideal S1x8x8192 .f32) (x4 : Vec Ideal S1x8x8192 .f32) (x5 : Vec Ideal S1x8x128 .f32) (x6 : Vec Ideal S1x1x8192 .i32) (xt0 : BufTy.Contents (Elt Ideal) arg2.view.ty) (xt1 : BufTy.Contents (Elt Ideal) arg3.view.ty) (hT : TablesOK (F := Ideal) i arg2 arg3 xt0 xt1) (lo mid : Fin k0_t2_loop.trips → ℕ)
    (hlo : ∀ k, Affine.IsInt (wordAt (F := Ideal) i arg2 xt0 k) (lo k)) (hmid : ∀ k, Affine.IsInt (wordAt (F := Ideal) i arg3 xt1 k) (mid k))
    (hlm : ∀ k, lo k ≤ mid k) (hmq : ∀ k, mid k ≤ k.val)
    (hlow : ∀ k (y : Fin 256), ((256 * lo k : ℕ) : ℤ) ≤ (x6 (ix3 0 0 (rowF (256 * k.val + y.val))) : BitVec 32).toInt)
    (hmidd : ∀ k (y : Fin 256), mid k < k.val → (x6 (ix3 0 0 (rowF (256 * k.val + y.val))) : BitVec 32).toInt ≤ ((256 * mid k : ℕ) : ℤ))
    (hq : ∀ h y, (0 : EReal) < x3 (ix3 0 h y))
    (f12 : BufTy.Contents (Elt Ideal) arg12.view.ty) (f13 : BufTy.Contents (Elt Ideal) arg13.view.ty) (f14 : BufTy.Contents (Elt Ideal) arg14.view.ty) (f : BufTy.Contents (Elt Ideal) arg11.view.ty) (r : ℕ) (hr : r < 8192) (d : Fin 128) :
    arg11.view.read (Elt Ideal) (arg11.view.writes (Elt Ideal) f ((kernelRun (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 hT).1 f12 f13 f14)) (ix3 0 (rowF r) d)
      = attend (fun r' => masked (fun z => (x6 (ix3 0 0 (rowF z)) : BitVec 32).toInt) (fun z e => x1 (ix4 0 0 (rowF z) e)) (fun z e => x0 (ix4 0 0 (rowF z) e)) (fun z => x4 (ix3 0 ⟨(i 1).val % 8, Nat.mod_lt _ (by omega)⟩ (rowF z))) r' r)
          (fun r' => x2 (ix4 0 0 d (rowF r'))) (x3 (ix3 0 ⟨(i 1).val % 8, Nat.mod_lt _ (by omega)⟩ (rowF r)) * (((Real.sqrt 128)⁻¹ * (Real.log 2)⁻¹ : ℝ) : EReal)) (x5 (ix3 0 ⟨(i 1).val % 8, Nat.mod_lt _ (by omega)⟩ d)) := by
  rw [run_pieces, show Scf.trips 0#32 (Scalar.addi 0#32 32#32) 1#32 = 32 from rfl, show Scf.trips 0#32 (Scalar.addi 0#32 64#32) 1#32 = 64 from rfl]
  refine t2_state (bd := none) (hT := hT)
    (B := fun r d => attend (fun r' => masked (fun z => (x6 (ix3 0 0 (rowF z)) : BitVec 32).toInt) (fun z e => x1 (ix4 0 0 (rowF z) e)) (fun z e => x0 (ix4 0 0 (rowF z) e)) (fun z => x4 (ix3 0 ⟨(i 1).val % 8, Nat.mod_lt _ (by omega)⟩ (rowF z))) r' r)
          (fun r' => x2 (ix4 0 0 d (rowF r'))) (x3 (ix3 0 ⟨(i 1).val % 8, Nat.mod_lt _ (by omega)⟩ (rowF r)) * (((Real.sqrt 128)⁻¹ * (Real.log 2)⁻¹ : ℝ) : EReal)) (x5 (ix3 0 ⟨(i 1).val % 8, Nat.mod_lt _ (by omega)⟩ d)))
    (hB := fun k g q d => ?_) (n := 32) (hn := le_rfl) (r := r) (hr := by omega) (d := d) ..
  have hk := t2_lt k
  have hqq := q.isLt
  have hC : tileC Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (kernelRun.sl.v9 i) (arg9.view.readAt (Elt Ideal) (Rect.unit (s := S1x8x128) ![0, 0, 0] S1x8x128.size inb_S1x8x128_S1x8x128_0_0_0).toLoadRect (harg9.unread x5)) (harg4.unread x0) (harg5.unread x1) (harg6.unread x2) (harg7.unread x3) (harg10.unread x6) (arg13.view.writes (Elt Ideal) f13 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (harg8.unread x4) 64)) k (wordAt (F := Ideal) i arg2 xt0 k) (wordAt (F := Ideal) i arg3 xt1 k) (hT k).1 (hT k).2 (ix2 0 q) = x3 (ix3 0 ⟨(i 1).val % 8, Nat.mod_lt _ (by omega)⟩ (rowF (256 * k.val + q.val))) * (((Real.sqrt 128)⁻¹ * (Real.log 2)⁻¹ : ℝ) : EReal) :=
    (tileC_at Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (kernelRun.sl.v9 i) (arg9.view.readAt (Elt Ideal) (Rect.unit (s := S1x8x128) ![0, 0, 0] S1x8x128.size inb_S1x8x128_S1x8x128_0_0_0).toLoadRect (harg9.unread x5)) (harg4.unread x0) (harg5.unread x1) (harg6.unread x2) (harg7.unread x3) (harg10.unread x6) (arg13.view.writes (Elt Ideal) f13 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (harg8.unread x4) 64)) k (wordAt (F := Ideal) i arg2 xt0 k) (wordAt (F := Ideal) i arg3 xt1 k) (hT k).1 (hT k).2 (v9_eq i) q).trans (by rw [harg7.read_unread])
  have hpos : (0 : EReal) < x3 (ix3 0 ⟨(i 1).val % 8, Nat.mod_lt _ (by omega)⟩ (rowF (256 * k.val + q.val))) * (((Real.sqrt 128)⁻¹ * (Real.log 2)⁻¹ : ℝ) : EReal) :=
    EReal.mul_pos (hq _ _) (EReal.coe_pos.2 (mul_pos (inv_pos.2 (Real.sqrt_pos.2 (by norm_num))) (inv_pos.2 (Real.log_pos (by norm_num)))))
  have hv : (arg9.view.readAt (Elt Ideal) (Rect.unit (s := S1x8x128) ![0, 0, 0] S1x8x128.size inb_S1x8x128_S1x8x128_0_0_0).toLoadRect (harg9.unread x5)) (ix3 0 ⟨(i 1).val % 8, Nat.mod_lt _ (by omega)⟩ d) = x5 (ix3 0 ⟨(i 1).val % 8, Nat.mod_lt _ (by omega)⟩ d) := by
    refine (readAt_at arg9.view _ rfl _ (ix3 0 ⟨(i 1).val % 8, Nat.mod_lt _ (by omega)⟩ d) (ix3 0 ⟨(i 1).val % 8, Nat.mod_lt _ (by omega)⟩ d) fun a => ?_).trans ?_
    · match a with
      | ⟨0, _⟩ => rfl
      | ⟨1, _⟩ => show (i 1).val % 8 = 0 + (i 1).val % 8; omega
      | ⟨2, _⟩ => show d.val = 0 + d.val; omega
    · rw [harg9.read_unread]
  refine (tilePay_at Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (kernelRun.sl.v9 i) (arg9.view.readAt (Elt Ideal) (Rect.unit (s := S1x8x128) ![0, 0, 0] S1x8x128.size inb_S1x8x128_S1x8x128_0_0_0).toLoadRect (harg9.unread x5)) (harg4.unread x0) (harg5.unread x1) (harg6.unread x2) (harg7.unread x3) (harg10.unread x6) (arg13.view.writes (Elt Ideal) f13 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (harg8.unread x4) 64)) k (wordAt (F := Ideal) i arg2 xt0 k) (wordAt (F := Ideal) i arg3 xt1 k) (hT k).1 (hT k).2 (lo k) (mid k) (hlo k) (hmid k) (hlm k) (hmq k)
    (fun z e => x1 (ix4 0 0 (rowF z) e)) (fun z e => x0 (ix4 0 0 (rowF z) e)) (fun z e => x2 (ix4 0 0 e (rowF z))) (fun z => x4 (ix3 0 ⟨(i 1).val % 8, Nat.mod_lt _ (by omega)⟩ (rowF z))) (fun z => x3 (ix3 0 ⟨(i 1).val % 8, Nat.mod_lt _ (by omega)⟩ (rowF z)))
    (fun z => (x6 (ix3 0 0 (rowF z)) : BitVec 32).toInt)
    (fun r hr d => by rw [harg5.read_unread]) (fun r hr d => by
      rw [t1_state (hn := le_rfl) (hr := by omega), harg8.read_unread]) (fun r hr d => by rw [harg4.read_unread])
    (fun r hr d => by rw [harg6.read_unread]) (fun r hr => by rw [harg10.read_unread]) (hlow k) (hmidd k) g q d (by rw [hC]; exact hpos)).trans ?_
  rw [hC, hv]

end Cert.Proof.KernelIdeal
-- ==== Proof.KernelIdealStarts.lean ====
/- Facts of the start positions.

   The start of a query's document grows with the query; and where a row's segment ids never fall, a key at or before a query lies at or after
   the query's start exactly when the two carry the same segment id. -/
module

public import proofs.«01_k».proof.Proof.KernelIdealTables
public import Idealize.ShloMosaic.Lib.Pointwise

@[expose] public section

set_option maxRecDepth 8192

noncomputable section

namespace Cert.Proof.KernelIdeal

open Cert.KernelIdeal Cert.KernelIdeal.Gen
open Idealize.ShloMosaic Idealize.ShloMosaic.TcCoe Idealize.ShloMosaic.StableHlo

/-- On the naturals: `st` the last flagged position up to `q`, a position flagged where the id changes, the ids never falling. -/
theorem start_iff_nat (seg : ℕ → ℤ) (flag : ℕ → Prop) (hflag : ∀ k, flag k ↔ k = 0 ∨ seg k ≠ seg (k - 1)) (q st key : ℕ)
    (hmono : ∀ k, k < q → seg k ≤ seg (k + 1)) (h1 : st ≤ q) (h2 : flag st ∨ st = 0) (h3 : ∀ k, k ≤ q → flag k → k ≤ st) (hk : key ≤ q) :
    st ≤ key ↔ seg key = seg q := by
  have mono : ∀ d a, a + d ≤ q → seg a ≤ seg (a + d) := by
    intro d
    induction d with
    | zero => intro a _; exact le_rfl
    | succ d ih => intro a h; exact (ih a (by omega)).trans (hmono (a + d) (by omega))
  have mono' : ∀ a b, a ≤ b → b ≤ q → seg a ≤ seg b := fun a b hab hb => by
    have := mono (b - a) a (by omega)
    rwa [show a + (b - a) = b by omega] at this
  constructor
  · intro h
    have con : ∀ d, key + d ≤ q → seg (key + d) = seg key := by
      intro d
      induction d with
      | zero => intro _; rfl
      | succ d ih =>
        intro hd
        by_contra hne
        have hf : flag (key + (d + 1)) := (hflag _).2 (Or.inr (by
          rw [show key + (d + 1) - 1 = key + d by omega, ih (by omega)]; exact hne))
        have := h3 _ hd hf
        omega
    have hq := con (q - key) (by omega)
    rw [show key + (q - key) = q by omega] at hq
    exact hq.symm
  · intro h
    by_contra hlt
    have hf : flag st := by
      rcases h2 with h2 | h2
      · exact h2
      · omega
    rcases (hflag st).1 hf with h0 | hne
    · omega
    · have a1 := mono' key (st - 1) (by omega) (by omega)
      have a2 := mono' (st - 1) st (by omega) h1
      have a3 := mono' st q h1 le_rfl
      omega

variable {F : FTy → Type} [FloatOps F] [Named F]
variable (m : (ℓ : Loc nD τ sig) → Buf (Elt F) ℓ)

/-- The segment ids of the launch. -/
abbrev segs (c : Dev nD) (b : Fin 4) (z : Fin 8192) : BitVec 32 := m ((c : Thread nD τ).loc main_arg6) (ix2 b z)

theorem flags_first (c : Dev nD) (b : Fin 4) : flags m c (ix2 b ⟨0, by omega⟩) = 1#1 := by
  unfold flags
  pointwise

theorem flags_at (c : Dev nD) (b : Fin 4) (z : ℕ) (hz : z + 1 < 8192) :
    flags m c (ix2 b ⟨z + 1, hz⟩) = IntOp.cmpi .ne (segs m c b ⟨z + 1, hz⟩) (segs m c b ⟨z, by omega⟩) := by
  unfold flags
  pointwise
  rw [dif_neg (by omega)]
  have e : (⟨1 + (z + 1 - 1), by omega⟩ : Fin 8192) = ⟨z + 1, hz⟩ := Fin.ext (by show 1 + (z + 1 - 1) = z + 1; omega)
  exact congrArg₂ (IntOp.cmpi .ne) (congrArg (fun t => m ((c : Thread nD τ).loc main_arg6) (ix2 b t)) e) rfl

/-- The start as an integer. -/
theorem startAt_toInt (c : Dev nD) (j : Tab.Idx) : (startAt m c j).toInt = ((startAt m c j).toNat : ℤ) ∧ (startAt m c j).toNat ≤ (j 1).val := by
  have h : (startAt m c j).toNat ≤ (j 1).val := startAt_le m c j
  have hj : (j 1).val < 8192 := (j 1).isLt
  exact ⟨BitVec.toInt_eq_toNat_of_lt (by omega), h⟩

/-- The start is a flagged position or the first. -/
theorem startAt_cases (c : Dev nD) (j : Tab.Idx) : ∃ k : Tab.Idx, k 0 = j 0 ∧ (k 1).val ≤ (j 1).val ∧
    startAt m c j = Scalar.select (flags m c k) (BitVec.ofNat 32 (k 1).val) 0#32 := by
  unfold startAt
  exact cumMax_eq _ _ _ _ (by simp only [broadcastInDim, constantI]) j

theorem startAt_ge (c : Dev nD) (j k : Tab.Idx) (h0 : k 0 = j 0) (h1 : (k 1).val ≤ (j 1).val) :
    (Scalar.select (flags m c k) (BitVec.ofNat 32 (k 1).val) 0#32 : BitVec 32).toInt ≤ (startAt m c j).toInt := by
  unfold startAt
  exact le_cumMax (fun j => Scalar.select (flags m c j) (BitVec.ofNat 32 (j 1).val) 0#32) _ _ _ j k h0 h1

/-- The start grows with the query. -/
theorem startAt_mono (c : Dev nD) (j j' : Tab.Idx) (h0 : j 0 = j' 0) (h1 : (j 1).val ≤ (j' 1).val) :
    (startAt m c j).toNat ≤ (startAt m c j').toNat := by
  obtain ⟨k, e0, e1, e⟩ := startAt_cases m c j
  have h := startAt_ge m c j' k (e0.trans h0) (e1.trans h1)
  rw [← e, (startAt_toInt m c j).1, (startAt_toInt m c j').1] at h
  exact_mod_cast h

/-- A key at or before a query is at or after the query's start exactly when it carries the query's segment id. -/
theorem start_iff (c : Dev nD) (b : Fin 4) (hs : ∀ (z : ℕ) (hz : z + 1 < 8192), (segs m c b ⟨z, by omega⟩).toInt ≤ (segs m c b ⟨z + 1, hz⟩).toInt)
    (key q : Fin 8192) (hk : key ≤ q) : (startAt m c (ix2 b q)).toInt ≤ (key.val : ℤ) ↔ segs m c b key = segs m c b q := by
  have hI := startAt_toInt m c (ix2 b q)
  have hv : ∀ k : Fin 8192, flags m c (ix2 b k) = 1#1 →
      (Scalar.select (flags m c (ix2 b k)) (BitVec.ofNat 32 ((ix2 b k : Tab.Idx) 1).val) 0#32 : BitVec 32).toInt = (k.val : ℤ) := fun k hf => by
    have hk := k.isLt
    rw [hf]
    show (BitVec.ofNat 32 k.val).toInt = _
    rw [BitVec.toInt_eq_toNat_of_lt (by rw [BitVec.toNat_ofNat]; omega), BitVec.toNat_ofNat]
    omega
  have main := start_iff_nat (fun n => if h : n < 8192 then (segs m c b ⟨n, h⟩).toInt else 0)
    (fun n => n = 0 ∨ (if h : n < 8192 then (segs m c b ⟨n, h⟩).toInt else 0) ≠ (if h : n - 1 < 8192 then (segs m c b ⟨n - 1, h⟩).toInt else 0))
    (fun k => Iff.rfl) q.val (startAt m c (ix2 b q)).toNat key.val
    (fun k hk => by
      have := q.isLt
      rw [dif_pos (by omega), dif_pos (by omega)]
      exact hs k (by omega)) hI.2
    (by
      obtain ⟨k', e0, e1, e⟩ := startAt_cases m c (ix2 b q)
      obtain ⟨k, rfl⟩ : ∃ k : Fin 8192, k' = ix2 b k := ⟨k' 1, by
        funext a
        match a with
        | ⟨0, _⟩ => exact e0
        | ⟨1, _⟩ => rfl⟩
      by_cases hf : flags m c (ix2 b k) = 1#1
      · left
        have hv' := hv k hf
        rw [← e, hI.1] at hv'
        have hst : (startAt m c (ix2 b q)).toNat = k.val := by exact_mod_cast hv'
        rw [hst]
        by_cases hz : k.val = 0
        · exact Or.inl hz
        · right
          obtain ⟨z, hz'⟩ : ∃ z, k.val = z + 1 := ⟨k.val - 1, by omega⟩
          have hlt : k.val < 8192 := k.isLt
          rw [show k = ⟨z + 1, by omega⟩ from Fin.ext hz', flags_at m c b z (by omega)] at hf
          rw [hz', dif_pos (by omega), dif_pos (by omega)]
          intro heq
          simp only [show z + 1 - 1 = z by omega] at heq
          have := BitVec.eq_of_toInt_eq heq
          rw [this] at hf
          simp [IntOp.cmpi] at hf
      · right
        have h0 : startAt m c (ix2 b q) = 0#32 := by
          rw [e]
          exact if_neg hf
        rw [h0]
        rfl)
    (fun k hkq hf => by
      have hq := q.isLt
      have hfl : flags m c (ix2 b ⟨k, by omega⟩) = 1#1 := by
        rcases hf with rfl | hne
        · exact flags_first m c b
        · by_cases hz : k = 0
          · subst hz; exact flags_first m c b
          · obtain ⟨z, rfl⟩ : ∃ z, k = z + 1 := ⟨k - 1, by omega⟩
            rw [flags_at m c b z (by omega)]
            rw [dif_pos (by omega), dif_pos (by omega)] at hne
            have hne' : segs m c b ⟨z + 1, by omega⟩ ≠ segs m c b ⟨z, by omega⟩ := fun h => hne (by
              simp only [show z + 1 - 1 = z by omega]; rw [h])
            show BitVec.ofBool (segs m c b ⟨z + 1, by omega⟩ != segs m c b ⟨z, by omega⟩) = 1#1
            rw [bne_iff_ne.2 hne']; rfl
      have h := startAt_ge m c (ix2 b q) (ix2 b ⟨k, by omega⟩) rfl hkq
      rw [hv _ hfl, hI.1] at h
      exact_mod_cast h)
    hk
  rw [hI.1, show ((startAt m c (ix2 b q)).toNat : ℤ) ≤ (key.val : ℤ) ↔ (startAt m c (ix2 b q)).toNat ≤ key.val from Int.ofNat_le, main]
  simp only [dif_pos key.isLt, dif_pos q.isLt]
  exact ⟨fun h => BitVec.eq_of_toInt_eq h, fun h => by rw [h]⟩

/-- Every query of a block starts at or after its block's first block of keys, -/
theorem lo_start (b : Fin 4) (n : Fin 32) (y : Fin 256) (z : Fin 8192) (hz : z.val = 256 * n.val + y.val) :
    ((256 * lo m b n : ℕ) : ℤ) ≤ (startAt m 0 (ix2 b z)).toInt := by
  rw [(startAt_toInt m 0 _).1]
  have h := startAt_mono m 0 (ix2 b ⟨256 * n.val, by omega⟩) (ix2 b z) rfl (by show 256 * n.val ≤ z.val; omega)
  have : 256 * lo m b n ≤ (firstStart m b n).toNat := Nat.mul_div_le _ _
  exact_mod_cast this.trans h

/-- and at or before the first key of its block `mid`, where that lies before the block of queries. -/
theorem mid_start (b : Fin 4) (n : Fin 32) (y : Fin 256) (z : Fin 8192) (hz : z.val = 256 * n.val + y.val) (hm : mid m b n < n.val) :
    (startAt m 0 (ix2 b z)).toInt ≤ ((256 * mid m b n : ℕ) : ℤ) := by
  rw [(startAt_toInt m 0 _).1]
  have hy := y.isLt
  have h := startAt_mono m 0 (ix2 b z) (ix2 b ⟨255 + 256 * n.val, by omega⟩) rfl (by show z.val ≤ 255 + 256 * n.val; omega)
  have : (lastStart m b n).toNat ≤ 256 * mid m b n := by
    unfold mid at hm ⊢
    omega
  exact_mod_cast h.trans this

end Cert.Proof.KernelIdeal

end
-- ==== Proof.KernelIdealBlock.lean ====
/- What the body leaves at a grid point, read at the argument arrays: at every query of the point's head the attention over the keys of the
   query's document at or before it. -/
module

public import proofs.«01_k».proof.Proof.KernelIdealOut
public import proofs.«01_k».proof.Proof.KernelIdealRun
public import proofs.«01_k».proof.Proof.KernelIdealStarts
public import Idealize.ShloMosaic.Lib.Pipeline.Value
public import Idealize.ShloMosaic.Lib.Pipeline.Covers

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource algebra of the run. -/
local notation "𝕄" => MT nD τ sig Unit (Elt Ideal) ℕ (UR sig nD τ) ℕ

variable (m : (ℓ : Loc nD τ sig) → Buf (Elt Ideal) ℓ) (ρ : Dev nD → PrngReg)

/-- A query's scale. -/
abbrev qScale (c : Dev nD) (b : Fin 4) (h : Fin 32) (q : Fin 8192) : EReal := m ((c : Thread nD τ).loc main_arg3) (ix3 b h q)

/-- The attention of batch `b`, head `h` at query `q` and value column `d`, of the argument arrays. -/
def outAt (c : Dev nD) (b : Fin 4) (h : Fin 32) (q : ℕ) (d : Fin 128) : EReal :=
  attend (fun r => masked (fun z => (startAt m c (ix2 b (rowF z))).toInt) (fun z e => m ((c : Thread nD τ).loc main_arg1) (ix4 b h (rowF z) e))
      (fun z e => m ((c : Thread nD τ).loc main_arg0) (ix4 b h (rowF z) e)) (fun z => m ((c : Thread nD τ).loc main_arg4) (ix3 b h (rowF z))) r q)
    (fun r => m ((c : Thread nD τ).loc main_arg2) (ix4 b h d (rowF r)))
    (qScale m c b h (rowF q) * (((Real.sqrt 128)⁻¹ * (Real.log 2)⁻¹ : ℝ) : EReal))
    (m ((c : Thread nD τ).loc main_arg5) (ix3 b h d))

/-- The batch of a grid point, and its head. -/
abbrev bOf (hO : Ok m) (t : Fin (cfgM m hO).N) : Fin 4 := ⟨(grid0.coords t 0).val, (grid0.coords t 0).isLt⟩
abbrev hOf (hO : Ok m) (t : Fin (cfgM m hO).N) : Fin 32 := ⟨(grid0.coords t 1).val, (grid0.coords t 1).isLt⟩

/-- The result's block at a grid point. -/
def outB (hO : Ok m) (c : Dev nD) (t : Fin (cfgM m hO).N) : Vec Ideal S1x8192x128 .bf16 := fun j => outAt m c (bOf m hO t) (hOf m hO t) (j 1).val (j 2)

theorem word_b : ∀ n : Fin 4, (BitVec.ofNat 32 n.val).toNat * 1 + 0 = n.val := by decide
theorem word_h : ∀ n : Fin 32, (BitVec.ofNat 32 n.val).toNat * 1 + 0 = n.val := by decide

/-- The block of eight heads a head lies in. -/
theorem head_block : ∀ n : Fin 32, (cc0_transform_3 (fun a => match a with | ⟨0, _⟩ => (0 : Fin 4) | ⟨1, _⟩ => n) 1, cc0_transform_4 (fun a => match a with | ⟨0, _⟩ => (0 : Fin 4) | ⟨1, _⟩ => n) 1,
    cc0_transform_5 (fun a => match a with | ⟨0, _⟩ => (0 : Fin 4) | ⟨1, _⟩ => n) 1) = (n.val / 8, n.val / 8, n.val / 8) := by decide
theorem head_3 (i : grid0.Coords) : cc0_transform_3 i 1 = (i 1).val / 8 := congrArg (fun p => p.1) (head_block (i 1))
theorem head_4 (i : grid0.Coords) : cc0_transform_4 i 1 = (i 1).val / 8 := congrArg (fun p => p.2.1) (head_block (i 1))
theorem head_5 (i : grid0.Coords) : cc0_transform_5 i 1 = (i 1).val / 8 := congrArg (fun p => p.2.2) (head_block (i 1))

section
variable (hO : Ok m) (c : Dev nD) (t : Fin (cfgM m hO).N)

/-! The blocks of the inputs, read at an index. -/

theorem iblk_0 (r : Fin 8192) (e : Fin 128) : iblk m hO c 0 t (ix4 0 0 r e) = m ((c : Thread nD τ).loc main_arg0) (ix4 (bOf m hO t) (hOf m hO t) r e) := by
  refine Eq.trans ?_ (congrFun (V_main_arg0 m c) _)
  unfold iblk
  show V m c main_arg0 ((((cfgM m hO).win 0).rect t).emb (ix4 0 0 r e)) = _
  refine congrArg (V m c main_arg0) (funext fun a => Fin.ext ?_)
  refine (Window.rect_emb_val ((cfgM m hO).win 0) t (ix4 0 0 r e) a).trans ?_
  match a with
  | ⟨0, _⟩ => show (BitVec.ofNat 32 (grid0.coords t 0).val).toNat * 1 + 0 = (grid0.coords t 0).val; exact word_b (grid0.coords t 0)
  | ⟨1, _⟩ => show (BitVec.ofNat 32 (grid0.coords t 1).val).toNat * 1 + 0 = (grid0.coords t 1).val; exact word_h (grid0.coords t 1)
  | ⟨2, _⟩ => show 0 * 8192 + r.val = r.val; omega
  | ⟨3, _⟩ => show 0 * 128 + e.val = e.val; omega

theorem iblk_1 (r : Fin 8192) (e : Fin 128) : iblk m hO c 1 t (ix4 0 0 r e) = m ((c : Thread nD τ).loc main_arg1) (ix4 (bOf m hO t) (hOf m hO t) r e) := by
  refine Eq.trans ?_ (congrFun (V_main_arg1 m c) _)
  unfold iblk
  show V m c main_arg1 ((((cfgM m hO).win 1).rect t).emb (ix4 0 0 r e)) = _
  refine congrArg (V m c main_arg1) (funext fun a => Fin.ext ?_)
  refine (Window.rect_emb_val ((cfgM m hO).win 1) t (ix4 0 0 r e) a).trans ?_
  match a with
  | ⟨0, _⟩ => show (BitVec.ofNat 32 (grid0.coords t 0).val).toNat * 1 + 0 = (grid0.coords t 0).val; exact word_b (grid0.coords t 0)
  | ⟨1, _⟩ => show (BitVec.ofNat 32 (grid0.coords t 1).val).toNat * 1 + 0 = (grid0.coords t 1).val; exact word_h (grid0.coords t 1)
  | ⟨2, _⟩ => show 0 * 8192 + r.val = r.val; omega
  | ⟨3, _⟩ => show 0 * 128 + e.val = e.val; omega

theorem iblk_2 (e : Fin 128) (r : Fin 8192) : iblk m hO c 2 t (ix4 0 0 e r) = m ((c : Thread nD τ).loc main_arg2) (ix4 (bOf m hO t) (hOf m hO t) e r) := by
  refine Eq.trans ?_ (congrFun (V_main_arg2 m c) _)
  unfold iblk
  show V m c main_arg2 ((((cfgM m hO).win 2).rect t).emb (ix4 0 0 e r)) = _
  refine congrArg (V m c main_arg2) (funext fun a => Fin.ext ?_)
  refine (Window.rect_emb_val ((cfgM m hO).win 2) t (ix4 0 0 e r) a).trans ?_
  match a with
  | ⟨0, _⟩ => show (BitVec.ofNat 32 (grid0.coords t 0).val).toNat * 1 + 0 = (grid0.coords t 0).val; exact word_b (grid0.coords t 0)
  | ⟨1, _⟩ => show (BitVec.ofNat 32 (grid0.coords t 1).val).toNat * 1 + 0 = (grid0.coords t 1).val; exact word_h (grid0.coords t 1)
  | ⟨2, _⟩ => show 0 * 128 + e.val = e.val; omega
  | ⟨3, _⟩ => show 0 * 8192 + r.val = r.val; omega

theorem iblk_3 (r : Fin 8192) : iblk m hO c 3 t (ix3 0 ⟨(grid0.coords t 1).val % 8, Nat.mod_lt _ (by omega)⟩ r) = m ((c : Thread nD τ).loc main_arg3) (ix3 (bOf m hO t) (hOf m hO t) r) := by
  refine Eq.trans ?_ (congrFun (V_main_arg3 m c) _)
  unfold iblk
  show V m c main_arg3 ((((cfgM m hO).win 3).rect t).emb (ix3 0 ⟨(grid0.coords t 1).val % 8, Nat.mod_lt _ (by omega)⟩ r)) = _
  refine congrArg (V m c main_arg3) (funext fun a => Fin.ext ?_)
  refine (Window.rect_emb_val ((cfgM m hO).win 3) t (ix3 0 ⟨(grid0.coords t 1).val % 8, Nat.mod_lt _ (by omega)⟩ r) a).trans ?_
  match a with
  | ⟨0, _⟩ => show (BitVec.ofNat 32 (grid0.coords t 0).val).toNat * 1 + 0 = (grid0.coords t 0).val; exact word_b (grid0.coords t 0)
  | ⟨1, _⟩ => show cc0_transform_3 (grid0.coords t) 1 * 8 + (grid0.coords t 1).val % 8 = (grid0.coords t 1).val; rw [head_3]; omega
  | ⟨2, _⟩ => show 0 * 8192 + r.val = r.val; omega

theorem iblk_4 (r : Fin 8192) : iblk m hO c 4 t (ix3 0 ⟨(grid0.coords t 1).val % 8, Nat.mod_lt _ (by omega)⟩ r) = m ((c : Thread nD τ).loc main_arg4) (ix3 (bOf m hO t) (hOf m hO t) r) := by
  refine Eq.trans ?_ (congrFun (V_main_arg4 m c) _)
  unfold iblk
  show V m c main_arg4 ((((cfgM m hO).win 4).rect t).emb (ix3 0 ⟨(grid0.coords t 1).val % 8, Nat.mod_lt _ (by omega)⟩ r)) = _
  refine congrArg (V m c main_arg4) (funext fun a => Fin.ext ?_)
  refine (Window.rect_emb_val ((cfgM m hO).win 4) t (ix3 0 ⟨(grid0.coords t 1).val % 8, Nat.mod_lt _ (by omega)⟩ r) a).trans ?_
  match a with
  | ⟨0, _⟩ => show (BitVec.ofNat 32 (grid0.coords t 0).val).toNat * 1 + 0 = (grid0.coords t 0).val; exact word_b (grid0.coords t 0)
  | ⟨1, _⟩ => show cc0_transform_4 (grid0.coords t) 1 * 8 + (grid0.coords t 1).val % 8 = (grid0.coords t 1).val; rw [head_4]; omega
  | ⟨2, _⟩ => show 0 * 8192 + r.val = r.val; omega

theorem iblk_5 (r : Fin 128) : iblk m hO c 5 t (ix3 0 ⟨(grid0.coords t 1).val % 8, Nat.mod_lt _ (by omega)⟩ r) = m ((c : Thread nD τ).loc main_arg5) (ix3 (bOf m hO t) (hOf m hO t) r) := by
  refine Eq.trans ?_ (congrFun (V_main_arg5 m c) _)
  unfold iblk
  show V m c main_arg5 ((((cfgM m hO).win 5).rect t).emb (ix3 0 ⟨(grid0.coords t 1).val % 8, Nat.mod_lt _ (by omega)⟩ r)) = _
  refine congrArg (V m c main_arg5) (funext fun a => Fin.ext ?_)
  refine (Window.rect_emb_val ((cfgM m hO).win 5) t (ix3 0 ⟨(grid0.coords t 1).val % 8, Nat.mod_lt _ (by omega)⟩ r) a).trans ?_
  match a with
  | ⟨0, _⟩ => show (BitVec.ofNat 32 (grid0.coords t 0).val).toNat * 1 + 0 = (grid0.coords t 0).val; exact word_b (grid0.coords t 0)
  | ⟨1, _⟩ => show cc0_transform_5 (grid0.coords t) 1 * 8 + (grid0.coords t 1).val % 8 = (grid0.coords t 1).val; rw [head_5]; omega
  | ⟨2, _⟩ => show 0 * 128 + r.val = r.val; omega

theorem iblk_6 (r : Fin 8192) : iblk m hO c 6 t (ix3 0 0 r) = startAt m c (ix2 (bOf m hO t) r) := by
  refine Eq.trans ?_ (V_v21 m c (ix3 (bOf m hO t) 0 r))
  unfold iblk
  show V m c main_v21 ((((cfgM m hO).win 6).rect t).emb (ix3 0 0 r)) = _
  refine congrArg (V m c main_v21) (funext fun a => Fin.ext ?_)
  refine (Window.rect_emb_val ((cfgM m hO).win 6) t (ix3 0 0 r) a).trans ?_
  match a with
  | ⟨0, _⟩ => show (BitVec.ofNat 32 (grid0.coords t 0).val).toNat * 1 + 0 = (grid0.coords t 0).val; exact word_b (grid0.coords t 0)
  | ⟨1, _⟩ => show 0 * 1 + 0 = 0; rfl
  | ⟨2, _⟩ => show 0 * 8192 + r.val = r.val; omega

theorem scale_pos (hq : ∀ i, (0 : EReal) < m ((c : Thread nD τ).loc main_arg3) i) (h : Fin 8) (y : Fin 8192) : (0 : EReal) < iblk m hO c 3 t (ix3 0 h y) := by
  unfold iblk
  show (0 : EReal) < V m c main_arg3 ((((cfgM m hO).win 3).rect t).emb (ix3 0 h y))
  rw [V_main_arg3]
  exact hq _

/-- What a run of the body leaves in the result's window. -/
theorem read_out (hq : ∀ i, (0 : EReal) < m ((c : Thread nD τ).loc main_arg3) i) (f12 f13 f14) (f) :
    (ms0_7 m hO t).view.read (Elt Ideal) ((ms0_7 m hO t).view.writes (Elt Ideal) f ((runAt m hO (tables_ok m) c t).1 f12 f13 f14)) = outB m hO c t := by
  obtain rfl : c = 0 := Subsingleton.elim _ _
  funext j
  obtain ⟨r, d, rfl⟩ : ∃ (r : Fin 8192) (d : Fin 128), j = ix3 0 (rowF r.val) d := ⟨j 1, j 2, by
    funext a
    match a with
    | ⟨0, _⟩ => exact Subsingleton.elim (α := Fin 1) _ _
    | ⟨1, _⟩ => exact Fin.ext (rowF_val (show (j 1).val < 8192 from (j 1).isLt)).symm
    | ⟨2, _⟩ => rfl⟩
  refine (run_at (c := 0) (i := grid0.coords t)
    (lo := fun k => lo m (bOf m hO t) ⟨k.val, t2_lt k⟩) (mid := fun k => mid m (bOf m hO t) ⟨k.val, t2_lt k⟩)
    (hlo := fun k => lo_word m _ k) (hmid := fun k => mid_word m _ k) (hlm := fun k => lo_le_mid m _ _) (hmq := fun k => mid_le m _ _)
    (hlow := fun k y => ?_) (hmidd := fun k y hm => ?_) (hq := fun h y => scale_pos m hO 0 t hq h y) (f12 := f12) (f13 := f13) (f14 := f14) (f := f) (r := r.val) (hr := r.isLt) (d := d) ..).trans ?_
  · have hk := t2_lt k
    rw [iblk_6]
    exact lo_start m _ ⟨k.val, hk⟩ y _ (rowF_val (by omega))
  · have hk := t2_lt k
    rw [iblk_6]
    exact mid_start m _ ⟨k.val, hk⟩ y _ (rowF_val (by omega)) hm
  · simp only [iblk_0, iblk_1, iblk_2, iblk_3, iblk_4, iblk_5, iblk_6]
    show _ = outAt m 0 (bOf m hO t) (hOf m hO t) (rowF r.val).val d
    rw [rowF_val r.isLt]
    rfl

end
end Cert.Proof.KernelIdeal

end
-- ==== Proof.KernelIdealExact.lean ====
/- The region's run with the result stated: the result array ends holding, at every query of every head, the attention over the keys of the
   query's document at or before it. -/
module

public import proofs.«01_k».proof.Proof.KernelIdealBlock

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource algebra of the run. -/
local notation "𝕄" => MT nD τ sig Unit (Elt Ideal) ℕ (UR sig nD τ) ℕ

variable (m : (ℓ : Loc nD τ sig) → Buf (Elt Ideal) ℓ) (ρ : Dev nD → PrngReg)
variable (hO : Ok m) (hq : ∀ i, (0 : EReal) < m (((0 : Dev nD) : Thread nD τ).loc main_arg3) i)

/-- The proof data, the result's window at its block. -/
abbrev exact := dats m hO (outB m hO)

include hq in
/-- The body at any point leaves the result's window at its block. -/
theorem sound_exact (c : Dev nD) (t : Fin (cfgM m hO).N) :
    iprop((exact m hO 0 c).Φ t.castSucc ∗ (exact m hO 0 c).owesAt () t.castSucc
    ∗ (∃ d, owns (c : Thread nD τ) (ms0_0 m hO t) fullShare ((exact m hO 0 c).before 0 t d))
    ∗ (∃ d, owns (c : Thread nD τ) (ms0_1 m hO t) fullShare ((exact m hO 0 c).before 1 t d))
    ∗ (∃ d, owns (c : Thread nD τ) (ms0_2 m hO t) fullShare ((exact m hO 0 c).before 2 t d))
    ∗ (∃ d, owns (c : Thread nD τ) (ms0_3 m hO t) fullShare ((exact m hO 0 c).before 3 t d))
    ∗ (∃ d, owns (c : Thread nD τ) (ms0_4 m hO t) fullShare ((exact m hO 0 c).before 4 t d))
    ∗ (∃ d, owns (c : Thread nD τ) (ms0_5 m hO t) fullShare ((exact m hO 0 c).before 5 t d))
    ∗ (∃ d, owns (c : Thread nD τ) (ms0_6 m hO t) fullShare ((exact m hO 0 c).before 6 t d))
    ∗ (∃ d, owns (c : Thread nD τ) (ms0_7 m hO t) fullShare ((exact m hO 0 c).before 7 t d)))
    ⊢ wp Idealize.ShloMosaic.frame (wpE (defs₀ (F := Ideal)) Variants.none c none) Set.univ (bodyAt m hO t)
      (fun _ => bodyPost m hO (outB m hO) c t (owns (c : Thread nD τ) (ms0_7 m hO t) fullShare ((exact m hO 0 c).after 7 t))) := by
  have hs := sound_body m hO (outB m hO) (tables_ok m) c t (owns (c : Thread nD τ) (ms0_7 m hO t) fullShare ((exact m hO 0 c).after 7 t)) (by
    intro f12 f13 f14 f
    rw [after0_7]
    iintro H
    unfold owns; iexists _; isplitr
    swap; · iexact H
    ipureintro
    obtain rfl : c = 0 := Subsingleton.elim _ _
    exact read_out m hO 0 t hq f12 f13 f14 f)
  refine BIBase.Entails.trans ?_ hs
  unfold bodyPre
  iintro ⟨HA, HB, H0, H1, H2, H3, H4, H5, H6, ⟨%d, H7⟩⟩
  isplitl [HA]; · iexact HA
  isplitl [HB]; · iexact HB
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

include hq in
theorem exact_obligation (c : Dev nD) : BodyObligation (exact m hO 0 c) (defs₀ (F := Ideal)) Variants.none () Set.univ := fun t => by
  rw [bigSep_W0, bigSep_W0, defs₀_row m hO]
  exact triple_restated (sound_exact m hO hq c t) rfl .rfl fun _ => .rfl

set_option backward.isDefEq.respectTransparency.types false in
include hq in
theorem run_exact : θ_run defs (onTc (τ := τ) (main (F := Ideal))) (s₀ m ρ)
    (fun r => (Pipeline.FramePost (Pipeline.pin pcfgs fun _ => adm m hO) (exact m hO) 0 (V m)) r ∧ r.2.sem = fun _ => 0) :=
  Pipeline.θ_run_frameP (Q' := _) pcfgs (fun _ => adm m hO) (exact m hO) (0 : Fin 1) launch0 defs₀ Variants.none m ρ main
    (hbody := fun c => (exact_obligation m hO hq c).loose) (hshare := fun c => (exact m hO 0 c).share_full fun _ => rfl)
    (howed := fun _ _ => rfl) (V := V m) (hmain := hmain m Variants.none) (hA := A_eq m hO (outB m hO)) (hpf := V_pre m)
    (hΦ := fun _ _ => rfl)

/-- The result array. -/
def resArr (c : Dev nD) : Buf (Elt Ideal) ((c : Thread nD τ).loc main_v22) := fun i =>
  outAt m c (i 0) ⟨(i 2).val / 128, by have : (i 2).val < 4096 := (i 2).isLt; omega⟩ (i 1).val ⟨(i 2).val % 128, Nat.mod_lt _ (by omega)⟩

/-- Where an element of a point's block lies in the array. -/
def place (t : Fin (cfgM m hO).N) (j : S1x8192x128.Idx) : S4x8192x4096.Idx := (((cfgM m hO).win 7).rect t).emb j

theorem place_0 (t : Fin (cfgM m hO).N) (j : S1x8192x128.Idx) : (place m hO t j 0).val = (grid0.coords t 0).val := by
  refine (Window.rect_emb_val ((cfgM m hO).win 7) t j ⟨0, Nat.lt_of_sub_eq_succ rfl⟩).trans ?_
  show (BitVec.ofNat 32 (grid0.coords t 0).val).toNat * 1 + (j 0).val = _
  have : (j 0).val = 0 := by have : (j 0).val < 1 := (j 0).isLt; omega
  rw [this]; exact word_b (grid0.coords t 0)

theorem place_1 (t : Fin (cfgM m hO).N) (j : S1x8192x128.Idx) : (place m hO t j 1).val = (j 1).val := by
  refine (Window.rect_emb_val ((cfgM m hO).win 7) t j ⟨1, Nat.lt_of_sub_eq_succ rfl⟩).trans ?_
  show 0 * 8192 + (j 1).val = _; omega

theorem place_2 (t : Fin (cfgM m hO).N) (j : S1x8192x128.Idx) : (place m hO t j 2).val = (grid0.coords t 1).val * 128 + (j 2).val := by
  refine (Window.rect_emb_val ((cfgM m hO).win 7) t j ⟨2, Nat.lt_of_sub_eq_succ rfl⟩).trans ?_
  show (BitVec.ofNat 32 (grid0.coords t 1).val).toNat * 128 + (j 2).val = _
  have : (BitVec.ofNat 32 (grid0.coords t 1).val).toNat * 1 + 0 = (grid0.coords t 1).val := word_h (grid0.coords t 1)
  omega

/-- What a point writes back is its block of that array. -/
theorem flushed_eq (c : Dev nD) (t : Fin (cfgM m hO).N) :
    (exact m hO 0 c).flushed 7 t = (((cfgM m hO).win 7).blk t).view.read (Elt Ideal) (resArr m c) := by
  show ((cfgM m hO).win 7).cut (grid0.coords t) ((exact m hO 0 c).after 7 t) = _
  rw [after0_7]
  refine funext fun (j : S1x8192x128.Idx) => ?_
  show outB m hO c t j = resArr m c (place m hO t j)
  have hj2 : (j 2).val < 128 := (j 2).isLt
  unfold resArr outB
  have key : ∀ (b b' : Fin 4) (h h' : Fin 32) (q q' : ℕ) (d d' : Fin 128), b = b' → h = h' → q = q' → d = d' → outAt m c b h q d = outAt m c b' h' q' d' := by
    rintro b _ h _ q _ d _ rfl rfl rfl rfl; rfl
  exact key _ _ _ _ _ _ _ _ (Fin.ext (place_0 m hO t j).symm) (Fin.ext (by show (grid0.coords t 1).val = _ / 128; rw [place_2]; omega)) (place_1 m hO t j).symm
    (Fin.ext (by show (j 2).val = _ % 128; rw [place_2]; omega))

theorem cover (i : S4x8192x4096.Idx) : ∃ t : Fin (cfgM m hO).N, ((cfgM m hO).win 7).flush t = true ∧ i ∈ (((cfgM m hO).win 7).blk t).view.set := by
  have h2 : (i 2).val < 4096 := (i 2).isLt
  obtain ⟨t0, ht0⟩ := Pipeline.Grid.coords_surjective grid0 (fun a => match a with
    | ⟨0, _⟩ => (⟨(i 0).val, (i 0).isLt⟩ : Fin 4)
    | ⟨1, _⟩ => (⟨(i 2).val / 128, by omega⟩ : Fin 32))
  obtain ⟨t, _, hf, hi⟩ := Window.exists_flush_same_index ((cfgM m hO).win 7) rfl t0
  refine ⟨t, hf, ?_⟩
  refine (Finset.ext_iff.1 (View.set_slice_whole main_v22 (((cfgM m hO).win 7).rect t)) i).2 ((Rect.mem_set_unit ..).2 ?_)
  intro a
  show ((cfgM m hO).win 7).index t a * ((cfgM m hO).win 7).size a ≤ (i a).val ∧ (i a).val < ((cfgM m hO).win 7).index t a * ((cfgM m hO).win 7).size a + ((cfgM m hO).win 7).xsize (grid0.coords t) a
  rw [hi]
  have e0 : ((cfgM m hO).win 7).index t0 ⟨0, Nat.lt_of_sub_eq_succ rfl⟩ = (i 0).val := by
    have := word_b (grid0.coords t0 0)
    show (BitVec.ofNat 32 (grid0.coords t0 0).val).toNat = _
    rw [ht0] at this ⊢
    simpa using this
  have e2 : ((cfgM m hO).win 7).index t0 ⟨2, Nat.lt_of_sub_eq_succ rfl⟩ = (i 2).val / 128 := by
    have := word_h (grid0.coords t0 1)
    show (BitVec.ofNat 32 (grid0.coords t0 1).val).toNat = _
    rw [ht0] at this ⊢
    simpa using this
  have h1 : (i 1).val < 8192 := (i 1).isLt
  match a with
  | ⟨0, _⟩ => show ((cfgM m hO).win 7).index t0 ⟨0, Nat.lt_of_sub_eq_succ rfl⟩ * 1 ≤ (i 0).val ∧ (i 0).val < ((cfgM m hO).win 7).index t0 ⟨0, Nat.lt_of_sub_eq_succ rfl⟩ * 1 + 1; rw [e0]; omega
  | ⟨1, _⟩ => show 0 * 8192 ≤ (i 1).val ∧ (i 1).val < 0 * 8192 + 8192; omega
  | ⟨2, _⟩ => show ((cfgM m hO).win 7).index t0 ⟨2, Nat.lt_of_sub_eq_succ rfl⟩ * 128 ≤ (i 2).val ∧ (i 2).val < ((cfgM m hO).win 7).index t0 ⟨2, Nat.lt_of_sub_eq_succ rfl⟩ * 128 + 128; rw [e2]; omega

theorem final (c : Dev nD) : (exact m hO 0 c).arrAt 7 (cfgM m hO).N = resArr m c :=
  (exact m hO 0 c).arrAt_eq_of_cover 7 (resArr m c) (fun t _ => flushed_eq m hO c t) (cover m hO)

include hq in
/-- **The run, read**: the result array at the attention of the arguments, the arguments unchanged. -/
theorem run : θ_run defs (onTc (τ := τ) (main (F := Ideal))) ⟨m, fun _ => 0, ρ⟩ (fun r => ∀ c : Dev nD,
      r.2.mem ((c.tc : Thread nD τ).loc main_v22) = resArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 7).trans (final m (ok m) c),
      ((h.1 c).1 0).trans (((exact m (ok m) 0 c).arrAt_in 0 rfl _).trans ((A_eq m (ok m) _ c 0).trans (V_main_arg0 m c))),
      ((h.1 c).1 1).trans (((exact m (ok m) 0 c).arrAt_in 1 rfl _).trans ((A_eq m (ok m) _ c 1).trans (V_main_arg1 m c))),
      ((h.1 c).1 2).trans (((exact m (ok m) 0 c).arrAt_in 2 rfl _).trans ((A_eq m (ok m) _ c 2).trans (V_main_arg2 m c))),
      ((h.1 c).1 3).trans (((exact m (ok m) 0 c).arrAt_in 3 rfl _).trans ((A_eq m (ok m) _ c 3).trans (V_main_arg3 m c))),
      ((h.1 c).1 4).trans (((exact m (ok m) 0 c).arrAt_in 4 rfl _).trans ((A_eq m (ok m) _ c 4).trans (V_main_arg4 m c))),
      ((h.1 c).1 5).trans (((exact m (ok m) 0 c).arrAt_in 5 rfl _).trans ((A_eq m (ok m) _ c 5).trans (V_main_arg5 m c))),
      ((h.1 c).2 main_arg6 (by decide : main_arg6 ∈ Pipeline.restRefs sig spec0)).trans (V_main_arg6 m c)⟩) (run_exact m ρ (ok m) hq)

end Cert.Proof.KernelIdeal

end
-- ==== Proof.RefOut.lean ====
/- The reference's output for one query and one coordinate, as mathematics over the extended reals.

   A row of scores becomes a row of softmax numerators. The numerators are quantised by a power of two chosen from the largest of them, clipped to
   the range of the eight-bit format; the values are summed with the quantised numerators, and the sum is scaled back and divided by the
   denominator. -/
module

public import Idealize.ShloMosaic.Lib.StableHlo.RunRead
public import Idealize.ShloMosaic.Lib.Pointwise

@[expose] public section

noncomputable section

namespace Cert.Proof

open Idealize.ShloMosaic

variable (T : Fin 8192 → EReal)

/-- The largest score. -/
def peak : EReal := Finset.univ.fold max (Ideal.ofBits FTy.f32 4286578688#32) T

/-- The softmax's numerator at a key. -/
def prob (k : Fin 8192) : EReal := Ideal.exp (T k - peak T)

/-- The softmax's denominator. -/
def total : EReal := ∑ k, prob T k

/-- The largest magnitude of the numerators. -/
def amax : EReal := Finset.univ.fold max (Ideal.ofBits FTy.f32 4286578688#32) fun k => FloatOps.absf (F := Ideal) (φ := .f32) (prob T k)

/-- The exponent of the quantiser's scale: one above the floor of the base-two logarithm of the largest magnitude over 448, or zero where all are
    zero. -/
def expo : EReal :=
  Scalar.select (BitVec.ofBool (decide (amax T = 0))) (0 : EReal)
    (Ideal.liftRound Int.floor (Ideal.log (amax T * Ideal.ofBits FTy.f32 991054117#32) * Ideal.ofBits FTy.f32 1069066811#32) + 1)

/-- The quantiser's scale, two to the exponent. -/
def scaleOf : EReal := Ideal.exp (Ideal.ofBits FTy.f32 1060205080#32 * expo T)

/-- The code of a numerator. -/
def code (k : Fin 8192) : EReal :=
  min (Ideal.ofBits FTy.f32 1138753536#32) (max (Ideal.ofBits FTy.f32 3286237184#32) (prob T k * Ideal.exp (Ideal.ofBits FTy.f32 1060205080#32 * -expo T)))

/-- The output: the values summed with the codes, times the scale over the denominator, times the values' own scale. -/
def refOut (V : Fin 8192 → EReal) (w : EReal) : EReal := (∑ k, V k * code T k) * Ideal.div (scaleOf T) (total T) * w

end Cert.Proof

end
-- ==== Proof.ReferenceIdealReads.lean ====
/- What the reference computes, read at an index.

   The reference widens the codes, and then computes on the host: the scores, masked to the keys of the query's document at or before it, their
   softmax's numerators and its denominator, the numerators quantised by the power of two of their largest, and the quantised sum of the values
   scaled back. Each stage is read at an index over the contents it starts from, and the stages are joined. -/
module

public import proofs.«01_k».proof.Proof.Gen.ReferenceIdeal.Frame
public import proofs.«01_k».proof.Proof.RefOut
public import Idealize.ShloMosaic.Lib.StableHlo.RunRead
public import Idealize.ShloMosaic.Lib.StableHlo.ReadAt
public import Idealize.ShloMosaic.Lib.Pointwise

@[expose] public section

set_option maxRecDepth 8192

noncomputable section

namespace Cert.Proof.ReferenceIdeal

open Cert.ReferenceIdeal Cert.ReferenceIdeal.Gen
open Idealize.ShloMosaic Idealize.ShloMosaic.TcCoe Idealize.ShloMosaic.StableHlo

section
variable {F : FTy → Type} [FloatOps F]

/-- The softmax's numerators and its denominator. -/
abbrev opsA : List (HloOp τ sig (Elt F)) :=
  [ StableHlo.nullary main_cst_1 (constant S_ .f32 0xFF800000#32),
    StableHlo.binary main_v25 main_cst_1 main_v26 ((fun x v => Host.reduce FloatOps.maximumf x v reducesTo_S4x32x8192x8192_S4x32x8192_d3 h_S_) : (⟨S4x32x8192x8192, .f32⟩ : BufTy).Contents (Elt F) → (⟨S_, .f32⟩ : BufTy).Contents (Elt F) → (⟨S4x32x8192, .f32⟩ : BufTy).Contents (Elt F)),
    StableHlo.unary main_v26 main_v27 (broadcastInDim S4x32x8192x1 ![0, 1, 2] bcast_S4x32x8192_S4x32x8192x1_0_1_2 : (⟨S4x32x8192, .f32⟩ : BufTy).Contents (Elt F) → (⟨S4x32x8192x1, .f32⟩ : BufTy).Contents (Elt F)),
    StableHlo.unary main_v27 main_v28 (broadcastInDim S4x32x8192x8192 ![0, 1, 2, 3] bcast_S4x32x8192x1_S4x32x8192x8192_0_1_2_3 : (⟨S4x32x8192x1, .f32⟩ : BufTy).Contents (Elt F) → (⟨S4x32x8192x8192, .f32⟩ : BufTy).Contents (Elt F)),
    StableHlo.binary main_v25 main_v28 main_v29 (subf : (⟨S4x32x8192x8192, .f32⟩ : BufTy).Contents (Elt F) → (⟨S4x32x8192x8192, .f32⟩ : BufTy).Contents (Elt F) → (⟨S4x32x8192x8192, .f32⟩ : BufTy).Contents (Elt F)),
    StableHlo.unary main_v29 main_v30 (Host.exp : (⟨S4x32x8192x8192, .f32⟩ : BufTy).Contents (Elt F) → (⟨S4x32x8192x8192, .f32⟩ : BufTy).Contents (Elt F)),
    StableHlo.nullary main_cst_2 (constant S_ .f32 0x00000000#32),
    StableHlo.binary main_v30 main_cst_2 main_v31 ((fun x v => Host.reduceAdd x v reducesTo_S4x32x8192x8192_S4x32x8192_d3 h_S_) : (⟨S4x32x8192x8192, .f32⟩ : BufTy).Contents (Elt F) → (⟨S_, .f32⟩ : BufTy).Contents (Elt F) → (⟨S4x32x8192, .f32⟩ : BufTy).Contents (Elt F)) ]

/-- The largest numerator. -/
abbrev opsB : List (HloOp τ sig (Elt F)) :=
  [ StableHlo.unary main_v30 main_v32 (Host.absf : (⟨S4x32x8192x8192, .f32⟩ : BufTy).Contents (Elt F) → (⟨S4x32x8192x8192, .f32⟩ : BufTy).Contents (Elt F)),
    StableHlo.nullary main_cst_3 (constant S_ .f32 0xFF800000#32),
    StableHlo.binary main_v32 main_cst_3 main_v33 ((fun x v => Host.reduce FloatOps.maximumf x v reducesTo_S4x32x8192x8192_S4x32x8192_d3 h_S_) : (⟨S4x32x8192x8192, .f32⟩ : BufTy).Contents (Elt F) → (⟨S_, .f32⟩ : BufTy).Contents (Elt F) → (⟨S4x32x8192, .f32⟩ : BufTy).Contents (Elt F)) ]

/-- The exponent of the scale before the case of an empty row. -/
abbrev opsC : List (HloOp τ sig (Elt F)) :=
  [ StableHlo.unary main_v33 main_v34 (broadcastInDim S4x32x8192x1 ![0, 1, 2] bcast_S4x32x8192_S4x32x8192x1_0_1_2 : (⟨S4x32x8192, .f32⟩ : BufTy).Contents (Elt F) → (⟨S4x32x8192x1, .f32⟩ : BufTy).Contents (Elt F)),
    StableHlo.nullary main_cst_4 (constant S_ .f32 0x3B124925#32),
    StableHlo.unary main_cst_4 main_v35 (broadcastInDim S4x32x8192x1 ![] bcast_S_S4x32x8192x1 : (⟨S_, .f32⟩ : BufTy).Contents (Elt F) → (⟨S4x32x8192x1, .f32⟩ : BufTy).Contents (Elt F)),
    StableHlo.binary main_v34 main_v35 main_v36 (mulf : (⟨S4x32x8192x1, .f32⟩ : BufTy).Contents (Elt F) → (⟨S4x32x8192x1, .f32⟩ : BufTy).Contents (Elt F) → (⟨S4x32x8192x1, .f32⟩ : BufTy).Contents (Elt F)),
    StableHlo.unary main_v36 main_v37 (Host.log : (⟨S4x32x8192x1, .f32⟩ : BufTy).Contents (Elt F) → (⟨S4x32x8192x1, .f32⟩ : BufTy).Contents (Elt F)),
    StableHlo.nullary main_cst_5 (constant S_ .f32 0x3FB8AA3B#32),
    StableHlo.unary main_cst_5 main_v38 (broadcastInDim S4x32x8192x1 ![] bcast_S_S4x32x8192x1 : (⟨S_, .f32⟩ : BufTy).Contents (Elt F) → (⟨S4x32x8192x1, .f32⟩ : BufTy).Contents (Elt F)),
    StableHlo.binary main_v37 main_v38 main_v39 (mulf : (⟨S4x32x8192x1, .f32⟩ : BufTy).Contents (Elt F) → (⟨S4x32x8192x1, .f32⟩ : BufTy).Contents (Elt F) → (⟨S4x32x8192x1, .f32⟩ : BufTy).Contents (Elt F)),
    StableHlo.unary main_v39 main_v40 (Host.floor : (⟨S4x32x8192x1, .f32⟩ : BufTy).Contents (Elt F) → (⟨S4x32x8192x1, .f32⟩ : BufTy).Contents (Elt F)),
    StableHlo.nullary main_cst_6 (constant S_ .f32 0x3F800000#32),
    StableHlo.unary main_cst_6 main_v41 (broadcastInDim S4x32x8192x1 ![] bcast_S_S4x32x8192x1 : (⟨S_, .f32⟩ : BufTy).Contents (Elt F) → (⟨S4x32x8192x1, .f32⟩ : BufTy).Contents (Elt F)),
    StableHlo.binary main_v40 main_v41 main_v42 (addf : (⟨S4x32x8192x1, .f32⟩ : BufTy).Contents (Elt F) → (⟨S4x32x8192x1, .f32⟩ : BufTy).Contents (Elt F) → (⟨S4x32x8192x1, .f32⟩ : BufTy).Contents (Elt F)),
    StableHlo.nullary main_cst_7 (constant S_ .f32 0x00000000#32),
    StableHlo.unary main_cst_7 main_v43 (broadcastInDim S4x32x8192x1 ![] bcast_S_S4x32x8192x1 : (⟨S_, .f32⟩ : BufTy).Contents (Elt F) → (⟨S4x32x8192x1, .f32⟩ : BufTy).Contents (Elt F)),
    StableHlo.binary main_v34 main_v43 main_v44 (cmpf .oeq : (⟨S4x32x8192x1, .f32⟩ : BufTy).Contents (Elt F) → (⟨S4x32x8192x1, .f32⟩ : BufTy).Contents (Elt F) → (⟨S4x32x8192x1, .i1⟩ : BufTy).Contents (Elt F)),
    StableHlo.nullary main_cst_8 (constant S_ .f32 0x00000000#32) ]

theorem opsABC : (hostOps1_2 : List (HloOp τ sig (Elt F))) = opsA ++ (opsB ++ opsC) := rfl

end

/-- An element read as a number. -/
abbrev num (x : EReal) : EReal := x

section
variable (W : Valuation τ sig (Elt Ideal))

theorem at_v10 (b : Fin 4) (h : Fin 32) (q k : Fin 8192) :
    after hostOps1 W main_v10 (ix4 b h q k)
      = (∑ x, num (W main_v0_0 (ix4 b h q x)) * num (W main_v0_1 (ix4 b h k x)))
        * Ideal.div (W main_arg3 (ix3 b h q)) (Ideal.sqrt (Ideal.ofBits FTy.f32 1124073472#32)) * num (W main_arg4 (ix3 b h k)) := by
  after_reads_at <;> rfl

theorem at_v24 (b : Fin 4) (q k : Fin 8192) :
    after hostOps1 W main_v24 (ix4 b 0 q k)
      = IntOp.andi (IntOp.cmpi .eq (W main_arg6 (ix2 b q)) (W main_arg6 (ix2 b k)))
          (IntOp.cmpi .sle (BitVec.ofNat 32 k) (BitVec.ofNat 32 q)) := by
  after_reads_at <;> rfl

theorem at_cst_0  :
    after hostOps1 W main_cst_0 ix0 = Ideal.ofBits FTy.f32 4286578688#32 := by
  after_reads_at <;> rfl

theorem at_v25 (b : Fin 4) (h : Fin 32) (q k : Fin 8192) :
    after hostOps1_1 W main_v25 (ix4 b h q k)
      = Scalar.select (W main_v24 (ix4 b 0 q k)) (W main_v10 (ix4 b h q k)) (W main_cst_0 ix0) := by
  after_reads_at <;> rfl

theorem at_v30 (b : Fin 4) (h : Fin 32) (q k : Fin 8192) :
    after opsA W main_v30 (ix4 b h q k) = prob (fun x => W main_v25 (ix4 b h q x)) k := by
  after_reads_at <;> rfl

theorem at_v31 (b : Fin 4) (h : Fin 32) (q : Fin 8192) :
    after opsA W main_v31 (ix3 b h q) = total fun x => W main_v25 (ix4 b h q x) := by
  after_reads_at <;> rfl

theorem at_v33 (b : Fin 4) (h : Fin 32) (q : Fin 8192) :
    after opsB W main_v33 (ix3 b h q)
      = Finset.univ.fold max (Ideal.ofBits FTy.f32 4286578688#32) fun x => FloatOps.absf (F := Ideal) (φ := .f32) (W main_v30 (ix4 b h q x)) := by
  after_reads_at <;> rfl

theorem at_v42 (b : Fin 4) (h : Fin 32) (q : Fin 8192) :
    after opsC W main_v42 (ix4 b h q 0)
      = Ideal.liftRound Int.floor
          (Ideal.log (num (W main_v33 (ix3 b h q)) * Ideal.ofBits FTy.f32 991054117#32) * Ideal.ofBits FTy.f32 1069066811#32) + (1 : EReal) := by
  after_reads_at <;> rfl

theorem at_v44 (b : Fin 4) (h : Fin 32) (q : Fin 8192) :
    after opsC W main_v44 (ix4 b h q 0) = BitVec.ofBool (decide (W main_v33 (ix3 b h q) = (0 : EReal))) := by
  after_reads_at <;> rfl

theorem at_cst_8  :
    after opsC W main_cst_8 ix0 = (0 : EReal) := by
  after_reads_at <;> rfl

theorem at_v45 (b : Fin 4) (h : Fin 32) (q : Fin 8192) :
    after hostOps1_3 W main_v45 (ix4 b h q 0)
      = Scalar.select (W main_v44 (ix4 b h q 0)) (W main_cst_8 ix0) (W main_v42 (ix4 b h q 0)) := by
  after_reads_at <;> rfl

theorem at_v48 (b : Fin 4) (h : Fin 32) (q : Fin 8192) :
    after hostOps1_4 W main_v48 (ix4 b h q 0) = Ideal.exp (Ideal.ofBits FTy.f32 1060205080#32 * num (W main_v45 (ix4 b h q 0))) := by
  after_reads_at <;> rfl

theorem at_v54 (b : Fin 4) (h : Fin 32) (q k : Fin 8192) :
    after hostOps1_4 W main_v54 (ix4 b h q k)
      = num (W main_v30 (ix4 b h q k)) * Ideal.exp (Ideal.ofBits FTy.f32 1060205080#32 * -num (W main_v45 (ix4 b h q 0))) := by
  after_reads_at <;> rfl

theorem at_cst_11  :
    after hostOps1_4 W main_cst_11 ix0 = Ideal.ofBits FTy.f32 3286237184#32 := by
  after_reads_at <;> rfl

theorem at_cst_12  :
    after hostOps1_4 W main_cst_12 ix0 = Ideal.ofBits FTy.f32 1138753536#32 := by
  after_reads_at <;> rfl

theorem at_v55 (b : Fin 4) (h : Fin 32) (q k : Fin 8192) :
    after hostOps1_5 W main_v55 (ix4 b h q k) = min (num (W main_cst_12 ix0)) (max (num (W main_cst_11 ix0)) (num (W main_v54 (ix4 b h q k)))) := by
  after_reads_at <;> rfl

theorem at_v68 (b : Fin 4) (q : Fin 8192) (e : Fin 4096) :
    after hostOps1_6 W main_v68 (ix3 b q e)
      = (∑ x, num (W main_v0_2 (ix4 b ⟨e.val / 128, by omega⟩ ⟨e.val % 128, by omega⟩ x)) * num (W main_v55 (ix4 b ⟨e.val / 128, by omega⟩ q x)))
        * Ideal.div (W main_v48 (ix4 b ⟨e.val / 128, by omega⟩ q 0)) (W main_v31 (ix3 b ⟨e.val / 128, by omega⟩ q))
        * num (W main_arg5 (ix3 b ⟨e.val / 128, by omega⟩ ⟨e.val % 128, by omega⟩)) := by
  after_reads_at <;> rfl

end
end Cert.Proof.ReferenceIdeal

end
-- ==== Proof.ReferenceIdealWide.lean ====
/- The reference's widened codes: over the reals widening changes nothing, so each of the three arrays is the argument it was made from. -/
module

public import proofs.«01_k».proof.Proof.Gen.ReferenceIdeal.Frame
public import Idealize.ShloMosaic.Lib.Pipeline.Value
public import Idealize.ShloMosaic.Lib.Pointwise

@[expose] public section

set_option maxRecDepth 8192

noncomputable section

namespace Cert.Proof.ReferenceIdeal

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ)

theorem zero4 : (![0, 0, 0, 0] : Fin 4 → Nat) = fun _ => 0 := funext fun a => by fin_cases a <;> rfl

/-- The widened argument 0. -/
abbrev wide0 (c : Dev nD) : Buf (Elt Ideal) ((c : Thread nD τ).loc main_v0_0) :=
  fun y => (m ((c : Thread nD τ).loc main_arg0) y : EReal)

theorem flushed0 (c : Dev nD) (t : Fin cfg0.N) :
    (dats m 0 c).flushed 3 t = (win0_3.blk t).view.read (Elt Ideal) (wide0 m c) := by
  show (cfg0.win 3).cut (grid0.coords t) ((dats m 0 c).after 3 t) = _
  rw [after0_3]
  unfold out0_3
  rw [View.canon_unit_zero zero4, View.ld_unit_zero zero4]
  rfl

theorem cover0 (y : S4x32x8192x128.Idx) : ∃ t : Fin cfg0.N, (cfg0.win 3).flush t = true ∧ y ∈ ((cfg0.win 3).blk t).view.set := by
  refine ⟨t0_0, by decide, ?_⟩
  show y ∈ ((View.whole main_v0_0).slice (win0_3.rect t0_0)).set
  refine (Finset.ext_iff.1 (View.set_slice_whole _ _) y).2 ((Rect.mem_set_unit ..).2 fun a => ?_)
  have e0 : ∀ a, win0_3.index t0_0 a * win0_3.size a = 0 := by decide +kernel
  have e1 : ∀ a, win0_3.xsize (grid0.coords t0_0) a = S4x32x8192x128.size a := by decide +kernel
  have hy := (y a).isLt
  show win0_3.index t0_0 a * win0_3.size a ≤ (y a : Nat) ∧ (y a : Nat) < win0_3.index t0_0 a * win0_3.size a + win0_3.xsize (grid0.coords t0_0) a
  rw [e0 a, e1 a]
  exact ⟨Nat.zero_le _, by rw [Nat.zero_add]; exact hy⟩

theorem final0 (c : Dev nD) : (dats m 0 c).arrAt 3 cfg0.N = wide0 m c :=
  (dats m 0 c).arrAt_eq_of_cover 3 (wide0 m c) (fun t _ => flushed0 m c t) cover0

/-- The widened argument 1. -/
abbrev wide1 (c : Dev nD) : Buf (Elt Ideal) ((c : Thread nD τ).loc main_v0_1) :=
  fun y => (m ((c : Thread nD τ).loc main_arg1) y : EReal)

theorem flushed1 (c : Dev nD) (t : Fin cfg0.N) :
    (dats m 0 c).flushed 4 t = (win0_4.blk t).view.read (Elt Ideal) (wide1 m c) := by
  show (cfg0.win 4).cut (grid0.coords t) ((dats m 0 c).after 4 t) = _
  rw [after0_4]
  unfold out0_4
  rw [View.canon_unit_zero zero4, View.ld_unit_zero zero4]
  rfl

theorem cover1 (y : S4x32x8192x128.Idx) : ∃ t : Fin cfg0.N, (cfg0.win 4).flush t = true ∧ y ∈ ((cfg0.win 4).blk t).view.set := by
  refine ⟨t0_0, by decide, ?_⟩
  show y ∈ ((View.whole main_v0_1).slice (win0_4.rect t0_0)).set
  refine (Finset.ext_iff.1 (View.set_slice_whole _ _) y).2 ((Rect.mem_set_unit ..).2 fun a => ?_)
  have e0 : ∀ a, win0_4.index t0_0 a * win0_4.size a = 0 := by decide +kernel
  have e1 : ∀ a, win0_4.xsize (grid0.coords t0_0) a = S4x32x8192x128.size a := by decide +kernel
  have hy := (y a).isLt
  show win0_4.index t0_0 a * win0_4.size a ≤ (y a : Nat) ∧ (y a : Nat) < win0_4.index t0_0 a * win0_4.size a + win0_4.xsize (grid0.coords t0_0) a
  rw [e0 a, e1 a]
  exact ⟨Nat.zero_le _, by rw [Nat.zero_add]; exact hy⟩

theorem final1 (c : Dev nD) : (dats m 0 c).arrAt 4 cfg0.N = wide1 m c :=
  (dats m 0 c).arrAt_eq_of_cover 4 (wide1 m c) (fun t _ => flushed1 m c t) cover1

/-- The widened argument 2. -/
abbrev wide2 (c : Dev nD) : Buf (Elt Ideal) ((c : Thread nD τ).loc main_v0_2) :=
  fun y => (m ((c : Thread nD τ).loc main_arg2) y : EReal)

theorem flushed2 (c : Dev nD) (t : Fin cfg0.N) :
    (dats m 0 c).flushed 5 t = (win0_5.blk t).view.read (Elt Ideal) (wide2 m c) := by
  show (cfg0.win 5).cut (grid0.coords t) ((dats m 0 c).after 5 t) = _
  rw [after0_5]
  unfold out0_5
  rw [View.canon_unit_zero zero4, View.ld_unit_zero zero4]
  rfl

theorem cover2 (y : S4x32x128x8192.Idx) : ∃ t : Fin cfg0.N, (cfg0.win 5).flush t = true ∧ y ∈ ((cfg0.win 5).blk t).view.set := by
  refine ⟨t0_0, by decide, ?_⟩
  show y ∈ ((View.whole main_v0_2).slice (win0_5.rect t0_0)).set
  refine (Finset.ext_iff.1 (View.set_slice_whole _ _) y).2 ((Rect.mem_set_unit ..).2 fun a => ?_)
  have e0 : ∀ a, win0_5.index t0_0 a * win0_5.size a = 0 := by decide +kernel
  have e1 : ∀ a, win0_5.xsize (grid0.coords t0_0) a = S4x32x128x8192.size a := by decide +kernel
  have hy := (y a).isLt
  show win0_5.index t0_0 a * win0_5.size a ≤ (y a : Nat) ∧ (y a : Nat) < win0_5.index t0_0 a * win0_5.size a + win0_5.xsize (grid0.coords t0_0) a
  rw [e0 a, e1 a]
  exact ⟨Nat.zero_le _, by rw [Nat.zero_add]; exact hy⟩

theorem final2 (c : Dev nD) : (dats m 0 c).arrAt 5 cfg0.N = wide2 m c :=
  (dats m 0 c).arrAt_eq_of_cover 5 (wide2 m c) (fun t _ => flushed2 m c t) cover2

end Cert.Proof.ReferenceIdeal

end
-- ==== Proof.ReferenceIdealValue.lean ====
/- The reference's run, as a value: the stages of `ReferenceIdealReads` joined, starting from the widened codes of `ReferenceIdealWide`. -/
module

public import proofs.«01_k».proof.Proof.ReferenceIdealReads
public import proofs.«01_k».proof.Proof.ReferenceIdealWide

@[expose] public section

set_option maxRecDepth 8192

noncomputable section

namespace Cert.Proof.ReferenceIdeal

open Cert.ReferenceIdeal Cert.ReferenceIdeal.Gen
open Idealize.ShloMosaic Idealize.ShloMosaic.TcCoe Idealize.ShloMosaic.StableHlo Idealize.SL.Sem

/-! ## The stages joined -/

section
variable (W : Valuation τ sig (Elt Ideal))

/-- The contents after each stage. -/
abbrev st1 : Valuation τ sig (Elt Ideal) := after hostOps1 W
abbrev st2 : Valuation τ sig (Elt Ideal) := after hostOps1_1 (st1 W)
abbrev st3 : Valuation τ sig (Elt Ideal) := after opsA (st2 W)
abbrev st4 : Valuation τ sig (Elt Ideal) := after opsB (st3 W)
abbrev st5 : Valuation τ sig (Elt Ideal) := after opsC (st4 W)
abbrev st6 : Valuation τ sig (Elt Ideal) := after hostOps1_3 (st5 W)
abbrev st7 : Valuation τ sig (Elt Ideal) := after hostOps1_4 (st6 W)
abbrev st8 : Valuation τ sig (Elt Ideal) := after hostOps1_5 (st7 W)
abbrev st9 : Valuation τ sig (Elt Ideal) := after hostOps1_6 (st8 W)

/-- The score of a key for a query: minus infinity where the key is of another document or comes after the query. -/
def scoreW (b : Fin 4) (h : Fin 32) (q k : Fin 8192) : EReal :=
  Scalar.select (IntOp.andi (IntOp.cmpi .eq (W main_arg6 (ix2 b q)) (W main_arg6 (ix2 b k))) (IntOp.cmpi .sle (BitVec.ofNat 32 k) (BitVec.ofNat 32 q)))
    ((∑ x, num (W main_v0_0 (ix4 b h q x)) * num (W main_v0_1 (ix4 b h k x)))
      * Ideal.div (W main_arg3 (ix3 b h q)) (Ideal.sqrt (Ideal.ofBits FTy.f32 1124073472#32)) * num (W main_arg4 (ix3 b h k)))
    (Ideal.ofBits FTy.f32 4286578688#32)

theorem st2_v25 (b : Fin 4) (h : Fin 32) (q k : Fin 8192) : st2 W main_v25 (ix4 b h q k) = scoreW W b h q k := by
  rw [st2, at_v25, st1, at_v24, at_v10, at_cst_0]; rfl

theorem st3_v30 (b : Fin 4) (h : Fin 32) (q k : Fin 8192) : st3 W main_v30 (ix4 b h q k) = prob (scoreW W b h q) k := by
  rw [st3, at_v30]; exact congrArg (prob · k) (funext fun x => st2_v25 W b h q x)

theorem st3_v31 (b : Fin 4) (h : Fin 32) (q : Fin 8192) : st3 W main_v31 (ix3 b h q) = total (scoreW W b h q) := by
  rw [st3, at_v31]; exact congrArg total (funext fun x => st2_v25 W b h q x)

theorem st4_v33 (b : Fin 4) (h : Fin 32) (q : Fin 8192) : st4 W main_v33 (ix3 b h q) = amax (scoreW W b h q) := by
  rw [st4, at_v33]
  exact congrArg (fun f : Fin 8192 → EReal => Finset.univ.fold max (Ideal.ofBits FTy.f32 4286578688#32) fun x => FloatOps.absf (F := Ideal) (φ := .f32) (f x))
    (funext fun x => st3_v30 W b h q x)

theorem st6_v45 (b : Fin 4) (h : Fin 32) (q : Fin 8192) : st6 W main_v45 (ix4 b h q 0) = expo (scoreW W b h q) := by
  rw [st6, at_v45, st5, at_v44, at_cst_8, at_v42, st4_v33]; rfl

theorem st6_v30 : st6 W main_v30 = st3 W main_v30 := rfl

theorem st7_v48 (b : Fin 4) (h : Fin 32) (q : Fin 8192) : st7 W main_v48 (ix4 b h q 0) = scaleOf (scoreW W b h q) := by
  rw [st7, at_v48, st6_v45]; rfl

theorem st8_v55 (b : Fin 4) (h : Fin 32) (q k : Fin 8192) : st8 W main_v55 (ix4 b h q k) = code (scoreW W b h q) k := by
  rw [st8, at_v55, st7, at_cst_11, at_cst_12, at_v54, st6_v45, st6_v30, st3_v30]; rfl

theorem st8_v48 : st8 W main_v48 = st7 W main_v48 := rfl
theorem st8_v31 : st8 W main_v31 = st3 W main_v31 := rfl
theorem st8_v0_2 : st8 W main_v0_2 = W main_v0_2 := rfl
theorem st8_arg5 : st8 W main_arg5 = W main_arg5 := rfl

theorem st9_v68 (b : Fin 4) (q : Fin 8192) (e : Fin 4096) :
    st9 W main_v68 (ix3 b q e)
      = refOut (scoreW W b ⟨e.val / 128, by omega⟩ q) (fun x => W main_v0_2 (ix4 b ⟨e.val / 128, by omega⟩ ⟨e.val % 128, by omega⟩ x))
          (W main_arg5 (ix3 b ⟨e.val / 128, by omega⟩ ⟨e.val % 128, by omega⟩)) := by
  rw [st9, at_v68, st8_v48, st7_v48, st8_v31, st3_v31, st8_v0_2, st8_arg5]
  exact congrArg (fun f : Fin 8192 → EReal =>
      (∑ x, num (W main_v0_2 (ix4 b ⟨e.val / 128, by omega⟩ ⟨e.val % 128, by omega⟩ x)) * f x)
        * Ideal.div (scaleOf (scoreW W b ⟨e.val / 128, by omega⟩ q)) (total (scoreW W b ⟨e.val / 128, by omega⟩ q))
        * num (W main_arg5 (ix3 b ⟨e.val / 128, by omega⟩ ⟨e.val % 128, by omega⟩)))
    (funext fun x => st8_v55 W b ⟨e.val / 128, by omega⟩ q x)

end

/-! ## The run -/

variable (m : (ℓ : Loc nD τ sig) → Buf (Elt Ideal) ℓ) (ρ : Dev nD → PrngReg)

/-- The contents after the widening. -/
abbrev wideW (c : Dev nD) : Valuation τ sig (Elt Ideal) :=
  Pipeline.withArrays (cfgs 0).spec c (V0 m c) fun w => (dats m 0 c).arrAt w (cfgs 0).N

theorem wideW_0 (c : Dev nD) : wideW m c main_v0_0 = wide0 m c :=
  (Pipeline.withArrays_arr _ launch0.win.arr_inj c (V0 m c) _ 3).trans (final0 m c)
theorem wideW_1 (c : Dev nD) : wideW m c main_v0_1 = wide1 m c :=
  (Pipeline.withArrays_arr _ launch0.win.arr_inj c (V0 m c) _ 4).trans (final1 m c)
theorem wideW_2 (c : Dev nD) : wideW m c main_v0_2 = wide2 m c :=
  (Pipeline.withArrays_arr _ launch0.win.arr_inj c (V0 m c) _ 5).trans (final2 m c)
theorem wideW_arg3 (c : Dev nD) : wideW m c main_arg3 = m ((c : Thread nD τ).loc main_arg3) :=
  Pipeline.withArrays_of_ne _ c (V0 m c) _ main_arg3 (by exact (by decide : ∀ w, Pipeline.arrRef spec0 w ≠ main_arg3))
theorem wideW_arg4 (c : Dev nD) : wideW m c main_arg4 = m ((c : Thread nD τ).loc main_arg4) :=
  Pipeline.withArrays_of_ne _ c (V0 m c) _ main_arg4 (by exact (by decide : ∀ w, Pipeline.arrRef spec0 w ≠ main_arg4))
theorem wideW_arg5 (c : Dev nD) : wideW m c main_arg5 = m ((c : Thread nD τ).loc main_arg5) :=
  Pipeline.withArrays_of_ne _ c (V0 m c) _ main_arg5 (by exact (by decide : ∀ w, Pipeline.arrRef spec0 w ≠ main_arg5))
theorem wideW_arg6 (c : Dev nD) : wideW m c main_arg6 = m ((c : Thread nD τ).loc main_arg6) :=
  Pipeline.withArrays_of_ne _ c (V0 m c) _ main_arg6 (by exact (by decide : ∀ w, Pipeline.arrRef spec0 w ≠ main_arg6))

/-- The score of a key for a query, from the arguments. -/
def score (c : Dev nD) (b : Fin 4) (h : Fin 32) (q k : Fin 8192) : EReal :=
  Scalar.select (IntOp.andi (IntOp.cmpi .eq (m ((c : Thread nD τ).loc main_arg6) (ix2 b q)) (m ((c : Thread nD τ).loc main_arg6) (ix2 b k)))
      (IntOp.cmpi .sle (BitVec.ofNat 32 k) (BitVec.ofNat 32 q)))
    ((∑ x, num (m ((c : Thread nD τ).loc main_arg0) (ix4 b h q x)) * num (m ((c : Thread nD τ).loc main_arg1) (ix4 b h k x)))
      * Ideal.div (m ((c : Thread nD τ).loc main_arg3) (ix3 b h q)) (Ideal.sqrt (Ideal.ofBits FTy.f32 1124073472#32))
      * num (m ((c : Thread nD τ).loc main_arg4) (ix3 b h k)))
    (Ideal.ofBits FTy.f32 4286578688#32)

theorem scoreW_eq (c : Dev nD) (b : Fin 4) (h : Fin 32) (q k : Fin 8192) : scoreW (wideW m c) b h q k = score m c b h q k := by
  unfold scoreW
  rw [wideW_0, wideW_1, wideW_arg3, wideW_arg4, wideW_arg6]
  rfl

/-- What the reference leaves in its result. -/
def refArr (c : Dev nD) (b : Fin 4) (q : Fin 8192) (e : Fin 4096) : EReal :=
  refOut (score m c b ⟨e.val / 128, by omega⟩ q)
    (fun x => m ((c : Thread nD τ).loc main_arg2) (ix4 b ⟨e.val / 128, by omega⟩ ⟨e.val % 128, by omega⟩ x))
    (m ((c : Thread nD τ).loc main_arg5) (ix3 b ⟨e.val / 128, by omega⟩ ⟨e.val % 128, by omega⟩))

theorem result_at (c : Dev nD) (b : Fin 4) (q : Fin 8192) (e : Fin 4096) :
    Pipeline.afterTail₀ cfgs (dats m) 0 (V0 m) [hostOps1, hostOps1_1, hostOps1_2, hostOps1_3, hostOps1_4, hostOps1_5, hostOps1_6] c main_v68 (ix3 b q e)
      = refArr m c b q e := by
  refine (st9_v68 (wideW m c) b q e).trans ?_
  rw [wideW_2, wideW_arg5, show scoreW (wideW m c) b ⟨e.val / 128, by omega⟩ q = score m c b ⟨e.val / 128, by omega⟩ q from
    funext fun k => scoreW_eq m c b _ q k]
  rfl

/-- The run: the result at `refArr`, the arguments unchanged. -/
theorem run : θ_run defs (onTc (τ := τ) (main (F := Ideal))) ⟨m, fun _ => 0, ρ⟩ (fun r => ∀ c : Dev nD,
      (∀ (b : Fin 4) (q : Fin 8192) (e : Fin 4096), r.2.mem ((c.tc : Thread nD τ).loc main_v68) (ix3 b q e) = refArr m c b q e)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨fun b q e => (congrFun ((h c).2 main_v68 (Pipeline.mem_restRefs_of main_v68 (by decide) (by decide))) _).trans (result_at m c b q e),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩) (run_main m ρ)

end Cert.Proof.ReferenceIdeal

end
-- ==== Proof.RefBounds.lean ====
/- The constants of the reference, bounded, and the largest score of a row. -/
module

public import proofs.«01_k».proof.Proof.RefOut
public import proofs.«01_k».proof.Proof.Attend
public import Mathlib.Analysis.Complex.Exponential

@[expose] public section

noncomputable section

namespace Cert.Proof

open Idealize.ShloMosaic

/-! ## The constants -/

theorem bits_bot : Ideal.ofBits FTy.f32 4286578688#32 = (⊥ : EReal) := by
  simp [Ideal.ofBits, Ideal.ieee, -EReal.coe_mul]

theorem bits_inv448 : Ideal.ofBits FTy.f32 991054117#32 = ((9586981 / 4294967296 : ℝ) : EReal) := by
  simp [Ideal.ofBits, Ideal.ieee, -EReal.coe_mul]; norm_num

theorem bits_log2e : Ideal.ofBits FTy.f32 1069066811#32 = ((12102203 / 8388608 : ℝ) : EReal) := by
  simp [Ideal.ofBits, Ideal.ieee, -EReal.coe_mul]; norm_num

theorem bits_ln2 : Ideal.ofBits FTy.f32 1060205080#32 = ((11629080 / 16777216 : ℝ) : EReal) := by
  simp [Ideal.ofBits, Ideal.ieee, -EReal.coe_mul]; norm_num

theorem bits_448 : Ideal.ofBits FTy.f32 1138753536#32 = ((448 : ℝ) : EReal) := by
  simp [Ideal.ofBits, Ideal.ieee, -EReal.coe_mul]; norm_num

theorem bits_neg448 : Ideal.ofBits FTy.f32 3286237184#32 = ((-448 : ℝ) : EReal) := by
  simp [Ideal.ofBits, Ideal.ieee, -EReal.coe_mul]; norm_num

theorem bits_128 : Ideal.ofBits FTy.f32 1124073472#32 = ((128 : ℝ) : EReal) := by
  simp [Ideal.ofBits, Ideal.ieee, -EReal.coe_mul]; norm_num

theorem exp_one_bounds : 2.71 < Real.exp 1 ∧ Real.exp 1 < 2.72 := by
  have h := Real.exp_bound (x := 1) (by norm_num) (n := 6) (by norm_num)
  rw [abs_le] at h
  norm_num [Finset.sum_range_succ, Nat.factorial] at h
  constructor <;> norm_num <;> linarith [h.1, h.2]

theorem exp_six_lt : Real.exp 6 < 406 := by
  have h := exp_one_bounds.2
  have e : Real.exp 6 = Real.exp 1 ^ 6 := by rw [← Real.exp_nat_mul]; norm_num
  rw [e]
  calc Real.exp 1 ^ 6 ≤ (2.72 : ℝ) ^ 6 := by gcongr
    _ < 406 := by norm_num

theorem lt_exp_six : 396 < Real.exp 6 := by
  have h := exp_one_bounds.1
  have e : Real.exp 6 = Real.exp 1 ^ 6 := by rw [← Real.exp_nat_mul]; norm_num
  rw [e]
  calc (396 : ℝ) < (2.71 : ℝ) ^ 6 := by norm_num
    _ ≤ Real.exp 1 ^ 6 := by gcongr

/-- The logarithm of the 1/448 the reference divides by. -/
theorem log_inv448_lt : Real.log (9586981 / 4294967296) < -6 := by
  rw [Real.log_lt_iff_lt_exp (by norm_num), Real.exp_neg]
  rw [lt_inv_comm₀ (by norm_num) (Real.exp_pos 6)]
  exact exp_six_lt.trans (by norm_num)

theorem le_log_inv448 : -(31 / 5) ≤ Real.log (9586981 / 4294967296) := by
  rw [Real.le_log_iff_exp_le (by norm_num), Real.exp_neg, inv_le_comm₀ (Real.exp_pos _) (by norm_num)]
  have e : Real.exp (31 / 5) = Real.exp 6 * Real.exp (1 / 5) := by rw [← Real.exp_add]; norm_num
  have h1 : (6 / 5 : ℝ) ≤ Real.exp (1 / 5) := by have := Real.add_one_le_exp (1 / 5 : ℝ); linarith
  have h2 := lt_exp_six
  rw [e]
  have : (396 : ℝ) * (6 / 5) ≤ Real.exp 6 * Real.exp (1 / 5) := by gcongr
  exact le_trans (by norm_num) this

/-- So the exponent of a row whose largest numerator is one is minus eight. -/
theorem floor_inv448 : ⌊Real.log (9586981 / 4294967296) * (12102203 / 8388608)⌋ = -9 := by
  rw [Int.floor_eq_iff]
  have h1 := log_inv448_lt
  have h2 := le_log_inv448
  constructor
  · push_cast; nlinarith
  · push_cast; nlinarith

theorem up_le : Real.exp (11629080 / 16777216 * 8) ≤ 448 :=
  (Real.exp_le_exp.2 (by norm_num : (11629080 / 16777216 * 8 : ℝ) ≤ 6)).trans (exp_six_lt.le.trans (by norm_num))

/-! ## The largest score -/

theorem le_peak (T : Fin 8192 → EReal) (k : Fin 8192) : T k ≤ peak T :=
  (Finset.le_fold_max _).2 (Or.inr ⟨k, Finset.mem_univ k, le_rfl⟩)

theorem peak_le {T : Fin 8192 → EReal} {x : EReal} : peak T ≤ x ↔ ∀ k, T k ≤ x := by
  unfold peak
  rw [Finset.fold_max_le, bits_bot]
  exact ⟨fun h k => h.2 k (Finset.mem_univ k), fun h => ⟨bot_le, fun k _ => h k⟩⟩

theorem exists_peak (T : Fin 8192 → EReal) : ∃ k, T k = peak T := by
  obtain ⟨k, -, hk⟩ := Finset.exists_max_image (Finset.univ : Finset (Fin 8192)) T ⟨0, Finset.mem_univ 0⟩
  exact ⟨k, le_antisymm (le_peak T k) (peak_le.2 fun j => hk j (Finset.mem_univ j))⟩

theorem peak_eq {T' : Fin 8192 → EReal} {T : ℕ → EReal} {a : EReal} (ha : 0 < a) (h : ∀ k : Fin 8192, T' k = T k.val * a) :
    peak T' = top T * a := by
  have mono : ∀ x y : EReal, x ≤ y → x * a ≤ y * a := fun x y hxy => mul_le_mul_of_nonneg_right hxy ha.le
  refine le_antisymm (peak_le.2 fun k => ?_) ?_
  · rw [h]
    exact mono _ _ (top_le.1 le_rfl k.val k.isLt)
  · obtain ⟨r, hr, e⟩ := Finset.exists_mem_eq_sup (Finset.range 8192) ⟨0, by simp⟩ T
    have : top T = T r := e
    rw [this, ← h ⟨r, Finset.mem_range.1 hr⟩]
    exact le_peak T' _

theorem amax_eq (T : Fin 8192 → EReal) : amax T = peak fun k => max (prob T k) (-prob T k) := rfl

end Cert.Proof

end
-- ==== Proof.RefEquation.lean ====
/- The reference's formula for one entry is the kernel's.

   Where the largest score is a real number the largest numerator is one, so the reference's quantiser has the fixed scale two to the minus eight, and
   multiplying by that scale and by its inverse cancels; the kernel's weights are 256 times the reference's numerators, which cancels against its own
   denominator. Where the largest score is infinite both entries are zero. -/
module

public import proofs.«01_k».proof.Proof.RefBounds

@[expose] public section

noncomputable section

namespace Cert.Proof

open Idealize.ShloMosaic

/-- A real non-negative factor leaves a sum of extended reals. -/
theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert i s hi ih =>
    rw [Finset.sum_insert hi, Finset.sum_insert hi, ← ih]
    exact EReal.right_distrib_of_nonneg_of_ne_top (EReal.coe_nonneg.2 hc) (EReal.coe_ne_top c) _ _

theorem sum_coe {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-! ## A row whose largest score is a real number -/

section
variable {T : Fin 8192 → EReal} {μ : ℝ} (hμ : peak T = (μ : EReal))
include hμ

/-- A score of such a row is a real number or minus infinity. -/
theorem score_cases (k : Fin 8192) : T k = ⊥ ∨ ∃ x : ℝ, T k = (x : EReal) ∧ x ≤ μ := by
  have h := le_peak T k
  rw [hμ] at h
  induction hT : T k using EReal.rec with
  | bot => exact Or.inl rfl
  | coe x => rw [hT] at h; exact Or.inr ⟨x, rfl, EReal.coe_le_coe_iff.1 h⟩
  | top => rw [hT] at h; exact absurd h (by simp)

theorem prob_real (k : Fin 8192) : ∃ p : ℝ, prob T k = (p : EReal) ∧ 0 ≤ p ∧ p ≤ 1 := by
  unfold prob
  rw [hμ]
  rcases score_cases hμ k with h | ⟨x, h, hx⟩
  · rw [h]
    exact ⟨0, by rw [sub_eq_add_neg, EReal.bot_add, Ideal.exp_bot]; rfl, le_rfl, zero_le_one⟩
  · rw [h, ← EReal.coe_sub, Ideal.exp_coe]
    exact ⟨_, rfl, (Real.exp_pos _).le, by rw [← Real.exp_zero]; exact Real.exp_le_exp.2 (by linarith)⟩

theorem exists_prob_one : ∃ k, prob T k = 1 := by
  obtain ⟨k, hk⟩ := exists_peak T
  refine ⟨k, ?_⟩
  unfold prob
  rw [hk, hμ, ← EReal.coe_sub, sub_self, Ideal.exp_coe, Real.exp_zero]
  rfl

theorem amax_one : amax T = 1 := by
  rw [amax_eq]
  have key : ∀ k, max (prob T k) (-prob T k) = prob T k := fun k => by
    obtain ⟨p, e, h0, -⟩ := prob_real hμ k
    rw [e]
    refine max_eq_left ?_
    rw [← EReal.coe_neg]
    exact EReal.coe_le_coe_iff.2 (by linarith)
  refine le_antisymm (peak_le.2 fun k => ?_) ?_
  · rw [key]
    obtain ⟨p, e, -, h1⟩ := prob_real hμ k
    rw [e]
    exact EReal.coe_le_coe_iff.2 h1
  · obtain ⟨k, hk⟩ := exists_prob_one hμ
    have := le_peak (fun k => max (prob T k) (-prob T k)) k
    rw [key, hk] at this
    exact this

theorem expo_eq : expo T = ((-8 : ℝ) : EReal) := by
  unfold expo
  rw [amax_one hμ, bits_inv448, bits_log2e, one_mul, Ideal.log_coe, if_neg (by norm_num), ← EReal.coe_mul, Ideal.liftRound_coe, floor_inv448]
  have h : decide ((1 : EReal) = 0) = false := by simp
  rw [h]
  show (((-9 : ℤ) : ℝ) : EReal) + 1 = _
  rw [← EReal.coe_one, ← EReal.coe_add]
  norm_num

theorem scale_eq : scaleOf T = ((Real.exp (11629080 / 16777216 * -8) : ℝ) : EReal) := by
  unfold scaleOf
  rw [expo_eq hμ, bits_ln2, ← EReal.coe_mul, Ideal.exp_coe]

theorem code_eq (k : Fin 8192) : code T k = prob T k * ((Real.exp (11629080 / 16777216 * 8) : ℝ) : EReal) := by
  unfold code
  obtain ⟨p, e, h0, h1⟩ := prob_real hμ k
  rw [expo_eq hμ, bits_ln2, ← EReal.coe_neg, ← EReal.coe_mul, Ideal.exp_coe, e, neg_neg, ← EReal.coe_mul, bits_448, bits_neg448]
  have hK := Real.exp_pos (11629080 / 16777216 * 8)
  have hle := up_le
  rw [max_eq_right (EReal.coe_le_coe_iff.2 (by nlinarith)), min_eq_right (EReal.coe_le_coe_iff.2 (by nlinarith))]

theorem total_real : ∃ l : ℝ, total T = (l : EReal) ∧ 0 < l := by
  choose p hp h0 h1 using prob_real hμ
  obtain ⟨k, hk⟩ := exists_prob_one hμ
  refine ⟨∑ k, p k, ?_, ?_⟩
  · unfold total
    rw [← sum_coe]
    exact Finset.sum_congr rfl fun k _ => hp k
  · have e : p k = 1 := by
      have := (hp k).symm.trans hk
      exact_mod_cast this
    exact lt_of_lt_of_le (by rw [e]; exact one_pos) (Finset.single_le_sum (fun k _ => h0 k) (Finset.mem_univ k))

/-- The reference's entry, the quantiser cancelled. -/
theorem refOut_real (V : Fin 8192 → EReal) (w : EReal) {l : ℝ} (hl : total T = (l : EReal)) (hl0 : 0 < l) :
    refOut T V w = (∑ k, V k * prob T k) * ((1 / l : ℝ) : EReal) * w := by
  unfold refOut
  refine congrArg (· * w) ?_
  rw [hl, Ideal.div_coe hl0.ne', scale_eq hμ]
  have e : ∑ k, V k * code T k = (∑ k, V k * prob T k) * ((Real.exp (11629080 / 16777216 * 8) : ℝ) : EReal) := by
    rw [sum_mul_real _ _ (Real.exp_pos _).le]
    exact Finset.sum_congr rfl fun k _ => by rw [code_eq hμ, mul_assoc]
  rw [e, mul_assoc, ← EReal.coe_mul, ← EReal.coe_mul, ← mul_assoc, ← Real.exp_add]
  norm_num

end

/-! ## A row whose largest score is infinite -/

theorem prob_zero {T : Fin 8192 → EReal} (h : peak T = ⊥ ∨ peak T = ⊤) (k : Fin 8192) : prob T k = 0 := by
  unfold prob
  rcases h with h | h
  · have := le_peak T k
    rw [h] at this ⊢
    rw [le_bot_iff.1 this, sub_eq_add_neg, EReal.bot_add, Ideal.exp_bot]
  · rw [h, sub_eq_add_neg, EReal.neg_top, EReal.add_bot, Ideal.exp_bot]

theorem refOut_zero {T : Fin 8192 → EReal} (h : peak T = ⊥ ∨ peak T = ⊤) (V : Fin 8192 → EReal) (w : EReal) : refOut T V w = 0 := by
  unfold refOut
  have e : ∀ k, code T k = 0 := fun k => by
    unfold code
    rw [prob_zero h, zero_mul, bits_448, bits_neg448, max_eq_right (by rw [← EReal.coe_zero]; exact EReal.coe_le_coe_iff.2 (by norm_num)),
      min_eq_right (by rw [← EReal.coe_zero]; exact EReal.coe_le_coe_iff.2 (by norm_num))]
  have : ∑ k, V k * code T k = 0 := Finset.sum_eq_zero fun k _ => by rw [e, mul_zero]
  rw [this, zero_mul, zero_mul]

/-! ## The kernel's weights -/

/-- Scores in base two, at the reference's scale: the kernel multiplies by `a` and by the logarithm's factor at once. -/
theorem wgt_real {T : ℕ → EReal} {T' : Fin 8192 → EReal} {a : EReal} (ha : 0 < a) (h : ∀ k : Fin 8192, T' k = T k.val * a)
    {μ : ℝ} (hμ : peak T' = (μ : EReal)) (k : Fin 8192) :
    wgt T (a * (((Real.log 2)⁻¹ : ℝ) : EReal)) k.val = prob T' k * ((256 : ℝ) : EReal) := by
  have hL : 0 < (Real.log 2)⁻¹ := inv_pos.2 (Real.log_pos (by norm_num))
  unfold wgt prob
  rw [← mul_assoc, ← mul_assoc, ← h, ← peak_eq ha h, hμ, ← EReal.coe_mul, ← EReal.coe_sub]
  rcases score_cases hμ k with e | ⟨x, e, hx⟩
  · rw [e, EReal.bot_mul_coe_of_pos hL, sub_eq_add_neg, EReal.bot_add, sub_eq_add_neg, EReal.bot_add, Ideal.exp2_bot, Ideal.exp_bot, zero_mul]
  · rw [e, ← EReal.coe_mul, ← EReal.coe_sub, ← EReal.coe_sub, Ideal.exp2_coe, Ideal.exp_coe, ← EReal.coe_mul]
    refine congrArg (fun r : ℝ => (r : EReal)) ?_
    show (2 : ℝ) ^ (x * (Real.log 2)⁻¹ - (μ * (Real.log 2)⁻¹ - 8)) = _
    rw [Real.rpow_def_of_pos (by norm_num)]
    have hl : Real.log 2 ≠ 0 := (Real.log_pos (by norm_num)).ne'
    have e1 : Real.log 2 * (x * (Real.log 2)⁻¹ - (μ * (Real.log 2)⁻¹ - 8)) = (x - μ) + Real.log 2 * 8 := by
      field_simp; ring
    have e2 : Real.exp (Real.log 2 * 8) = 256 := by
      rw [mul_comm, show (8 : ℝ) = ((8 : ℕ) : ℝ) by norm_num, Real.exp_nat_mul, Real.exp_log (by norm_num)]; norm_num
    rw [e1, Real.exp_add, e2]

theorem wgt_zero {T : ℕ → EReal} {T' : Fin 8192 → EReal} {a : EReal} (ha : 0 < a) (h : ∀ k : Fin 8192, T' k = T k.val * a)
    (hμ : peak T' = ⊥ ∨ peak T' = ⊤) (k : Fin 8192) : wgt T (a * (((Real.log 2)⁻¹ : ℝ) : EReal)) k.val = 0 := by
  have hL : 0 < (Real.log 2)⁻¹ := inv_pos.2 (Real.log_pos (by norm_num))
  unfold wgt
  rw [← mul_assoc, ← mul_assoc, ← h, ← peak_eq ha h]
  rcases hμ with e | e
  · have := le_peak T' k
    rw [e] at this
    rw [le_bot_iff.1 this, EReal.bot_mul_coe_of_pos hL, sub_eq_add_neg, EReal.bot_add, Ideal.exp2_bot]
  · rw [e, EReal.top_mul_coe_of_pos hL, EReal.top_sub_coe, sub_eq_add_neg, EReal.neg_top, EReal.add_bot, Ideal.exp2_bot]

/-! ## The two entries -/

theorem attend_fin (T V : ℕ → EReal) (c w : EReal) :
    attend T V c w = (∑ k : Fin 8192, V k.val * wgt T c k.val) * Ideal.div 1 (∑ k : Fin 8192, wgt T c k.val) * w := by
  unfold attend
  rw [Fin.sum_univ_eq_sum_range (fun r => V r * wgt T c r), Fin.sum_univ_eq_sum_range (fun r => wgt T c r)]

/-- The kernel's entry is the reference's. -/
theorem attend_eq_refOut {T V : ℕ → EReal} {T' V' : Fin 8192 → EReal} {a : EReal} (w : EReal) (ha : 0 < a) (h : ∀ k : Fin 8192, T' k = T k.val * a)
    (hV : ∀ k : Fin 8192, V k.val = V' k) :
    attend T V (a * (((Real.log 2)⁻¹ : ℝ) : EReal)) w = refOut T' V' w := by
  rw [attend_fin]
  by_cases hM : peak T' = ⊥ ∨ peak T' = ⊤
  · rw [refOut_zero hM, Finset.sum_eq_zero fun k _ => by rw [wgt_zero ha h hM, mul_zero], zero_mul, zero_mul]
  · rw [not_or] at hM
    obtain ⟨μ, hμ⟩ : ∃ μ : ℝ, peak T' = (μ : EReal) := ⟨(peak T').toReal, (EReal.coe_toReal hM.2 hM.1).symm⟩
    obtain ⟨l, hl, hl0⟩ := total_real hμ
    rw [refOut_real hμ V' w hl hl0]
    refine congrArg (· * w) ?_
    have e1 : ∑ k : Fin 8192, V k.val * wgt T (a * (((Real.log 2)⁻¹ : ℝ) : EReal)) k.val = (∑ k, V' k * prob T' k) * ((256 : ℝ) : EReal) := by
      rw [sum_mul_real _ _ (by norm_num)]
      exact Finset.sum_congr rfl fun k _ => by rw [wgt_real ha h hμ, hV, mul_assoc]
    have e2 : ∑ k : Fin 8192, wgt T (a * (((Real.log 2)⁻¹ : ℝ) : EReal)) k.val = ((l * 256 : ℝ) : EReal) := by
      rw [EReal.coe_mul, ← hl, total, sum_mul_real _ _ (by norm_num)]
      exact Finset.sum_congr rfl fun k _ => wgt_real ha h hμ k
    rw [e1, e2, Ideal.div_coe (by positivity), one_mul, mul_assoc, ← EReal.coe_mul]
    refine congrArg (fun r : ℝ => (∑ k, V' k * prob T' k) * (r : EReal)) ?_
    field_simp

end Cert.Proof

end
-- ==== Proof.Scores.lean ====
/- The reference's scores are the kernel's, times the query's scale over the square root of 128. -/
module

public import proofs.«01_k».proof.Proof.KernelIdealBlock
public import proofs.«01_k».proof.Proof.ReferenceIdealValue
public import proofs.«01_k».proof.Proof.RefEquation

@[expose] public section

set_option maxRecDepth 8192

noncomputable section

namespace Cert.Proof

open Idealize.ShloMosaic Idealize.ShloMosaic.TcCoe

/-- A row number as a 32-bit word. -/
theorem word_toInt (k : Fin 8192) : (BitVec.ofNat 32 k.val).toInt = (k.val : ℤ) := by
  have := k.isLt
  rw [BitVec.toInt_eq_toNat_of_lt (by rw [BitVec.toNat_ofNat]; omega), BitVec.toNat_ofNat]
  omega

/-- The reference's mask, as the two conditions it joins. -/
theorem select_mask (x y : BitVec 32) (k q : Fin 8192) (s t : EReal) :
    Scalar.select (IntOp.andi (IntOp.cmpi .eq x y) (IntOp.cmpi .sle (BitVec.ofNat 32 k) (BitVec.ofNat 32 q))) s t
      = if x = y ∧ k ≤ q then s else t := by
  have e1 : IntOp.cmpi .eq x y = BitVec.ofBool (decide (x = y)) := rfl
  have e2 : IntOp.cmpi .sle (BitVec.ofNat 32 k) (BitVec.ofNat 32 q) = BitVec.ofBool (decide (k ≤ q)) := by
    show BitVec.ofBool (BitVec.sle _ _) = _
    congr 1
    rw [Bool.eq_iff_iff, BitVec.sle_iff_toInt_le, decide_eq_true_iff, word_toInt, word_toInt, Fin.le_def]
    exact Int.ofNat_le
  rw [e1, e2]
  by_cases h1 : x = y <;> by_cases h2 : k ≤ q <;> simp only [h1, h2, and_self, and_true, true_and, and_false, false_and, decide_true, decide_false, if_true, if_false] <;> rfl

/-- The query's scale over the square root of 128. -/
theorem div_sqrt (x : EReal) : Ideal.div x (Ideal.sqrt (Ideal.ofBits FTy.f32 1124073472#32)) = x * (((Real.sqrt 128)⁻¹ : ℝ) : EReal) := by
  rw [bits_128, Ideal.sqrt_coe, if_neg (by norm_num), Ideal.div_coe (by positivity), one_div]

theorem rowF_self (k : Fin 8192) : KernelIdeal.rowF k.val = k := Fin.ext (KernelIdeal.rowF_val k.isLt)

/-- One score. -/
theorem masked_mul (start : ℕ → ℤ) (Kb Qb : ℕ → Fin 128 → EReal) (ks : ℕ → EReal) (x y : BitVec 32) (k q : Fin 8192) (a : EReal) (ha : 0 < a)
    (hstart : k ≤ q → (start q.val ≤ (k.val : ℤ) ↔ y = x)) :
    Scalar.select (IntOp.andi (IntOp.cmpi .eq x y) (IntOp.cmpi .sle (BitVec.ofNat 32 k) (BitVec.ofNat 32 q)))
        ((∑ e, Qb q.val e * Kb k.val e) * a * ks k.val) (Ideal.ofBits FTy.f32 4286578688#32)
      = KernelIdeal.masked start Kb Qb ks k.val q.val * a := by
  rw [select_mask, bits_bot]
  unfold KernelIdeal.masked KernelIdeal.score
  by_cases h : k ≤ q
  · by_cases h2 : x = y
    · rw [if_pos ⟨h2, h⟩, if_pos ⟨(hstart h).2 h2.symm, h⟩, mul_right_comm]
      exact congrArg (· * ks k.val * a) (Finset.sum_congr rfl fun e _ => mul_comm _ _)
    · rw [if_neg fun h' => h2 h'.1, if_neg fun h' => h2 ((hstart h).1 h'.1).symm, EReal.bot_mul_of_pos ha]
  · rw [if_neg fun h' => h h'.2, if_neg fun h' => h h'.2, EReal.bot_mul_of_pos ha]

end Cert.Proof

end
-- ==== Proof.Packed.lean ====
/- What the precondition says: every query scale is positive, and the segment ids of a batch do not decrease. -/
module

public import proofs.«01_k».proof.Defs
public import Idealize.ShloMosaic.Lib.Pointwise

@[expose] public section

set_option maxRecDepth 8192

noncomputable section

namespace Cert.Proof.Packed

open Idealize.ShloMosaic Idealize.ShloMosaic.TcCoe

instance facts : Cert.Pre_packed.Facts where
  bcast_S_S4x32x8192 := by decide
  slices_S4x8192_S4x8191_0_1 := by decide
  slices_S4x8192_S4x8191_0_0 := by decide

variable (m : (ℓ : Loc Cert.KernelIdeal.nD Cert.KernelIdeal.τ Cert.KernelIdeal.sig) → Buf (Elt Ideal) ℓ)

theorem scale_pos (h : Cert.Pre_KernelIdeal_packed m) (c : Dev Cert.KernelIdeal.nD) (b : Fin 4) (hd : Fin 32) (q : Fin 8192) :
    (0 : EReal) < m ((c.tc : Thread Cert.KernelIdeal.nD Cert.KernelIdeal.τ).loc Cert.KernelIdeal.main_arg3) (ix3 b hd q) := by
  have e := congrFun (h c).1 (ix3 b hd q)
  unfold Cert.Pre_packed.fn at e
  dsimp only at e
  pointwise at e
  by_contra hn
  rw [decide_eq_false hn] at e
  exact absurd e (by decide)

theorem sorted (h : Cert.Pre_KernelIdeal_packed m) (c : Dev Cert.KernelIdeal.nD) (b : Fin 4) (z : ℕ) (hz : z + 1 < 8192) :
    (m ((c.tc : Thread Cert.KernelIdeal.nD Cert.KernelIdeal.τ).loc Cert.KernelIdeal.main_arg6) (ix2 b ⟨z, by omega⟩) : BitVec 32).toInt
      ≤ (m ((c.tc : Thread Cert.KernelIdeal.nD Cert.KernelIdeal.τ).loc Cert.KernelIdeal.main_arg6) (ix2 b ⟨z + 1, hz⟩) : BitVec 32).toInt := by
  have e := congrFun (h c).2 (ix2 b ⟨z, by omega⟩)
  unfold Cert.Pre_packed.fn at e
  dsimp only at e
  pointwise at e
  have e' : BitVec.ofBool (BitVec.sle (m ((c.tc : Thread Cert.KernelIdeal.nD Cert.KernelIdeal.τ).loc Cert.KernelIdeal.main_arg6) (ix2 b ⟨z, by omega⟩))
      (m ((c.tc : Thread Cert.KernelIdeal.nD Cert.KernelIdeal.τ).loc Cert.KernelIdeal.main_arg6) (ix2 b ⟨1 + z, by omega⟩))) = 1#1 := e
  have h1 : BitVec.sle (m ((c.tc : Thread Cert.KernelIdeal.nD Cert.KernelIdeal.τ).loc Cert.KernelIdeal.main_arg6) (ix2 b ⟨z, by omega⟩))
      (m ((c.tc : Thread Cert.KernelIdeal.nD Cert.KernelIdeal.τ).loc Cert.KernelIdeal.main_arg6) (ix2 b ⟨1 + z, by omega⟩)) = true := by
    by_contra hn
    rw [Bool.eq_false_iff.2 hn] at e'
    exact absurd e' (by decide)
  have h2 := BitVec.sle_iff_toInt_le.1 h1
  have h3 : (⟨1 + z, by omega⟩ : Fin 8192) = ⟨z + 1, hz⟩ := Fin.ext (Nat.add_comm 1 z)
  rw [h3] at h2
  exact h2

end Cert.Proof.Packed

end
-- ==== Proof.Agree.lean ====
/- Under the precondition, and from equal arguments, the kernel's result array is the reference's. -/
module

public import proofs.«01_k».proof.Proof.KernelIdealExact
public import proofs.«01_k».proof.Proof.Scores
public import proofs.«01_k».proof.Proof.Packed

@[expose] public section

set_option maxRecDepth 8192

noncomputable section

namespace Cert.Proof

open Idealize.ShloMosaic Idealize.ShloMosaic.TcCoe

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs' arguments are the same. -/
def Same : Prop := ∀ c : Dev Cert.KernelIdeal.nD,
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

variable (hp : Cert.Pre_KernelIdeal_packed m) (hs : Same m m') (c : Dev Cert.KernelIdeal.nD)

include hp

theorem query_pos (b : Fin 4) (h : Fin 32) (q : Fin 8192) :
    (0 : EReal) < KernelIdeal.qScale m c b h q * (((Real.sqrt 128)⁻¹ : ℝ) : EReal) :=
  EReal.mul_pos (Packed.scale_pos m hp c b h q) (EReal.coe_pos.2 (by positivity))

include hs

theorem score_mul (b : Fin 4) (h : Fin 32) (q k : Fin 8192) :
    ReferenceIdeal.score m' c b h q k
      = KernelIdeal.masked (fun z => (KernelIdeal.startAt m c (ix2 b (KernelIdeal.rowF z))).toInt)
          (fun z e => m ((c : Thread Cert.KernelIdeal.nD Cert.KernelIdeal.τ).loc Cert.KernelIdeal.main_arg1) (ix4 b h (KernelIdeal.rowF z) e))
          (fun z e => m ((c : Thread Cert.KernelIdeal.nD Cert.KernelIdeal.τ).loc Cert.KernelIdeal.main_arg0) (ix4 b h (KernelIdeal.rowF z) e))
          (fun z => m ((c : Thread Cert.KernelIdeal.nD Cert.KernelIdeal.τ).loc Cert.KernelIdeal.main_arg4) (ix3 b h (KernelIdeal.rowF z))) k.val q.val
        * (KernelIdeal.qScale m c b h q * (((Real.sqrt 128)⁻¹ : ℝ) : EReal)) := by
  obtain ⟨h0, h1, -, h3, h4, -, h6⟩ := hs c
  have hst : k ≤ q → ((KernelIdeal.startAt m c (ix2 b (KernelIdeal.rowF q.val))).toInt ≤ (k.val : ℤ)
      ↔ (m ((c : Thread Cert.KernelIdeal.nD Cert.KernelIdeal.τ).loc Cert.KernelIdeal.main_arg6) (ix2 b k) : BitVec 32)
        = m ((c : Thread Cert.KernelIdeal.nD Cert.KernelIdeal.τ).loc Cert.KernelIdeal.main_arg6) (ix2 b q)) := fun hk => by
    rw [rowF_self]
    exact KernelIdeal.start_iff m c b (fun z hz => Packed.sorted m hp c b z hz) k q hk
  refine Eq.trans ?_ (masked_mul (fun z => (KernelIdeal.startAt m c (ix2 b (KernelIdeal.rowF z))).toInt)
    (fun z e => m ((c : Thread Cert.KernelIdeal.nD Cert.KernelIdeal.τ).loc Cert.KernelIdeal.main_arg1) (ix4 b h (KernelIdeal.rowF z) e))
    (fun z e => m ((c : Thread Cert.KernelIdeal.nD Cert.KernelIdeal.τ).loc Cert.KernelIdeal.main_arg0) (ix4 b h (KernelIdeal.rowF z) e))
    (fun z => m ((c : Thread Cert.KernelIdeal.nD Cert.KernelIdeal.τ).loc Cert.KernelIdeal.main_arg4) (ix3 b h (KernelIdeal.rowF z)))
    (m ((c : Thread Cert.KernelIdeal.nD Cert.KernelIdeal.τ).loc Cert.KernelIdeal.main_arg6) (ix2 b q))
    (m ((c : Thread Cert.KernelIdeal.nD Cert.KernelIdeal.τ).loc Cert.KernelIdeal.main_arg6) (ix2 b k))
    k q (KernelIdeal.qScale m c b h q * (((Real.sqrt 128)⁻¹ : ℝ) : EReal)) (query_pos m hp c b h q) hst)
  unfold ReferenceIdeal.score
  rw [div_sqrt, h0, h1, h3, h4, h6]
  simp only [rowF_self]

/-- One element of the result. -/
theorem element_eq (b : Fin 4) (q : Fin 8192) (e : Fin 4096) : KernelIdeal.resArr m c (ix3 b q e) = ReferenceIdeal.refArr m' c b q e := by
  obtain ⟨-, -, h2, -, -, h5, -⟩ := hs c
  show KernelIdeal.outAt m c b ⟨e.val / 128, by omega⟩ q.val ⟨e.val % 128, by omega⟩ = _
  unfold KernelIdeal.outAt ReferenceIdeal.refArr
  rw [h5, rowF_self, EReal.coe_mul, ← mul_assoc]
  refine attend_eq_refOut _ (query_pos m hp c b _ q) (fun k => score_mul m m' hp hs c b _ q k) fun k => ?_
  rw [h2, rowF_self]

theorem result_eq (f : Buf (Elt Ideal) ((c.tc : Thread Cert.ReferenceIdeal.nD Cert.ReferenceIdeal.τ).loc Cert.ReferenceIdeal.main_v68))
    (hf : ∀ (b : Fin 4) (q : Fin 8192) (e : Fin 4096), f (ix3 b q e) = ReferenceIdeal.refArr m' c b q e) : f = KernelIdeal.resArr m c := by
  funext i
  have hi : i = ix3 (i 0) (i 1) (i 2) := funext fun a => by fin_cases a <;> rfl
  rw [hi]
  exact (hf (i 0) (i 1) (i 2)).trans (element_eq m m' hp hs c (i 0) (i 1) (i 2)).symm

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelRun
public import proofs.«01_k».proof.Proof.KernelTables
public import proofs.«01_k».proof.Proof.KernelIdealRun
public import proofs.«01_k».proof.Proof.KernelIdealTables
public import proofs.«01_k».proof.Proof.Agree
public import Idealize.ShloMosaic.Adequacy
public import Idealize.ShloMosaic.Init

@[expose] public section

noncomputable section

open Idealize.ShloMosaic Idealize.SL.Sem

namespace Cert.Proof

theorem frame_p : Cert.quiescent_Kernel := fun m ρ _ => Cert.Proof.Kernel.frame m ρ (Cert.Proof.Kernel.ok m) (Cert.Proof.Kernel.tables_ok m)

theorem frame_pi : Cert.quiescent_KernelIdeal := fun m ρ _ => Cert.Proof.KernelIdeal.frame m ρ (Cert.Proof.KernelIdeal.ok m) (Cert.Proof.KernelIdeal.tables_ok m)

theorem frame_pi_packed : Cert.quiescent_KernelIdeal_pre_packed :=
  fun m ρ _ => Cert.Proof.KernelIdeal.frame m ρ (Cert.Proof.KernelIdeal.ok m) (Cert.Proof.KernelIdeal.tables_ok m)

theorem frame_ri : Cert.quiescent_ReferenceIdeal := fun m ρ _ => Cert.ReferenceIdeal.Gen.frame m ρ

theorem frame_ri_packed : Cert.quiescent_ReferenceIdeal_pre_packed := fun m ρ _ => Cert.ReferenceIdeal.Gen.frame m ρ

theorem preserves : Cert.preserves_Kernel_KernelIdeal :=
  IdealRules.named_const.statement Cert.KernelIdeal.κ "log2e_inv_sqrt_d" .f32 0x3E0293EE#32 (((Real.sqrt 128)⁻¹ * (Real.log 2)⁻¹ : ℝ) : EReal) rfl

/-- Every query's scale is positive, at any index. -/
theorem scales_pos (m : (ℓ : Loc Cert.KernelIdeal.nD Cert.KernelIdeal.τ Cert.KernelIdeal.sig) → Buf (Elt Ideal) ℓ) (hp : Cert.Pre_KernelIdeal_packed m)
    (i) : (0 : EReal) < m (((0 : Dev Cert.KernelIdeal.nD).tc : Thread Cert.KernelIdeal.nD Cert.KernelIdeal.τ).loc Cert.KernelIdeal.main_arg3) i := by
  have hi : i = ix3 (i 0) (i 1) (i 2) := funext fun a => by fin_cases a <;> rfl
  rw [hi]
  exact Packed.scale_pos m hp 0 (i 0) (i 1) (i 2)

theorem algebraic : Cert.algebraic_KernelIdeal_ReferenceIdeal_pre_packed := fun m g m' g' hp hs =>
  ⟨fun c => Cert.Proof.KernelIdeal.resArr m c, Cert.Proof.KernelIdeal.run m g (scales_pos m hp),
    (θ_run Cert.ReferenceIdeal.defs _ _).mono (fun _ h c => ⟨result_eq m m' hp hs c _ (h c).1, (h c).2⟩) (Cert.Proof.ReferenceIdeal.run m' g')⟩

theorem claim : Cert.Claim :=
  ⟨Cert.Kernel.Gen.facts, Cert.KernelIdeal.Gen.facts, Cert.ReferenceIdeal.Gen.facts, Cert.Proof.Packed.facts, frame_p, frame_pi, frame_pi_packed, frame_ri,
    frame_ri_packed, preserves, algebraic⟩

end Cert.Proof

end
